-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_u [hPre_finite_u : Cert.Pre_finite_u.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_u.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_u [hPre_finite_u : Cert.Pre_finite_u.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_u.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Kernel2Ideal_pre_finite_u [hKernel2Ideal : Cert.Kernel2Ideal.Facts] [hPre_finite_u : Cert.Pre_finite_u.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_u m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def quiescent_Reference2Ideal_pre_finite_u [hReference2Ideal : Cert.Reference2Ideal.Facts] [hPre_finite_u : Cert.Pre_finite_u.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_u m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17))
      ∧ r.2.sem = fun _ => 0)

def preserves_Kernel_KernelIdeal : Prop :=
  IdealRules.named_const.Statement Cert.KernelIdeal.κ "log2e" .f32 0xBFB8AA3B#32 ((-((Real.log 2)⁻¹) : ℝ) : EReal)
  ∧ IdealRules.named_const.Statement Cert.KernelIdeal.κ "exit" .f32 0xC2D00000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_u [hKernel2Ideal : Cert.Kernel2Ideal.Facts] [hReference2Ideal : Cert.Reference2Ideal.Facts] [hPre_finite_u : Cert.Pre_finite_u.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_u m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)) →
    ∃ (v0 : (c : Dev Cert.Kernel2Ideal.nD) → Buf (Elt Ideal) ((c.tc : Thread Cert.Kernel2Ideal.nD Cert.Kernel2Ideal.τ).loc Cert.Kernel2Ideal.main_v28)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v162) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite_u : Cert.Pre_finite_u.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_u (hKernel2Ideal := hKernel2Ideal) (hPre_finite_u := hPre_finite_u)
    ∧ quiescent_Reference2Ideal (hReference2Ideal := hReference2Ideal)
    ∧ quiescent_Reference2Ideal_pre_finite_u (hReference2Ideal := hReference2Ideal) (hPre_finite_u := hPre_finite_u)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_u (hKernel2Ideal := hKernel2Ideal) (hReference2Ideal := hReference2Ideal) (hPre_finite_u := hPre_finite_u)
-- ==== Pre_finite.lean ====
abbrev S4x8192x1024 : Shape := ⟨3, ![4, 8192, 1024]⟩
abbrev S1x1024 : Shape := ⟨2, ![1, 1024]⟩
abbrev S1x1024x4096 : Shape := ⟨3, ![1, 1024, 4096]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x4096 : S_.BroadcastsInDim S1x1024x4096 (![] : Fin 0 → Fin S1x1024x4096.rank)
  reducesTo_S1x1024x4096_S_d0_1_2 : S1x1024x4096.ReducesTo [0, 1, 2] S_

variable [Facts]

def fn {F : FTy → Type} [FloatOps F] (main_arg0 : FVec F S4x8192x1024 .f32) (main_arg1 : FVec F S1x1024 .f32) (main_arg2 : FVec F S1x1024x4096 .f32) : IVec S_ 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S1x1024x4096 .f32 := Host.absf main_arg2
  let main_cst_0 : FVec F S_ .f32 := constant S_ .f32 0x7F800000#32
  let main_v5 : FVec F S1x1024x4096 .f32 := broadcastInDim S1x1024x4096 ![] bcast_S_S1x1024x4096 main_cst_0
  let main_v6 : IVec S1x1024x4096 1 := cmpf .olt main_v4 main_v5
  let main_c_1 : IVec S_ 1 := constantI S_ 1 1#1
  let main_v7 : IVec S_ 1 := (fun x v => Host.reduce IntOp.andi x v reducesTo_S1x1024x4096_S_d0_1_2 h_S_) main_v6 main_c_1
  let main_v8 : IVec S_ 1 := andi main_v3 main_v7
  main_v8
-- ==== Pre_finite_u.lean ====
abbrev S32768x512 : Shape := ⟨2, ![32768, 512]⟩
abbrev S32768x2048 : Shape := ⟨2, ![32768, 2048]⟩
abbrev S4x8192x1024 : Shape := ⟨3, ![4, 8192, 1024]⟩
abbrev S1x4x8192x256 : Shape := ⟨4, ![1, 4, 8192, 256]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x512 .f32) (main_arg1 : FVec F S32768x512 .bf16) (main_arg2 : FVec F S32768x2048 .f32) (main_arg3 : FVec F S4x8192x1024 .f32) (main_arg4 : FVec F S1x4x8192x256 .f32) (main_arg5 : FVec F S1x4x128x128 .f32) (main_arg6 : FVec F S1x512 .f32) (main_arg7 : FVec F S1x512x1024 .f32) (main_arg8 : FVec F S1x512x1024 .f32) (main_arg9 : FVec F S1x1024x1024 .f32) (main_arg10 : FVec F S1x1024 .f32) (main_arg11 : FVec F S1x1024x2816 .f32) (main_arg12 : FVec F S1x1024x2816 .f32) (main_arg13 : FVec F S1x2816x1024 .f32) (main_arg14 : FVec F S1x1024 .f32) (main_arg15 : FVec F S1x1024x1024 .f32) (main_arg16 : FVec F S1x256x1024 .f32) (main_arg17 : FVec F S1024 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  main_v3
-- ==== Kernel.lean ====
abbrev S4x8192x1024 : Shape := ⟨3, ![4, 8192, 1024]⟩
abbrev S1x1024 : Shape := ⟨2, ![1, 1024]⟩
abbrev S1x1024x4096 : Shape := ⟨3, ![1, 1024, 4096]⟩
abbrev S32768x1024 : Shape := ⟨2, ![32768, 1024]⟩
abbrev S1024 : Shape := ⟨1, ![1024]⟩
abbrev S1024x4096 : Shape := ⟨2, ![1024, 4096]⟩
abbrev S256x256 : Shape := ⟨2, ![256, 256]⟩
abbrev S32768x512 : Shape := ⟨2, ![32768, 512]⟩
abbrev S32768x2048 : Shape := ⟨2, ![32768, 2048]⟩
abbrev S256x1024 : Shape := ⟨2, ![256, 1024]⟩
abbrev S256x512 : Shape := ⟨2, ![256, 512]⟩
abbrev S256x2048 : Shape := ⟨2, ![256, 2048]⟩
abbrev S8192x512 : Shape := ⟨2, ![8192, 512]⟩
abbrev S2x256x512 : Shape := ⟨3, ![2, 256, 512]⟩
abbrev S4x512x128 : Shape := ⟨3, ![4, 512, 128]⟩
abbrev S4x512x1 : Shape := ⟨3, ![4, 512, 1]⟩
abbrev S1x256x512 : Shape := ⟨3, ![1, 256, 512]⟩
abbrev S256 : Shape := ⟨1, ![256]⟩
abbrev S256x1 : Shape := ⟨2, ![256, 1]⟩
abbrev S256x128 : Shape := ⟨2, ![256, 128]⟩
abbrev S512x128 : Shape := ⟨2, ![512, 128]⟩
abbrev S512x256 : Shape := ⟨2, ![512, 256]⟩
abbrev S1024x256 : Shape := ⟨2, ![1024, 256]⟩
abbrev S512 : Shape := ⟨1, ![512]⟩
abbrev S512x1 : Shape := ⟨2, ![512, 1]⟩
abbrev S1x256x256 : Shape := ⟨3, ![1, 256, 256]⟩
abbrev S1x512x128 : Shape := ⟨3, ![1, 512, 128]⟩
abbrev S1x512x1 : Shape := ⟨3, ![1, 512, 1]⟩
abbrev S1x4x512x1 : Shape := ⟨4, ![1, 4, 512, 1]⟩
abbrev S1 : Shape := ⟨1, ![1]⟩
abbrev S1x1x1x1 : Shape := ⟨4, ![1, 1, 1, 1]⟩

abbrev nBuf : Space → Nat
  | .hbm => 15
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4096, .f32⟩
  | .hbm, ⟨3, _⟩ => ⟨S32768x1024, .f32⟩
  | .hbm, ⟨4, _⟩ => ⟨S1024, .f32⟩
  | .hbm, ⟨5, _⟩ => ⟨S1x1024, .f32⟩
  | .hbm, ⟨6, _⟩ => ⟨S1024x4096, .f32⟩
  | .hbm, ⟨7, _⟩ => ⟨S1024x4096, .bf16⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S256x256, .bf16⟩
  | .hbm, ⟨12, _⟩ => ⟨S32768x512, .f32⟩
  | .hbm, ⟨13, _⟩ => ⟨S32768x2048, .f32⟩
  | .hbm, ⟨14, _⟩ => ⟨S32768x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S256x256, .bf16⟩
  | .local _ .vmem, ⟨5, _⟩ => ⟨S256x512, .f32⟩
  | .local _ .vmem, ⟨6, _⟩ => ⟨S256x512, .f32⟩
  | .local _ .vmem, ⟨7, _⟩ => ⟨S256x2048, .f32⟩
  | .local _ .vmem, ⟨8, _⟩ => ⟨S256x2048, .f32⟩
  | .local _ .vmem, ⟨9, _⟩ => ⟨S256x512, .bf16⟩
  | .local _ .vmem, ⟨10, _⟩ => ⟨S256x512, .bf16⟩
  | .local _ .vmem, ⟨11, _⟩ => ⟨S8192x512, .bf16⟩
  | .local _ .vmem, ⟨12, _⟩ => ⟨S8192x512, .bf16⟩
  | .local _ .vmem, ⟨13, _⟩ => ⟨S2x256x512, .bf16⟩
  | .local _ .vmem, ⟨14, _⟩ => ⟨S256x512, .bf16⟩
  | .local _ .vmem, ⟨15, _⟩ => ⟨S256x512, .bf16⟩
  | .local _ .vmem, ⟨16, _⟩ => ⟨S4x512x128, .f32⟩
  | .local _ .vmem, ⟨17, _⟩ => ⟨S4x512x1, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let arg0 : BitVec 32 := BitVec.ofNat 32 (i 0).val
  let c1_i32 : BitVec 32 := 1#32
  let v5 : BitVec 32 := Scalar.addi arg0 c1_i32
  let c2_i32 : BitVec 32 := 2#32
  let v6 : BitVec 32 := Scalar.remsi v5 c2_i32
  let v7 : Index := Scalar.indexCast v6
  let c0 : Index := 0#32
  let c0_1 : Index := 0#32
  ![v7.toNat, 0, 0]
def k0_mult1 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c256_i32 : BitVec 32 := 256#32
  let v43 : BitVec 32 := Scalar.muli v4 c256_i32
  v43
def k0_off2 (i : grid0.Coords) : Fin 2 → Nat :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c256_i32 : BitVec 32 := 256#32
  let v43 : BitVec 32 := Scalar.muli v4 c256_i32
  let v44 : BitVec 32 := v43
  let v45 : Index := Scalar.indexCast v44
  let c0_16 : Index := 0#32
  ![v45.toNat, 0]
def k0_mult2 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c256_i32_17 : BitVec 32 := 256#32
  let v47 : BitVec 32 := Scalar.muli v4 c256_i32_17
  v47
def k0_mult3 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c1_i32_12 : BitVec 32 := 1#32
  let v32 : BitVec 32 := Scalar.subi v4 c1_i32_12
  let c0_i32_13 : BitVec 32 := 0#32
  let v33 : BitVec 32 := Scalar.maxsi v32 c0_i32_13
  let c256_i32_37 : BitVec 32 := 256#32
  let v88 : BitVec 32 := Scalar.muli v33 c256_i32_37
  v88
def k0_off3 (i : grid0.Coords) : Fin 2 → Nat :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c1_i32_12 : BitVec 32 := 1#32
  let v32 : BitVec 32 := Scalar.subi v4 c1_i32_12
  let c0_i32_13 : BitVec 32 := 0#32
  let v33 : BitVec 32 := Scalar.maxsi v32 c0_i32_13
  let c256_i32_37 : BitVec 32 := 256#32
  let v88 : BitVec 32 := Scalar.muli v33 c256_i32_37
  let v89 : BitVec 32 := v88
  let v90 : Index := Scalar.indexCast v89
  let c0_38 : Index := 0#32
  ![v90.toNat, 0]
def k0_mult4 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c1_i32_12 : BitVec 32 := 1#32
  let v32 : BitVec 32 := Scalar.subi v4 c1_i32_12
  let c0_i32_13 : BitVec 32 := 0#32
  let v33 : BitVec 32 := Scalar.maxsi v32 c0_i32_13
  let c256_i32_39 : BitVec 32 := 256#32
  let v92 : BitVec 32 := Scalar.muli v33 c256_i32_39
  v92
def k0_off4 (i : grid0.Coords) : Fin 3 → Nat :=
  let arg0 : BitVec 32 := BitVec.ofNat 32 (i 0).val
  let c2_i32_2 : BitVec 32 := 2#32
  let v10 : BitVec 32 := Scalar.remsi arg0 c2_i32_2
  let v113 : Index := Scalar.indexCast v10
  let c0_48 : Index := 0#32
  let c0_49 : Index := 0#32
  ![v113.toNat, 0, 0]
def k0_off5 (i : grid0.Coords) : Fin 3 → Nat :=
  let arg0 : BitVec 32 := BitVec.ofNat 32 (i 0).val
  let c2_i32_2 : BitVec 32 := 2#32
  let v10 : BitVec 32 := Scalar.remsi arg0 c2_i32_2
  let v128 : Index := Scalar.indexCast v10
  let c0_54 : Index := 0#32
  let c256_55 : Index := 256#32
  ![v128.toNat, 0, 256]
def k0_mult5 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c256_i32_69 : BitVec 32 := 256#32
  let v160 : BitVec 32 := Scalar.muli v4 c256_i32_69
  v160
def k0_off6 (i : grid0.Coords) : Fin 2 → Nat :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c256_i32_69 : BitVec 32 := 256#32
  let v160 : BitVec 32 := Scalar.muli v4 c256_i32_69
  let v161 : BitVec 32 := v160
  let v162 : Index := Scalar.indexCast v161
  let c128 : Index := 128#32
  ![v162.toNat, 128]
def k0_mult6 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c256_i32_70 : BitVec 32 := 256#32
  let v164 : BitVec 32 := Scalar.muli v4 c256_i32_70
  v164
def k0_mult7 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c1_i32_12 : BitVec 32 := 1#32
  let v32 : BitVec 32 := Scalar.subi v4 c1_i32_12
  let c0_i32_13 : BitVec 32 := 0#32
  let v33 : BitVec 32 := Scalar.maxsi v32 c0_i32_13
  let c256_i32_90 : BitVec 32 := 256#32
  let v211 : BitVec 32 := Scalar.muli v33 c256_i32_90
  v211
def k0_off7 (i : grid0.Coords) : Fin 2 → Nat :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c1_i32_12 : BitVec 32 := 1#32
  let v32 : BitVec 32 := Scalar.subi v4 c1_i32_12
  let c0_i32_13 : BitVec 32 := 0#32
  let v33 : BitVec 32 := Scalar.maxsi v32 c0_i32_13
  let c256_i32_90 : BitVec 32 := 256#32
  let v211 : BitVec 32 := Scalar.muli v33 c256_i32_90
  let v212 : BitVec 32 := v211
  let v213 : Index := Scalar.indexCast v212
  let c128_91 : Index := 128#32
  ![v213.toNat, 128]
def k0_mult8 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c1_i32_12 : BitVec 32 := 1#32
  let v32 : BitVec 32 := Scalar.subi v4 c1_i32_12
  let c0_i32_13 : BitVec 32 := 0#32
  let v33 : BitVec 32 := Scalar.maxsi v32 c0_i32_13
  let c256_i32_92 : BitVec 32 := 256#32
  let v215 : BitVec 32 := Scalar.muli v33 c256_i32_92
  v215
def k0_mult9 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c256_i32_119 : BitVec 32 := 256#32
  let v277 : BitVec 32 := Scalar.muli v4 c256_i32_119
  v277
def k0_off8 (i : grid0.Coords) : Fin 2 → Nat :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c256_i32_119 : BitVec 32 := 256#32
  let v277 : BitVec 32 := Scalar.muli v4 c256_i32_119
  let v278 : BitVec 32 := v277
  let v279 : Index := Scalar.indexCast v278
  let c256_120 : Index := 256#32
  ![v279.toNat, 256]
def k0_mult10 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c256_i32_121 : BitVec 32 := 256#32
  let v281 : BitVec 32 := Scalar.muli v4 c256_i32_121
  v281
def k0_mult11 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c1_i32_12 : BitVec 32 := 1#32
  let v32 : BitVec 32 := Scalar.subi v4 c1_i32_12
  let c0_i32_13 : BitVec 32 := 0#32
  let v33 : BitVec 32 := Scalar.maxsi v32 c0_i32_13
  let c256_i32_141 : BitVec 32 := 256#32
  let v322 : BitVec 32 := Scalar.muli v33 c256_i32_141
  v322
def k0_off9 (i : grid0.Coords) : Fin 2 → Nat :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c1_i32_12 : BitVec 32 := 1#32
  let v32 : BitVec 32 := Scalar.subi v4 c1_i32_12
  let c0_i32_13 : BitVec 32 := 0#32
  let v33 : BitVec 32 := Scalar.maxsi v32 c0_i32_13
  let c256_i32_141 : BitVec 32 := 256#32
  let v322 : BitVec 32 := Scalar.muli v33 c256_i32_141
  let v323 : BitVec 32 := v322
  let v324 : Index := Scalar.indexCast v323
  let c256_142 : Index := 256#32
  ![v324.toNat, 256]
def k0_mult12 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c1_i32_12 : BitVec 32 := 1#32
  let v32 : BitVec 32 := Scalar.subi v4 c1_i32_12
  let c0_i32_13 : BitVec 32 := 0#32
  let v33 : BitVec 32 := Scalar.maxsi v32 c0_i32_13
  let c256_i32_143 : BitVec 32 := 256#32
  let v326 : BitVec 32 := Scalar.muli v33 c256_i32_143
  v326
def k0_mult13 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c256_i32_170 : BitVec 32 := 256#32
  let v382 : BitVec 32 := Scalar.muli v4 c256_i32_170
  v382
def k0_off10 (i : grid0.Coords) : Fin 2 → Nat :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c256_i32_170 : BitVec 32 := 256#32
  let v382 : BitVec 32 := Scalar.muli v4 c256_i32_170
  let v383 : BitVec 32 := v382
  let v384 : Index := Scalar.indexCast v383
  let c384 : Index := 384#32
  ![v384.toNat, 384]
def k0_mult14 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c256_i32_171 : BitVec 32 := 256#32
  let v386 : BitVec 32 := Scalar.muli v4 c256_i32_171
  v386
def k0_mult15 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c1_i32_12 : BitVec 32 := 1#32
  let v32 : BitVec 32 := Scalar.subi v4 c1_i32_12
  let c0_i32_13 : BitVec 32 := 0#32
  let v33 : BitVec 32 := Scalar.maxsi v32 c0_i32_13
  let c256_i32_191 : BitVec 32 := 256#32
  let v427 : BitVec 32 := Scalar.muli v33 c256_i32_191
  v427
def k0_off11 (i : grid0.Coords) : Fin 2 → Nat :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c1_i32_12 : BitVec 32 := 1#32
  let v32 : BitVec 32 := Scalar.subi v4 c1_i32_12
  let c0_i32_13 : BitVec 32 := 0#32
  let v33 : BitVec 32 := Scalar.maxsi v32 c0_i32_13
  let c256_i32_191 : BitVec 32 := 256#32
  let v427 : BitVec 32 := Scalar.muli v33 c256_i32_191
  let v428 : BitVec 32 := v427
  let v429 : Index := Scalar.indexCast v428
  let c384_192 : Index := 384#32
  ![v429.toNat, 384]
def k0_mult16 (i : grid0.Coords) : BitVec 32 :=
  let arg0 : BitVec 32 := BitVec.ofNat 32 (i 0).val
  let c31_i32 : BitVec 32 := 31#32
  let v3 : BitVec 32 := Scalar.addi arg0 c31_i32
  let c32_i32 : BitVec 32 := 32#32
  let v4 : BitVec 32 := Scalar.remsi v3 c32_i32
  let c1_i32_12 : BitVec 32 := 1#32
  let v32 : BitVec 32 := Scalar.subi v4 c1_i32_12
  let c0_i32_13 : BitVec 32 := 0#32
  let v33 : BitVec 32 := Scalar.maxsi v32 c0_i32_13
  let c256_i32_193 : BitVec 32 := 256#32
  let v431 : BitVec 32 := Scalar.muli v33 c256_i32_193
  v431
def k0_mult17 (arg15 : BitVec 32) : BitVec 32 :=
  let c256_i32_261 : BitVec 32 := 256#32
  let v547 : BitVec 32 := Scalar.muli arg15 c256_i32_261
  v547

def k0_off12 (arg15 : BitVec 32) : Fin 2 → Nat :=
  let c256_i32_261 : BitVec 32 := 256#32
  let v547 : BitVec 32 := Scalar.muli arg15 c256_i32_261
  let v548 : BitVec 32 := v547
  let v549 : Index := Scalar.indexCast v548
  let c0_262 : Index := 0#32
  ![v549.toNat, 0]
def k0_mult18 (arg15 : BitVec 32) : BitVec 32 :=
  let c256_i32_263 : BitVec 32 := 256#32
  let v551 : BitVec 32 := Scalar.muli arg15 c256_i32_263
  v551
def k0_mult19 (arg15 : BitVec 32) : BitVec 32 :=
  let c256_i32_287 : BitVec 32 := 256#32
  let v599 : BitVec 32 := Scalar.muli arg15 c256_i32_287
  v599
def k0_off13 (arg15 : BitVec 32) : Fin 2 → Nat :=
  let c256_i32_287 : BitVec 32 := 256#32
  let v599 : BitVec 32 := Scalar.muli arg15 c256_i32_287
  let v600 : BitVec 32 := v599
  let v601 : Index := Scalar.indexCast v600
  let c128_288 : Index := 128#32
  ![v601.toNat, 128]
def k0_mult20 (arg15 : BitVec 32) : BitVec 32 :=
  let c256_i32_289 : BitVec 32 := 256#32
  let v603 : BitVec 32 := Scalar.muli arg15 c256_i32_289
  v603
def k0_mult21 (arg15 : BitVec 32) : BitVec 32 :=
  let c256_i32_313 : BitVec 32 := 256#32
  let v651 : BitVec 32 := Scalar.muli arg15 c256_i32_313
  v651
def k0_off14 (arg15 : BitVec 32) : Fin 2 → Nat :=
  let c256_i32_313 : BitVec 32 := 256#32
  let v651 : BitVec 32 := Scalar.muli arg15 c256_i32_313
  let v652 : BitVec 32 := v651
  let v653 : Index := Scalar.indexCast v652
  let c256_314 : Index := 256#32
  ![v653.toNat, 256]
def k0_mult22 (arg15 : BitVec 32) : BitVec 32 :=
  let c256_i32_315 : BitVec 32 := 256#32
  let v655 : BitVec 32 := Scalar.muli arg15 c256_i32_315
  v655
def k0_mult23 (arg15 : BitVec 32) : BitVec 32 :=
  let c256_i32_339 : BitVec 32 := 256#32
  let v703 : BitVec 32 := Scalar.muli arg15 c256_i32_339
  v703
def k0_off15 (arg15 : BitVec 32) : Fin 2 → Nat :=
  let c256_i32_339 : BitVec 32 := 256#32
  let v703 : BitVec 32 := Scalar.muli arg15 c256_i32_339
  let v704 : BitVec 32 := v703
  let v705 : Index := Scalar.indexCast v704
  let c384_340 : Index := 384#32
  ![v705.toNat, 384]
def k0_mult24 (arg15 : BitVec 32) : BitVec 32 :=
  let c256_i32_341 : BitVec 32 := 256#32
  let v707 : BitVec 32 := Scalar.muli arg15 c256_i32_341
  v707

def k0_chk1 (arg15 : BitVec 32) : Prop :=
  (256 ∣ (k0_mult17 arg15).toNat) ∧
  (∀ a, (k0_off12 arg15) a + S256x128.size a ≤ S8192x512.size a) ∧
  (256 ∣ (k0_mult18 arg15).toNat) ∧
  (256 ∣ (k0_mult19 arg15).toNat) ∧
  (∀ a, (k0_off13 arg15) a + S256x128.size a ≤ S8192x512.size a) ∧
  (256 ∣ (k0_mult20 arg15).toNat) ∧
  (256 ∣ (k0_mult21 arg15).toNat) ∧
  (∀ a, (k0_off14 arg15) a + S256x128.size a ≤ S8192x512.size a) ∧
  (256 ∣ (k0_mult22 arg15).toNat) ∧
  (256 ∣ (k0_mult23 arg15).toNat) ∧
  (∀ a, (k0_off15 arg15) a + S256x128.size a ≤ S8192x512.size a) ∧
  (256 ∣ (k0_mult24 arg15).toNat)
theorem k0_mult17_dvd : ∀ (arg15 : BitVec 32) (k0_hw1 : k0_chk1 arg15), 256 ∣ (k0_mult17 arg15).toNat := fun arg15 k0_hw1 => k0_hw1.1
theorem k0_off12_inb : ∀ (arg15 : BitVec 32) (k0_hw1 : k0_chk1 arg15), ∀ a, (k0_off12 arg15) a + S256x128.size a ≤ S8192x512.size a := fun arg15 k0_hw1 => k0_hw1.2.1
theorem k0_mult18_dvd : ∀ (arg15 : BitVec 32) (k0_hw1 : k0_chk1 arg15), 256 ∣ (k0_mult18 arg15).toNat := fun arg15 k0_hw1 => k0_hw1.2.2.1
theorem k0_mult19_dvd : ∀ (arg15 : BitVec 32) (k0_hw1 : k0_chk1 arg15), 256 ∣ (k0_mult19 arg15).toNat := fun arg15 k0_hw1 => k0_hw1.2.2.2.1
theorem k0_off13_inb : ∀ (arg15 : BitVec 32) (k0_hw1 : k0_chk1 arg15), ∀ a, (k0_off13 arg15) a + S256x128.size a ≤ S8192x512.size a := fun arg15 k0_hw1 => k0_hw1.2.2.2.2.1
theorem k0_mult20_dvd : ∀ (arg15 : BitVec 32) (k0_hw1 : k0_chk1 arg15), 256 ∣ (k0_mult20 arg15).toNat := fun arg15 k0_hw1 => k0_hw1.2.2.2.2.2.1
theorem k0_mult21_dvd : ∀ (arg15 : BitVec 32) (k0_hw1 : k0_chk1 arg15), 256 ∣ (k0_mult21 arg15).toNat := fun arg15 k0_hw1 => k0_hw1.2.2.2.2.2.2.1
theorem k0_off14_inb : ∀ (arg15 : BitVec 32) (k0_hw1 : k0_chk1 arg15), ∀ a, (k0_off14 arg15) a + S256x128.size a ≤ S8192x512.size a := fun arg15 k0_hw1 => k0_hw1.2.2.2.2.2.2.2.1
theorem k0_mult22_dvd : ∀ (arg15 : BitVec 32) (k0_hw1 : k0_chk1 arg15), 256 ∣ (k0_mult22 arg15).toNat := fun arg15 k0_hw1 => k0_hw1.2.2.2.2.2.2.2.2.1
theorem k0_mult23_dvd : ∀ (arg15 : BitVec 32) (k0_hw1 : k0_chk1 arg15), 256 ∣ (k0_mult23 arg15).toNat := fun arg15 k0_hw1 => k0_hw1.2.2.2.2.2.2.2.2.2.1
theorem k0_off15_inb : ∀ (arg15 : BitVec 32) (k0_hw1 : k0_chk1 arg15), ∀ a, (k0_off15 arg15) a + S256x128.size a ≤ S8192x512.size a := fun arg15 k0_hw1 => k0_hw1.2.2.2.2.2.2.2.2.2.2.1
theorem k0_mult24_dvd : ∀ (arg15 : BitVec 32) (k0_hw1 : k0_chk1 arg15), 256 ∣ (k0_mult24 arg15).toNat := fun arg15 k0_hw1 => k0_hw1.2.2.2.2.2.2.2.2.2.2.2

def k0_mult25 (i : grid0.Coords) : BitVec 32 :=
  let arg0 : BitVec 32 := BitVec.ofNat 32 (i 0).val
  let c32_i32_247 : BitVec 32 := 32#32
  let v523 : BitVec 32 := Scalar.remsi arg0 c32_i32_247
  let c256_i32_248 : BitVec 32 := 256#32
  let v524 : BitVec 32 := Scalar.muli v523 c256_i32_248
  v524
def k0_off16 (i : grid0.Coords) : Fin 2 → Nat :=
  let arg0 : BitVec 32 := BitVec.ofNat 32 (i 0).val
  let c32_i32_247 : BitVec 32 := 32#32
  let v523 : BitVec 32 := Scalar.remsi arg0 c32_i32_247
  let c256_i32_248 : BitVec 32 := 256#32
  let v524 : BitVec 32 := Scalar.muli v523 c256_i32_248
  let v525 : BitVec 32 := v524
  let v527 : Index := Scalar.indexCast v525
  let c0_251 : Index := 0#32
  ![v527.toNat, 0]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "exit" => some ⊥
  | "log2e" => some ((-((Real.log 2)⁻¹) : ℝ) : EReal)
  | _ => none
-- ==== ReferenceIdeal.lean ====
abbrev S4x8192x1024 : Shape := ⟨3, ![4, 8192, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4096 : Shape := ⟨2, ![1024, 4096]⟩
abbrev S4x8192x4096 : Shape := ⟨3, ![4, 8192, 4096]⟩
abbrev S4x8192x512 : Shape := ⟨3, ![4, 8192, 512]⟩
abbrev S4x8192x2048 : Shape := ⟨3, ![4, 8192, 2048]⟩
abbrev S4x8192x8x64 : Shape := ⟨4, ![4, 8192, 8, 64]⟩
abbrev S4x8x8192x64 : Shape := ⟨4, ![4, 8, 8192, 64]⟩
abbrev S4x8x8192x8192 : Shape := ⟨4, ![4, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S32768x512 : Shape := ⟨2, ![32768, 512]⟩
abbrev S32768x2048 : Shape := ⟨2, ![32768, 2048]⟩

abbrev nBuf : Space → Nat
  | .hbm => 99
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4096, .f32⟩
  | .hbm, ⟨3, _⟩ => ⟨S1024, .f32⟩
  | .hbm, ⟨4, _⟩ => ⟨S4x8192x1024, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x1024, .f32⟩
  | .hbm, ⟨16, _⟩ => ⟨S4x8192x1024, .f32⟩
  | .hbm, ⟨17, _⟩ => ⟨S1x1x1024, .f32⟩
  | .hbm, ⟨18, _⟩ => ⟨S4x8192x1024, .f32⟩
  | .hbm, ⟨19, _⟩ => ⟨S4x8192x1024, .f32⟩
  | .hbm, ⟨20, _⟩ => ⟨S1024x4096, .f32⟩
  | .hbm, ⟨21, _⟩ => ⟨S4x8192x4096, .f32⟩
  | .hbm, ⟨22, _⟩ => ⟨S4x8192x512, .f32⟩
  | .hbm, ⟨23, _⟩ => ⟨S4x8192x512, .f32⟩
  | .hbm, ⟨24, _⟩ => ⟨S4x8192x512, .f32⟩
  | .hbm, ⟨25, _⟩ => ⟨S4x8192x512, .f32⟩
  | .hbm, ⟨26, _⟩ => ⟨S4x8192x2048, .f32⟩
  | .hbm, ⟨27, _⟩ => ⟨S4x8192x8x64, .f32⟩
  | .hbm, ⟨28, _⟩ => ⟨S4x8x8192x64, .f32⟩
  | .hbm, ⟨29, _⟩ => ⟨S4x8192x8x64, .f32⟩
  | .hbm, ⟨30, _⟩ => ⟨S4x8x8192x64, .f32⟩
  | .hbm, ⟨31, _⟩ => ⟨S4x8192x8x64, .f32⟩
  | .hbm, ⟨32, _⟩ => ⟨S4x8x8192x64, .f32⟩
  | .hbm, ⟨33, _⟩ => ⟨S4x8x8192x8192, .f32⟩
  | .hbm, ⟨34, _⟩ => ⟨S_, .f32⟩
  | .hbm, ⟨35, _⟩ => ⟨S4x8x8192x8192, .f32⟩
  | .hbm, ⟨36, _⟩ => ⟨S4x8x8192x8192, .f32⟩
  | .hbm, ⟨37, _⟩ => ⟨S8192, .i32⟩
  | .hbm, ⟨38, _⟩ => ⟨S1x8192, .i32⟩
  | .hbm, ⟨39, _⟩ => ⟨S8192x1, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S4x8x8192x8192, .f32⟩
  | .hbm, ⟨44, _⟩ => ⟨S4x8x8192x8192, .f32⟩
  | .hbm, ⟨45, _⟩ => ⟨S_, .f32⟩
  | .hbm, ⟨46, _⟩ => ⟨S4x8x8192x8192, .f32⟩
  | .hbm, ⟨47, _⟩ => ⟨S4x8x8192x8192, .f32⟩
  | .hbm, ⟨48, _⟩ => ⟨S4x8x8192x8192, .f32⟩
  | .hbm, ⟨49, _⟩ => ⟨S4x8x8192x8192, .f32⟩
  | .hbm, ⟨50, _⟩ => ⟨S4x8x8192x8192, .i1⟩
  | .hbm, ⟨51, _⟩ => ⟨S4x8x8192x8192, .f32⟩
  | .hbm, ⟨52, _⟩ => ⟨S4x8x8192x8192, .f32⟩
  | .hbm, ⟨53, _⟩ => ⟨S4x8x8192x8192, .f32⟩
  | .hbm, ⟨54, _⟩ => ⟨S4x8x8192x8192, .f32⟩
  | .hbm, ⟨55, _⟩ => ⟨S4x8x8192x8192, .f32⟩
  | .hbm, ⟨56, _⟩ => ⟨S4x8x8192x8192, .f32⟩
  | .hbm, ⟨57, _⟩ => ⟨S4x8x8192x8192, .f32⟩
  | .hbm, ⟨58, _⟩ => ⟨S4x8x8192x8192, .f32⟩
  | .hbm, ⟨59, _⟩ => ⟨S4x8x8192x8192, .f32⟩
  | .hbm, ⟨60, _⟩ => ⟨S_, .f32⟩
  | .hbm, ⟨61, _⟩ => ⟨S_, .f32⟩
  | .hbm, ⟨62, _⟩ => ⟨S4x8x8192x8192, .i1⟩
  | .hbm, ⟨63, _⟩ => ⟨S4x8x8192x8192, .f32⟩
  | .hbm, ⟨64, _⟩ => ⟨S4x8x8192x8192, .f32⟩
  | .hbm, ⟨65, _⟩ => ⟨S_, .f32⟩
  | .hbm, ⟨66, _⟩ => ⟨S_, .f32⟩
  | .hbm, ⟨67, _⟩ => ⟨S4x8x8192x8192, .f32⟩
  | .hbm, ⟨68, _⟩ => ⟨S4x8x8192x8192, .f32⟩
  | .hbm, ⟨69, _⟩ => ⟨S4x8x8192x8192, .f32⟩
  | .hbm, ⟨70, _⟩ => ⟨S_, .f32⟩
  | .hbm, ⟨71, _⟩ => ⟨S4x8x8192x8192, .f32⟩
  | .hbm, ⟨72, _⟩ => ⟨S4x8x8192x8192, .f32⟩
  | .hbm, ⟨73, _⟩ => ⟨S4x8x8192x8192, .f32⟩
  | .hbm, ⟨74, _⟩ => ⟨S4x8x8192x8192, .f32⟩
  | .hbm, ⟨75, _⟩ => ⟨S4x8x8192x8192, .i1⟩
  | .hbm, ⟨76, _⟩ => ⟨S4x8x8192x8192, .f32⟩
  | .hbm, ⟨77, _⟩ => ⟨S4x8x8192x8192, .f32⟩
  | .hbm, ⟨78, _⟩ => ⟨S4x8x8192x8192, .f32⟩
  | .hbm, ⟨79, _⟩ => ⟨S4x8x8192x8192, .f32⟩
  | .hbm, ⟨80, _⟩ => ⟨S4x8x8192x8192, .f32⟩
  | .hbm, ⟨81, _⟩ => ⟨S4x8x8192x8192, .f32⟩
  | .hbm, ⟨82, _⟩ => ⟨S4x8x8192x8192, .f32⟩
  | .hbm, ⟨83, _⟩ => ⟨S4x8x8192x8192, .f32⟩
  | .hbm, ⟨84, _⟩ => ⟨S4x8x8192x8192, .f32⟩
  | .hbm, ⟨85, _⟩ => ⟨S4x8x8192x8192, .f32⟩
  | .hbm, ⟨86, _⟩ => ⟨S4x8x8192x8192, .f32⟩
  | .hbm, ⟨87, _⟩ => ⟨S_, .f32⟩
  | .hbm, ⟨88, _⟩ => ⟨S_, .f32⟩
  | .hbm, ⟨89, _⟩ => ⟨S4x8x8192x8192, .i1⟩
  | .hbm, ⟨90, _⟩ => ⟨S4x8x8192x8192, .f32⟩
  | .hbm, ⟨91, _⟩ => ⟨S4x8x8192x8192, .f32⟩
  | .hbm, ⟨92, _⟩ => ⟨S4x8x8192x64, .f32⟩
  | .hbm, ⟨93, _⟩ => ⟨S4x8192x8x64, .f32⟩
  | .hbm, ⟨94, _⟩ => ⟨S4x8192x512, .f32⟩
  | .hbm, ⟨95, _⟩ => ⟨S32768x512, .f32⟩
  | .hbm, ⟨96, _⟩ => ⟨S32768x2048, .f32⟩
  | .hbm, ⟨97, _⟩ => ⟨S32768x512, .f32⟩
  | .hbm, ⟨98, _⟩ => ⟨S32768x512, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_call0_v0 : Ref sig .tc := ⟨.hbm, 44, rfl⟩
abbrev main_call0_call0_cst : Ref sig .tc := ⟨.hbm, 45, rfl⟩
abbrev main_call0_call0_v0 : Ref sig .tc := ⟨.hbm, 46, rfl⟩
abbrev main_call0_call0_v1 : Ref sig .tc := ⟨.hbm, 47, rfl⟩
abbrev main_call0_call0_v2 : Ref sig .tc := ⟨.hbm, 48, rfl⟩
abbrev main_call0_call0_v3 : Ref sig .tc := ⟨.hbm, 49, rfl⟩
abbrev main_call0_call0_v4 : Ref sig .tc := ⟨.hbm, 50, rfl⟩
abbrev main_call0_call0_v5 : Ref sig .tc := ⟨.hbm, 51, rfl⟩
abbrev main_call0_call0_v6 : Ref sig .tc := ⟨.hbm, 52, rfl⟩
abbrev main_call0_call0_v7 : Ref sig .tc := ⟨.hbm, 53, rfl⟩
abbrev main_call0_call0_v8 : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_v1 : Ref sig .tc := ⟨.hbm, 58, rfl⟩
abbrev main_v37 : Ref sig .tc := ⟨.hbm, 59, rfl⟩
abbrev main_cst_3 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v38 : Ref sig .tc := ⟨.hbm, 64, rfl⟩
abbrev main_call2_cst : Ref sig .tc := ⟨.hbm, 65, rfl⟩
abbrev main_call2_v0 : Ref sig .tc := ⟨.hbm, 66, rfl⟩
abbrev main_v39 : Ref sig .tc := ⟨.hbm, 67, rfl⟩
abbrev main_v40 : Ref sig .tc := ⟨.hbm, 68, rfl⟩
abbrev main_call3_v0 : Ref sig .tc := ⟨.hbm, 69, rfl⟩
abbrev main_call3_call0_cst : Ref sig .tc := ⟨.hbm, 70, rfl⟩
abbrev main_call3_call0_v0 : Ref sig .tc := ⟨.hbm, 71, rfl⟩
abbrev main_call3_call0_v1 : Ref sig .tc := ⟨.hbm, 72, rfl⟩
abbrev main_call3_call0_v2 : Ref sig .tc := ⟨.hbm, 73, rfl⟩
abbrev main_call3_call0_v3 : Ref sig .tc := ⟨.hbm, 74, rfl⟩
abbrev main_call3_call0_v4 : Ref sig .tc := ⟨.hbm, 75, rfl⟩
abbrev main_call3_call0_v5 : Ref sig .tc := ⟨.hbm, 76, rfl⟩
abbrev main_call3_call0_v6 : Ref sig .tc := ⟨.hbm, 77, rfl⟩
abbrev main_call3_call0_v7 : Ref sig .tc := ⟨.hbm, 78, rfl⟩
abbrev main_call3_call0_v8 : Ref sig .tc := ⟨.hbm, 79, rfl⟩
abbrev main_call3_call0_v9 : Ref sig .tc := ⟨.hbm, 80, rfl⟩
abbrev main_call3_call0_v10 : Ref sig .tc := ⟨.hbm, 81, rfl⟩
abbrev main_call3_call0_v11 : Ref sig .tc := ⟨.hbm, 82, rfl⟩
abbrev main_call3_v1 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_4 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩

abbrev nD : Nat := 1
abbrev τ : Topo := Topo.v7x

variable {F : FTy → Type} [FloatOps F]
-- ==== Kernel2.lean ====
abbrev S32768x512 : Shape := ⟨2, ![32768, 512]⟩
abbrev S32768x2048 : Shape := ⟨2, ![32768, 2048]⟩
abbrev S4x8192x1024 : Shape := ⟨3, ![4, 8192, 1024]⟩
abbrev S1x4x8192x256 : Shape := ⟨4, ![1, 4, 8192, 256]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S32768x1024 : Shape := ⟨2, ![32768, 1024]⟩
abbrev S4x8192x256 : Shape := ⟨3, ![4, 8192, 256]⟩
abbrev S32768x256 : Shape := ⟨2, ![32768, 256]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S512x512 : Shape := ⟨2, ![512, 512]⟩
abbrev S16x512 : Shape := ⟨2, ![16, 512]⟩
abbrev S512x2048 : Shape := ⟨2, ![512, 2048]⟩
abbrev S512x256 : Shape := ⟨2, ![512, 256]⟩
abbrev S536x512 : Shape := ⟨2, ![536, 512]⟩
abbrev S2x536x128 : Shape := ⟨3, ![2, 536, 128]⟩
abbrev S8x512 : Shape := ⟨2, ![8, 512]⟩
abbrev S2x8x128 : Shape := ⟨3, ![2, 8, 128]⟩
abbrev S512x1 : Shape := ⟨2, ![512, 1]⟩
abbrev S528x128 : Shape := ⟨2, ![528, 128]⟩
abbrev S512x128 : Shape := ⟨2, ![512, 128]⟩
abbrev S1x528x128 : Shape := ⟨3, ![1, 528, 128]⟩
abbrev S256x128 : Shape := ⟨2, ![256, 128]⟩
abbrev S1x128x128 : Shape := ⟨3, ![1, 128, 128]⟩
abbrev S128x128 : Shape := ⟨2, ![128, 128]⟩
abbrev S256x512 : Shape := ⟨2, ![256, 512]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1536x1024 : Shape := ⟨2, ![1536, 1024]⟩
abbrev S1024x1280 : Shape := ⟨2, ![1024, 1280]⟩
abbrev S256x1280 : Shape := ⟨2, ![256, 1280]⟩
abbrev S1280x1024 : Shape := ⟨2, ![1280, 1024]⟩
abbrev S256x256 : Shape := ⟨2, ![256, 256]⟩

abbrev nBuf : Space → Nat
  | .hbm => 47
  | .vmem => 29
  | .smem => 0
  | _ => 0

abbrev bufTy : (tb : Table) → Fin (tcTables nBuf tb) → BufTy
  | .hbm, ⟨0, _⟩ => ⟨S32768x512, .f32⟩
  | .hbm, ⟨1, _⟩ => ⟨S32768x512, .bf16⟩
  | .hbm, ⟨2, _⟩ => ⟨S32768x2048, .f32⟩
  | .hbm, ⟨3, _⟩ => ⟨S4x8192x1024, .f32⟩
  | .hbm, ⟨4, _⟩ => ⟨S1x4x8192x256, .f32⟩
  | .hbm, ⟨5, _⟩ => ⟨S1x4x128x128, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024, .f32⟩
  | .hbm, ⟨11, _⟩ => ⟨S1x1024x2816, .f32⟩
  | .hbm, ⟨12, _⟩ => ⟨S1x1024x2816, .f32⟩
  | .hbm, ⟨13, _⟩ => ⟨S1x2816x1024, .f32⟩
  | .hbm, ⟨14, _⟩ => ⟨S1x1024, .f32⟩
  | .hbm, ⟨15, _⟩ => ⟨S1x1024x1024, .f32⟩
  | .hbm, ⟨16, _⟩ => ⟨S1x256x1024, .f32⟩
  | .hbm, ⟨17, _⟩ => ⟨S1024, .f32⟩
  | .hbm, ⟨18, _⟩ => ⟨S32768x1024, .f32⟩
  | .hbm, ⟨19, _⟩ => ⟨S4x8192x256, .f32⟩
  | .hbm, ⟨20, _⟩ => ⟨S32768x256, .f32⟩
  | .hbm, ⟨21, _⟩ => ⟨S4x128x128, .f32⟩
  | .hbm, ⟨22, _⟩ => ⟨S4x128x128, .bf16⟩
  | .hbm, ⟨23, _⟩ => ⟨S512, .f32⟩
  | .hbm, ⟨24, _⟩ => ⟨S1x512, .f32⟩
  | .hbm, ⟨25, _⟩ => ⟨S512x1024, .f32⟩
  | .hbm, ⟨26, _⟩ => ⟨S512x1024, .bf16⟩
  | .hbm, ⟨27, _⟩ => ⟨S512x1024, .f32⟩
  | .hbm, ⟨28, _⟩ => ⟨S512x1024, .bf16⟩
  | .hbm, ⟨29, _⟩ => ⟨S1024x1024, .f32⟩
  | .hbm, ⟨30, _⟩ => ⟨S1024x1024, .bf16⟩
  | .hbm, ⟨31, _⟩ => ⟨S1024, .f32⟩
  | .hbm, ⟨32, _⟩ => ⟨S1x1024, .f32⟩
  | .hbm, ⟨33, _⟩ => ⟨S1024x2816, .f32⟩
  | .hbm, ⟨34, _⟩ => ⟨S1024x2816, .bf16⟩
  | .hbm, ⟨35, _⟩ => ⟨S1024x2816, .f32⟩
  | .hbm, ⟨36, _⟩ => ⟨S1024x2816, .bf16⟩
  | .hbm, ⟨37, _⟩ => ⟨S2816x1024, .f32⟩
  | .hbm, ⟨38, _⟩ => ⟨S2816x1024, .bf16⟩
  | .hbm, ⟨39, _⟩ => ⟨S1024, .f32⟩
  | .hbm, ⟨40, _⟩ => ⟨S1x1024, .f32⟩
  | .hbm, ⟨41, _⟩ => ⟨S1024x1024, .f32⟩
  | .hbm, ⟨42, _⟩ => ⟨S1024x1024, .bf16⟩
  | .hbm, ⟨43, _⟩ => ⟨S256x1024, .f32⟩
  | .hbm, ⟨44, _⟩ => ⟨S256x1024, .bf16⟩
  | .hbm, ⟨45, _⟩ => ⟨S1x1024, .f32⟩
  | .hbm, ⟨46, _⟩ => ⟨S32768x1024, .f32⟩
  | .local _ .vmem, ⟨0, _⟩ => ⟨S512x512, .f32⟩
  | .local _ .vmem, ⟨1, _⟩ => ⟨S512x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S512x512, .bf16⟩
  | .local _ .vmem, ⟨6, _⟩ => ⟨S512x2048, .f32⟩
  | .local _ .vmem, ⟨7, _⟩ => ⟨S512x2048, .f32⟩
  | .local _ .vmem, ⟨8, _⟩ => ⟨S512x1024, .f32⟩
  | .local _ .vmem, ⟨9, _⟩ => ⟨S512x1024, .f32⟩
  | .local _ .vmem, ⟨10, _⟩ => ⟨S512x256, .f32⟩
  | .local _ .vmem, ⟨11, _⟩ => ⟨S512x256, .f32⟩
  | .local _ .vmem, ⟨12, _⟩ => ⟨S4x128x128, .bf16⟩
  | .local _ .vmem, ⟨13, _⟩ => ⟨S1x512, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S1024x2816, .bf16⟩
  | .local _ .vmem, ⟨19, _⟩ => ⟨S1024x2816, .bf16⟩
  | .local _ .vmem, ⟨20, _⟩ => ⟨S2816x1024, .bf16⟩
  | .local _ .vmem, ⟨21, _⟩ => ⟨S1x1024, .f32⟩
  | .local _ .vmem, ⟨22, _⟩ => ⟨S1024x1024, .bf16⟩
  | .local _ .vmem, ⟨23, _⟩ => ⟨S256x1024, .bf16⟩
  | .local _ .vmem, ⟨24, _⟩ => ⟨S1x1024, .f32⟩
  | .local _ .vmem, ⟨25, _⟩ => ⟨S512x1024, .f32⟩
  | .local _ .vmem, ⟨26, _⟩ => ⟨S512x1024, .f32⟩
  | .local _ .vmem, ⟨27, _⟩ => ⟨S536x512, .f32⟩
  | .local _ .vmem, ⟨28, _⟩ => ⟨S2x536x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference2Ideal.lean ====
abbrev S32768x512 : Shape := ⟨2, ![32768, 512]⟩
abbrev S32768x2048 : Shape := ⟨2, ![32768, 2048]⟩
abbrev S4x8192x1024 : Shape := ⟨3, ![4, 8192, 1024]⟩
abbrev S1x4x8192x256 : Shape := ⟨4, ![1, 4, 8192, 256]⟩
abbrev S1x4x128x128 : Shape := ⟨4, ![1, 4, 128, 128]⟩
abbrev S1x512 : Shape := ⟨2, ![1, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1024 : Shape := ⟨1, ![1024]⟩
abbrev S4x8192x512 : Shape := ⟨3, ![4, 8192, 512]⟩
abbrev S4x128x128 : Shape := ⟨3, ![4, 128, 128]⟩
abbrev S512 : Shape := ⟨1, ![512]⟩
abbrev S_ : Shape := ⟨0, ![]⟩
abbrev S8192 : Shape := ⟨1, ![8192]⟩
abbrev S4x8192x128 : Shape := ⟨3, ![4, 8192, 128]⟩
abbrev S4x8194x128 : Shape := ⟨3, ![4, 8194, 128]⟩
abbrev S1x8192x1 : Shape := ⟨3, ![1, 8192, 1]⟩
abbrev S4x8196x128 : Shape := ⟨3, ![4, 8196, 128]⟩
abbrev S4x8200x128 : Shape := ⟨3, ![4, 8200, 128]⟩
abbrev S4x8208x128 : Shape := ⟨3, ![4, 8208, 128]⟩
abbrev S4x8192x1x128 : Shape := ⟨4, ![4, 8192, 1, 128]⟩
abbrev S4x8192x4x128 : Shape := ⟨4, ![4, 8192, 4, 128]⟩
abbrev S4x128x4x8192 : Shape := ⟨4, ![4, 128, 4, 8192]⟩
abbrev S1x1x512 : Shape := ⟨3, ![1, 1, 512]⟩
abbrev S4x8192x2048 : Shape := ⟨3, ![4, 8192, 2048]⟩
abbrev S512x1024 : Shape := ⟨2, ![512, 1024]⟩
abbrev S1024x1024 : Shape := ⟨2, ![1024, 1024]⟩
abbrev S4x8192 : Shape := ⟨2, ![4, 8192]⟩
abbrev S4x8192x1 : Shape := ⟨3, ![4, 8192, 1]⟩
abbrev S1x1x1024 : Shape := ⟨3, ![1, 1, 1024]⟩
abbrev S1024x2816 : Shape := ⟨2, ![1024, 2816]⟩
abbrev S4x8192x2816 : Shape := ⟨3, ![4, 8192, 2816]⟩
abbrev S2816x1024 : Shape := ⟨2, ![2816, 1024]⟩
abbrev S4x8192x256 : Shape := ⟨3, ![4, 8192, 256]⟩
abbrev S256x1024 : Shape := ⟨2, ![256, 1024]⟩
abbrev S32768x1024 : Shape := ⟨2, ![32768, 1024]⟩

abbrev nBuf : Space → Nat
  | .hbm => 222
  | .vmem => 0
  | .smem => 0
  | _ => 0

abbrev hbmTy0_0 (i : Nat) : BufTy := match i % 128 with
  | 0 => ⟨S32768x512, .f32⟩
  | 1 => ⟨S32768x512, .bf16⟩
  | 2 => ⟨S32768x2048, .f32⟩
  | 3 => ⟨S4x8192x1024, .f32⟩
  | 4 => ⟨S1x4x8192x256, .f32⟩
  | 5 => ⟨S1x4x128x128, .f32⟩
  | 6 => ⟨S1x512, .f32⟩
  | 7 => ⟨S1x512x1024, .f32⟩
  | 8 => ⟨S1x512x1024, .f32⟩
  | 9 => ⟨S1x1024x1024, .f32⟩
  | 10 => ⟨S1x1024, .f32⟩
  | 11 => ⟨S1x1024x2816, .f32⟩
  | 12 => ⟨S1x1024x2816, .f32⟩
  | 13 => ⟨S1x2816x1024, .f32⟩
  | 14 => ⟨S1x1024, .f32⟩
  | 15 => ⟨S1x1024x1024, .f32⟩
  | 16 => ⟨S1x256x1024, .f32⟩
  | 17 => ⟨S1024, .f32⟩
  | 18 => ⟨S4x8192x512, .f32⟩
  | 19 => ⟨S4x128x128, .f32⟩
  | 20 => ⟨S512, .f32⟩
  | 21 => ⟨S_, .f32⟩
  | 22 => ⟨S_, .f32⟩
  | 23 => ⟨S4x8192x512, .f32⟩
  | 24 => ⟨S8192, .i32⟩
  | 25 => ⟨S4x8192x128, .f32⟩
  | 26 => ⟨S_, .i32⟩
  | 27 => ⟨S_, .f32⟩
  | 28 => ⟨S4x8194x128, .f32⟩
  | 29 => ⟨S4x8192x128, .f32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S8192, .f32⟩
  | 37 => ⟨S1x8192x1, .f32⟩
  | 38 => ⟨S4x8192x128, .f32⟩
  | 39 => ⟨S4x8192x128, .f32⟩
  | 40 => ⟨S4x8192x128, .f32⟩
  | 41 => ⟨S4x8192x128, .f32⟩
  | 42 => ⟨S4x8192x128, .f32⟩
  | 43 => ⟨S4x8192x128, .f32⟩
  | 44 => ⟨S_, .i32⟩
  | 45 => ⟨S_, .f32⟩
  | 46 => ⟨S4x8196x128, .f32⟩
  | 47 => ⟨S4x8192x128, .f32⟩
  | 48 => ⟨S_, .i32⟩
  | 49 => ⟨S8192, .i32⟩
  | 50 => ⟨S8192, .i32⟩
  | 51 => ⟨S_, .i32⟩
  | 52 => ⟨S8192, .i32⟩
  | 53 => ⟨S8192, .i32⟩
  | 54 => ⟨S8192, .f32⟩
  | 55 => ⟨S1x8192x1, .f32⟩
  | 56 => ⟨S4x8192x128, .f32⟩
  | 57 => ⟨S4x8192x128, .f32⟩
  | 58 => ⟨S4x8192x128, .f32⟩
  | 59 => ⟨S4x8192x128, .f32⟩
  | 60 => ⟨S4x8192x128, .f32⟩
  | 61 => ⟨S4x8192x128, .f32⟩
  | 62 => ⟨S_, .i32⟩
  | 63 => ⟨S_, .f32⟩
  | 64 => ⟨S4x8200x128, .f32⟩
  | 65 => ⟨S4x8192x128, .f32⟩
  | 66 => ⟨S_, .i32⟩
  | 67 => ⟨S8192, .i32⟩
  | 68 => ⟨S8192, .i32⟩
  | 69 => ⟨S_, .i32⟩
  | 70 => ⟨S8192, .i32⟩
  | 71 => ⟨S8192, .i32⟩
  | 72 => ⟨S8192, .f32⟩
  | 73 => ⟨S1x8192x1, .f32⟩
  | 74 => ⟨S4x8192x128, .f32⟩
  | 75 => ⟨S4x8192x128, .f32⟩
  | 76 => ⟨S4x8192x128, .f32⟩
  | 77 => ⟨S4x8192x128, .f32⟩
  | 78 => ⟨S4x8192x128, .f32⟩
  | 79 => ⟨S4x8192x128, .f32⟩
  | 80 => ⟨S_, .i32⟩
  | 81 => ⟨S_, .f32⟩
  | 82 => ⟨S4x8208x128, .f32⟩
  | 83 => ⟨S4x8192x128, .f32⟩
  | 84 => ⟨S_, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192, .f32⟩
  | 91 => ⟨S1x8192x1, .f32⟩
  | 92 => ⟨S4x8192x128, .f32⟩
  | 93 => ⟨S4x8192x128, .f32⟩
  | 94 => ⟨S4x8192x128, .f32⟩
  | 95 => ⟨S4x8192x128, .f32⟩
  | 96 => ⟨S4x8192x128, .f32⟩
  | 97 => ⟨S4x8192x1x128, .f32⟩
  | 98 => ⟨S4x8192x1x128, .f32⟩
  | 99 => ⟨S4x8192x1x128, .f32⟩
  | 100 => ⟨S4x8192x1x128, .f32⟩
  | 101 => ⟨S4x8192x4x128, .f32⟩
  | 102 => ⟨S4x128x4x8192, .f32⟩
  | 103 => ⟨S4x8192x4x128, .f32⟩
  | 104 => ⟨S4x8192x512, .f32⟩
  | 105 => ⟨S1x1x512, .f32⟩
  | 106 => ⟨S4x8192x512, .f32⟩
  | 107 => ⟨S4x8192x512, .f32⟩
  | 108 => ⟨S4x8192x512, .bf16⟩
  | 109 => ⟨S4x8192x512, .f32⟩
  | 110 => ⟨S4x8192x2048, .f32⟩
  | 111 => ⟨S4x8192x1024, .f32⟩
  | 112 => ⟨S4x8192x1024, .f32⟩
  | 113 => ⟨S4x8192x1024, .f32⟩
  | 114 => ⟨S4x8192x1024, .f32⟩
  | 115 => ⟨S_, .f32⟩
  | 116 => ⟨S4x8192x1024, .f32⟩
  | 117 => ⟨S4x8192x1024, .f32⟩
  | 118 => ⟨S_, .f32⟩
  | 119 => ⟨S4x8192x1024, .f32⟩
  | 120 => ⟨S4x8192x1024, .f32⟩
  | 121 => ⟨S512x1024, .f32⟩
  | 122 => ⟨S4x8192x1024, .f32⟩
  | 123 => ⟨S4x8192x1024, .f32⟩
  | 124 => ⟨S4x8192x1024, .f32⟩
  | 125 => ⟨S4x8192x1024, .f32⟩
  | 126 => ⟨S_, .f32⟩
  | 127 => ⟨S4x8192x1024, .f32⟩
  | _ => ⟨S32768x512, .f32⟩

abbrev hbmTy0_1 (i : Nat) : BufTy := match i % 128 with
  | 0 => ⟨S4x8192x1024, .f32⟩
  | 1 => ⟨S_, .f32⟩
  | 2 => ⟨S4x8192x1024, .f32⟩
  | 3 => ⟨S4x8192x1024, .f32⟩
  | 4 => ⟨S512x1024, .f32⟩
  | 5 => ⟨S4x8192x1024, .f32⟩
  | 6 => ⟨S4x8192x1024, .f32⟩
  | 7 => ⟨S4x8192x1024, .f32⟩
  | 8 => ⟨S1024x1024, .f32⟩
  | 9 => ⟨S4x8192x1024, .f32⟩
  | 10 => ⟨S4x8192x1024, .f32⟩
  | 11 => ⟨S1024, .f32⟩
  | 12 => ⟨S4x8192x1024, .f32⟩
  | 13 => ⟨S_, .f32⟩
  | 14 => ⟨S4x8192, .f32⟩
  | 15 => ⟨S4x8192x1, .f32⟩
  | 16 => ⟨S_, .f32⟩
  | 17 => ⟨S4x8192x1, .f32⟩
  | 18 => ⟨S4x8192x1, .f32⟩
  | 19 => ⟨S_, .f32⟩
  | 20 => ⟨S4x8192x1, .f32⟩
  | 21 => ⟨S4x8192x1, .f32⟩
  | 22 => ⟨S4x8192x1, .f32⟩
  | 23 => ⟨S4x8192x1024, .f32⟩
  | 24 => ⟨S4x8192x1024, .f32⟩
  | 25 => ⟨S1x1x1024, .f32⟩
  | 26 => ⟨S4x8192x1024, .f32⟩
  | 27 => ⟨S4x8192x1024, .f32⟩
  | 28 => ⟨S1024x2816, .f32⟩
  | 29 => ⟨S4x8192x2816, .f32⟩
  | 30 => ⟨S4x8192x2816, .f32⟩
  | 31 => ⟨S4x8192x2816, .f32⟩
  | 32 => ⟨S_, .f32⟩
  | 33 => ⟨S4x8192x2816, .f32⟩
  | 34 => ⟨S4x8192x2816, .f32⟩
  | 35 => ⟨S_, .f32⟩
  | 36 => ⟨S4x8192x2816, .f32⟩
  | 37 => ⟨S4x8192x2816, .f32⟩
  | 38 => ⟨S4x8192x2816, .f32⟩
  | 39 => ⟨S1024x2816, .f32⟩
  | 40 => ⟨S4x8192x2816, .f32⟩
  | 41 => ⟨S4x8192x2816, .f32⟩
  | 42 => ⟨S2816x1024, .f32⟩
  | 43 => ⟨S4x8192x1024, .f32⟩
  | 44 => ⟨S4x8192x1024, .f32⟩
  | 45 => ⟨S1024, .f32⟩
  | 46 => ⟨S4x8192x1024, .f32⟩
  | 47 => ⟨S_, .f32⟩
  | 48 => ⟨S4x8192, .f32⟩
  | 49 => ⟨S4x8192x1, .f32⟩
  | 50 => ⟨S_, .f32⟩
  | 51 => ⟨S4x8192x1, .f32⟩
  | 52 => ⟨S4x8192x1, .f32⟩
  | 53 => ⟨S_, .f32⟩
  | 54 => ⟨S4x8192x1, .f32⟩
  | 55 => ⟨S4x8192x1, .f32⟩
  | 56 => ⟨S4x8192x1, .f32⟩
  | 57 => ⟨S4x8192x1024, .f32⟩
  | 58 => ⟨S4x8192x1024, .f32⟩
  | 59 => ⟨S1x1x1024, .f32⟩
  | 60 => ⟨S4x8192x1024, .f32⟩
  | 61 => ⟨S4x8192x1024, .f32⟩
  | 62 => ⟨S1024x1024, .f32⟩
  | 63 => ⟨S4x8192x1024, .f32⟩
  | 64 => ⟨S4x8192x1024, .f32⟩
  | 65 => ⟨S4x8192x1024, .f32⟩
  | 66 => ⟨S_, .f32⟩
  | 67 => ⟨S4x8192x1024, .f32⟩
  | 68 => ⟨S4x8192x1024, .f32⟩
  | 69 => ⟨S_, .f32⟩
  | 70 => ⟨S4x8192x1024, .f32⟩
  | 71 => ⟨S4x8192x1024, .f32⟩
  | 72 => ⟨S4x8192x256, .f32⟩
  | 73 => ⟨S256x1024, .f32⟩
  | 74 => ⟨S4x8192x1024, .f32⟩
  | 75 => ⟨S4x8192x1024, .f32⟩
  | 76 => ⟨S4x8192x1024, .f32⟩
  | 77 => ⟨S4x8192x1024, .f32⟩
  | 78 => ⟨S_, .f32⟩
  | 79 => ⟨S4x8192, .f32⟩
  | 80 => ⟨S4x8192x1, .f32⟩
  | 81 => ⟨S_, .f32⟩
  | 82 => ⟨S4x8192x1, .f32⟩
  | 83 => ⟨S4x8192x1, .f32⟩
  | 84 => ⟨S_, .f32⟩
  | 85 => ⟨S4x8192x1, .f32⟩
  | 86 => ⟨S4x8192x1, .f32⟩
  | 87 => ⟨S4x8192x1, .f32⟩
  | 88 => ⟨S4x8192x1024, .f32⟩
  | 89 => ⟨S4x8192x1024, .f32⟩
  | 90 => ⟨S1x1x1024, .f32⟩
  | 91 => ⟨S4x8192x1024, .f32⟩
  | 92 => ⟨S4x8192x1024, .f32⟩
  | 93 => ⟨S32768x1024, .f32⟩
  | _ => ⟨S32768x512, .f32⟩

abbrev hbmTy (i : Nat) : BufTy := match i / 128 with
  | 0 => hbmTy0_0 i
  | 1 => hbmTy0_1 i
  | _ => ⟨S32768x512, .f32⟩

abbrev bufTy : (tb : Table) → Fin (tcTables nBuf tb) → BufTy
  | .hbm, ⟨i, _⟩ => hbmTy i
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_call0_call0_cst : Ref sig .tc := ⟨.hbm, 21, rfl⟩
abbrev main_call0_call0_v0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_c : Ref sig .tc := ⟨.hbm, 26, rfl⟩
abbrev main_call1_v0 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_c_1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_2 : Ref sig .tc := ⟨.hbm, 44, rfl⟩
abbrev main_call2_v0 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_c_5 : Ref sig .tc := ⟨.hbm, 62, rfl⟩
abbrev main_call3_v0 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_c_8 : Ref sig .tc := ⟨.hbm, 80, rfl⟩
abbrev main_call4_v0 : Ref sig .tc := ⟨.hbm, 81, rfl⟩
abbrev main_v48 : Ref sig .tc := ⟨.hbm, 82, rfl⟩
abbrev main_v49 : Ref sig .tc := ⟨.hbm, 83, rfl⟩
abbrev main_c_9 : Ref sig .tc := ⟨.hbm, 84, rfl⟩
abbrev main_v50 : Ref sig .tc := ⟨.hbm, 85, rfl⟩
abbrev main_v51 : Ref sig .tc := ⟨.hbm, 86, rfl⟩
abbrev main_c_10 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst : Ref sig .tc := ⟨.hbm, 115, rfl⟩
abbrev main_v79 : Ref sig .tc := ⟨.hbm, 116, rfl⟩
abbrev main_v80 : Ref sig .tc := ⟨.hbm, 117, rfl⟩
abbrev main_cst_11 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_12 : Ref sig .tc := ⟨.hbm, 126, rfl⟩
abbrev main_v88 : Ref sig .tc := ⟨.hbm, 127, rfl⟩
abbrev main_v89 : Ref sig .tc := ⟨.hbm, 128, rfl⟩
abbrev main_cst_13 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_14 : Ref sig .tc := ⟨.hbm, 141, rfl⟩
abbrev main_v101 : Ref sig .tc := ⟨.hbm, 142, rfl⟩
abbrev main_v102 : Ref sig .tc := ⟨.hbm, 143, rfl⟩
abbrev main_cst_15 : Ref sig .tc := ⟨.hbm, 144, rfl⟩
abbrev main_v103 : Ref sig .tc := ⟨.hbm, 145, rfl⟩
abbrev main_v104 : Ref sig .tc := ⟨.hbm, 146, rfl⟩
abbrev main_cst_16 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_call5_v0 : Ref sig .tc := ⟨.hbm, 158, rfl⟩
abbrev main_call5_v1 : Ref sig .tc := ⟨.hbm, 159, rfl⟩
abbrev main_call5_cst : Ref sig .tc := ⟨.hbm, 160, rfl⟩
abbrev main_call5_v2 : Ref sig .tc := ⟨.hbm, 161, rfl⟩
abbrev main_call5_v3 : Ref sig .tc := ⟨.hbm, 162, rfl⟩
abbrev main_call5_cst_0 : Ref sig .tc := ⟨.hbm, 163, rfl⟩
abbrev main_call5_v4 : Ref sig .tc := ⟨.hbm, 164, rfl⟩
abbrev main_call5_v5 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_17 : Ref sig .tc := ⟨.hbm, 175, rfl⟩
abbrev main_v124 : Ref sig .tc := ⟨.hbm, 176, rfl⟩
abbrev main_v125 : Ref sig .tc := ⟨.hbm, 177, rfl⟩
abbrev main_cst_18 : Ref sig .tc := ⟨.hbm, 178, rfl⟩
abbrev main_v126 : Ref sig .tc := ⟨.hbm, 179, rfl⟩
abbrev main_v127 : Ref sig .tc := ⟨.hbm, 180, rfl⟩
abbrev main_cst_19 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_20 : Ref sig .tc := ⟨.hbm, 194, rfl⟩
abbrev main_v140 : Ref sig .tc := ⟨.hbm, 195, rfl⟩
abbrev main_v141 : Ref sig .tc := ⟨.hbm, 196, rfl⟩
abbrev main_cst_21 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_cst_22 : Ref sig .tc := ⟨.hbm, 206, rfl⟩
abbrev main_v150 : Ref sig .tc := ⟨.hbm, 207, rfl⟩
abbrev main_v151 : Ref sig .tc := ⟨.hbm, 208, rfl⟩
abbrev main_cst_23 : Ref sig .tc := ⟨.hbm, 209, rfl⟩
abbrev main_v152 : Ref sig .tc := ⟨.hbm, 210, rfl⟩
abbrev main_v153 : Ref sig .tc := ⟨.hbm, 211, rfl⟩
abbrev main_cst_24 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩

abbrev nD : Nat := 1
abbrev τ : Topo := Topo.v7x

variable {F : FTy → Type} [FloatOps F]
-- ==== Proof.KI.Loop.lean ====
module

public import proofs.«01_k».proof.KernelIdeal
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.DatRel
public import Idealize.ShloMosaic.Lib.Tactic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Idealize.ShloMosaic.UR sig nD τ) ℕ

/-- The kernel's variants: the naturals, the number of blocks the sweep may still visit. -/
abbrev 𝒱₀ : Variants := Variants.nat

/-- A block number below 32 keeps every access of the sweep inside the cache, on a 256-row boundary. -/
theorem chk_of_range (kb : BitVec 32) (h0 : 0 ≤ kb.toInt) (h1 : kb.toInt < 32) : k0_chk1 kb := by
  have h : kb.toNat < 32 := by
    have := kb.toInt_eq_toNat_cond; split at this <;> omega
  obtain ⟨k, hk, rfl⟩ : ∃ k, k < 32 ∧ kb = BitVec.ofNat 32 k := ⟨kb.toNat, h, by simp⟩
  clear h h0 h1
  revert k; decide

section Loop

variable (c : Dev nD)
  (arg8 : Memref sig .tc .vmem S8192x512 .bf16) (harg8 : arg8.IsWhole)
  (arg9 : Memref sig .tc .vmem S8192x512 .bf16) (harg9 : arg9.IsWhole)
  (arg13 : Memref sig .tc .vmem S4x512x128 .f32) (harg13 : arg13.IsWhole)
  (arg14 : Memref sig .tc .vmem S4x512x1 .f32) (harg14 : arg14.IsWhole)

/-- A memref's buffer, held whole at some contents. -/
abbrev some_ {sh : Shape} {e : EltTy} (M : Memref sig .tc .vmem sh e) : sProp 𝕄 :=
  iprop(∃ f : Buf (Elt F) (M.view.loc (c : Thread nD τ)), M.view.loc (c : Thread nD τ) ↦[M.view.set]{fullShare} f)

/-- A memref's buffer, held whole at the contents `f`. -/
abbrev is_ {sh : Shape} {e : EltTy} (M : Memref sig .tc .vmem sh e) (f : Buf (Elt F) (M.view.loc (c : Thread nD τ))) : sProp 𝕄 :=
  iprop(M.view.loc (c : Thread nD τ) ↦[M.view.set]{fullShare} f)

/-- What the sweep over earlier blocks uses: the two caches, the accumulator and the carry, at some contents. -/
def held : sProp 𝕄 :=
  iprop(some_ (F := F) c arg8 ∗ some_ (F := F) c arg9 ∗ some_ (F := F) c arg13 ∗ some_ (F := F) c arg14)

/-- The sweep's specification: it takes these buffers and hands them back. -/
def spec : sWPT 𝕄 (BitVec 32 × BitVec 32) := do
  sWPT.consume (held (F := F) c arg8 arg9 arg13 arg14)
  let r ← sWPT.arbitrary
  sWPT.produce (held (F := F) c arg8 arg9 arg13 arg14)
  pure r

theorem spec_apply (K : BitVec 32 × BitVec 32 → sProp 𝕄) :
    spec (F := F) c arg8 arg9 arg13 arg14 K
      = iprop(held (F := F) c arg8 arg9 arg13 arg14 ∗ ∀ r : BitVec 32 × BitVec 32, (held (F := F) c arg8 arg9 arg13 arg14 -∗ K r)) := rfl

theorem spec_le (i : grid0.Coords) (v9 : FVec F S256x512 .bf16) (v28 : IVec S256x128 32) (v30 : FVec F S256x256 .bf16) (E : Set ℕ) :
    ∀ (n : ℕ) (kb flag : BitVec 32), kb.toInt < 32 → kb.toInt < n → ∀ K, spec (F := F) c arg8 arg9 arg13 arg14 K
      ⊢ wp frame (wpE (defs₀ (F := F)) 𝒱₀ (c : Thread nD τ) (some n)) E
          (defs₀ (F := F) .tc 1 ⟨i, arg14, harg14, v9, v28, arg8, harg8, arg9, harg9, v30, arg13, harg13, kb, flag⟩) K := by
  intro n
  induction n with
  | zero =>
    intro kb flag h32 hn K
    rw [spec_apply]
    show _ ⊢ wp frame (wpE (defs₀ (F := F)) 𝒱₀ (c : Thread nD τ) (some 0)) E
      (cc0_while1 i arg14 harg14 v9 v28 arg8 harg8 arg9 harg9 v30 arg13 harg13 kb flag) K
    simp only [cc0_while1_eq_skeleton]; unfold cc0_while1_skel
    have hc : ¬ Scalar.andi (Scalar.cmpi .sge kb 0#32) (Scalar.cmpi .sgt flag 0#32) = 1#1 := by
      have : Scalar.cmpi .sge kb 0#32 = 0#1 := by
        simp only [Scalar.cmpi, IntOp.cmpi]; rw [BitVec.sle_eq_decide]
        rw [decide_eq_false (by push_cast at hn; simpa using hn)]; rfl
      rw [this]; simp [Scalar.andi, IntOp.andi]
    simp only [hc, ↓reduceIte, Prog.pure_eq_ret]
    iintro ⟨H, Hk⟩
    rw [wp_ret]; imodintro
    iapply Hk; iexact H
  | succ n ih =>
    intro kb flag h32 hn K
    rw [spec_apply]
    show _ ⊢ wp frame (wpE (defs₀ (F := F)) 𝒱₀ (c : Thread nD τ) (some (n + 1))) E
      (cc0_while1 i arg14 harg14 v9 v28 arg8 harg8 arg9 harg9 v30 arg13 harg13 kb flag) K
    simp only [cc0_while1_eq_skeleton]; unfold cc0_while1_skel
    by_cases hc : Scalar.andi (Scalar.cmpi .sge kb 0#32) (Scalar.cmpi .sgt flag 0#32) = 1#1
    · have h0 : 0 ≤ kb.toInt := by
        by_contra hneg
        have : Scalar.cmpi .sge kb 0#32 = 0#1 := by
          simp only [Scalar.cmpi, IntOp.cmpi]; rw [BitVec.sle_eq_decide]
          rw [decide_eq_false (by simpa using hneg)]; rfl
        rw [this] at hc; simp [Scalar.andi, IntOp.andi] at hc
      have hchk := chk_of_range kb h0 h32
      have hsub : (Scalar.subi kb 1#32).toInt = kb.toInt - 1 := by
        show (kb - 1#32).toInt = _
        rw [BitVec.toInt_sub]; simp
        rw [Int.bmod_eq_of_le] <;> omega
      simp only [hc, ↓reduceIte, k0_part15_eq_skeleton, k0_part16_eq_skeleton, k0_part17_eq_skeleton, k0_part18_eq_skeleton, k0_part19_eq_skeleton]
      unfold held some_
      iintro ⟨⟨⟨%f8, H8⟩, ⟨%f9, H9⟩, ⟨%f13, H13⟩, ⟨%f14, H14⟩⟩, Hk⟩
      sl_exec
      iapply (wp_call_spec 𝒱₀ (c : Thread nD τ) (some (n + 1)) E (spec (F := F) c arg8 arg9 arg13 arg14) n
        (fun u hu => by cases hu; exact Nat.lt_succ_self n)
        (ih _ _ (by rw [hsub]; omega) (by rw [hsub]; push_cast at hn; omega)))
      rw [spec_apply]
      unfold held some_
      isplitl [H8 H9 H13 H14]
      · isplitl [H8]; · iexists _; iexact H8
        isplitl [H9]; · iexists _; iexact H9
        isplitl [H13]; · iexists _; iexact H13
        iexists _; iexact H14
      · iintro %r H
        rw [wp_ret]; imodintro
        iapply Hk; iexact H
    · simp only [hc, ↓reduceIte, Prog.pure_eq_ret]
      iintro ⟨H, Hk⟩
      rw [wp_ret]; imodintro
      iapply Hk; iexact H

end Loop

end Cert.Proof.KI

end
-- ==== Proof.KI.Offs.lean ====
module

public import proofs.«01_k».proof.KernelIdeal
public import proofs.«01_k».proof.Proof.Gen.KernelIdeal
public import proofs.«01_k».proof.Proof.Gen.KernelIdeal.Skeleton
public import Idealize.ShloMosaic.Lib.Exec

@[expose] public section

/-! Where the kernel's loads and stores lie at grid point `i`: point `i` attends tile `(i + 31) mod 32` of its batch, reads the queries
of slot `(i + 1) mod 2`, writes the next tile's queries to slot `i mod 2`, and appends keys and values at tile `i mod 32`. -/

namespace Cert.Proof.KI

open Cert.KernelIdeal Cert.KernelIdeal.Gen
open Idealize.ShloMosaic

theorem off1_eq (i : grid0.Coords) : k0_off1 i = ![((i 0).val + 1) % 2, 0, 0] := by
  unfold k0_off1; generalize i 0 = n; dsimp only; revert n; decide +kernel
instance (i : grid0.Coords) : ClosedOff (k0_off1 i) := ⟨_, off1_eq i⟩

theorem off2_eq (i : grid0.Coords) : k0_off2 i = ![((i 0).val + 31) % 32 * 256, 0] := by
  unfold k0_off2; generalize i 0 = n; dsimp only; revert n; decide +kernel
instance (i : grid0.Coords) : ClosedOff (k0_off2 i) := ⟨_, off2_eq i⟩

theorem off3_eq (i : grid0.Coords) : k0_off3 i = ![(((i 0).val + 31) % 32 - 1) * 256, 0] := by
  unfold k0_off3; generalize i 0 = n; dsimp only; revert n; decide +kernel
instance (i : grid0.Coords) : ClosedOff (k0_off3 i) := ⟨_, off3_eq i⟩

theorem off4_eq (i : grid0.Coords) : k0_off4 i = ![(i 0).val % 2, 0, 0] := by
  unfold k0_off4; generalize i 0 = n; dsimp only; revert n; decide +kernel
instance (i : grid0.Coords) : ClosedOff (k0_off4 i) := ⟨_, off4_eq i⟩

theorem off5_eq (i : grid0.Coords) : k0_off5 i = ![(i 0).val % 2, 0, 256] := by
  unfold k0_off5; generalize i 0 = n; dsimp only; revert n; decide +kernel
instance (i : grid0.Coords) : ClosedOff (k0_off5 i) := ⟨_, off5_eq i⟩

theorem off6_eq (i : grid0.Coords) : k0_off6 i = ![((i 0).val + 31) % 32 * 256, 128] := by
  unfold k0_off6; generalize i 0 = n; dsimp only; revert n; decide +kernel
instance (i : grid0.Coords) : ClosedOff (k0_off6 i) := ⟨_, off6_eq i⟩

theorem off7_eq (i : grid0.Coords) : k0_off7 i = ![(((i 0).val + 31) % 32 - 1) * 256, 128] := by
  unfold k0_off7; generalize i 0 = n; dsimp only; revert n; decide +kernel
instance (i : grid0.Coords) : ClosedOff (k0_off7 i) := ⟨_, off7_eq i⟩

theorem off8_eq (i : grid0.Coords) : k0_off8 i = ![((i 0).val + 31) % 32 * 256, 256] := by
  unfold k0_off8; generalize i 0 = n; dsimp only; revert n; decide +kernel
instance (i : grid0.Coords) : ClosedOff (k0_off8 i) := ⟨_, off8_eq i⟩

theorem off9_eq (i : grid0.Coords) : k0_off9 i = ![(((i 0).val + 31) % 32 - 1) * 256, 256] := by
  unfold k0_off9; generalize i 0 = n; dsimp only; revert n; decide +kernel
instance (i : grid0.Coords) : ClosedOff (k0_off9 i) := ⟨_, off9_eq i⟩

theorem off10_eq (i : grid0.Coords) : k0_off10 i = ![((i 0).val + 31) % 32 * 256, 384] := by
  unfold k0_off10; generalize i 0 = n; dsimp only; revert n; decide +kernel
instance (i : grid0.Coords) : ClosedOff (k0_off10 i) := ⟨_, off10_eq i⟩

theorem off11_eq (i : grid0.Coords) : k0_off11 i = ![(((i 0).val + 31) % 32 - 1) * 256, 384] := by
  unfold k0_off11; generalize i 0 = n; dsimp only; revert n; decide +kernel
instance (i : grid0.Coords) : ClosedOff (k0_off11 i) := ⟨_, off11_eq i⟩

theorem off16_eq (i : grid0.Coords) : k0_off16 i = ![(i 0).val % 32 * 256, 0] := by
  unfold k0_off16; generalize i 0 = n; dsimp only; revert n; decide +kernel
instance (i : grid0.Coords) : ClosedOff (k0_off16 i) := ⟨_, off16_eq i⟩

end Cert.Proof.KI
-- ==== Proof.KI.Body.lean ====
module

public import proofs.«01_k».proof.Proof.KI.Loop
public import proofs.«01_k».proof.Proof.KI.Offs

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Idealize.ShloMosaic.UR sig nD τ) ℕ

/-- The sweep starts two blocks before the tile's own, so below block 32. -/
theorem start (i : grid0.Coords) :
    (Scalar.subi (Scalar.remsi (Scalar.addi (BitVec.ofNat 32 (i 0).val) 31#32) 32#32) 2#32).toInt < 32
      ∧ (Scalar.subi (Scalar.remsi (Scalar.addi (BitVec.ofNat 32 (i 0).val) 31#32) 32#32) 2#32).toInt < (33 : ℕ) := by
  generalize i 0 = n; revert n; decide +kernel

/-- One grid point's body, run on whole buffers: it ends, and hands every buffer back. -/
theorem body_run (c : Dev nD) (i : grid0.Coords) (E : Set ℕ)
    (a1 : Memref sig .tc .vmem S256x1024 .f32) (h1 : a1.IsWhole)
    (a2 : Memref sig .tc .vmem S1x1024 .f32) (h2 : a2.IsWhole)
    (a3 : Memref sig .tc .vmem S1024x4096 .bf16) (h3 : a3.IsWhole)
    (a4 : Memref sig .tc .vmem S256x256 .bf16) (h4 : a4.IsWhole)
    (a5 : Memref sig .tc .vmem S256x512 .f32) (h5 : a5.IsWhole)
    (a6 : Memref sig .tc .vmem S256x2048 .f32) (h6 : a6.IsWhole)
    (a7 : Memref sig .tc .vmem S256x512 .bf16) (h7 : a7.IsWhole)
    (a8 : Memref sig .tc .vmem S8192x512 .bf16) (h8 : a8.IsWhole)
    (a9 : Memref sig .tc .vmem S8192x512 .bf16) (h9 : a9.IsWhole)
    (a10 : Memref sig .tc .vmem S2x256x512 .bf16) (h10 : a10.IsWhole)
    (a11 : Memref sig .tc .vmem S256x512 .bf16) (h11 : a11.IsWhole)
    (a12 : Memref sig .tc .vmem S256x512 .bf16) (h12 : a12.IsWhole)
    (a13 : Memref sig .tc .vmem S4x512x128 .f32) (h13 : a13.IsWhole)
    (a14 : Memref sig .tc .vmem S4x512x1 .f32) (h14 : a14.IsWhole)
    (f1 : Buf (Elt F) (a1.view.loc (c : Thread nD τ))) (f2 : Buf (Elt F) (a2.view.loc (c : Thread nD τ))) (f3 : Buf (Elt F) (a3.view.loc (c : Thread nD τ))) (f4 : Buf (Elt F) (a4.view.loc (c : Thread nD τ)))
    (K : PUnit → sProp 𝕄) :
    iprop((is_ c a1 f1 ∗ is_ c a2 f2 ∗ is_ c a3 f3 ∗ is_ c a4 f4 ∗ some_ (F := F) c a5 ∗ some_ (F := F) c a6 ∗ some_ (F := F) c a7 ∗ some_ (F := F) c a8 ∗ some_ (F := F) c a9 ∗ some_ (F := F) c a10 ∗ some_ (F := F) c a11 ∗ some_ (F := F) c a12 ∗ some_ (F := F) c a13 ∗ some_ (F := F) c a14) ∗ ((is_ c a1 f1 ∗ is_ c a2 f2 ∗ is_ c a3 f3 ∗ is_ c a4 f4 ∗ some_ (F := F) c a5 ∗ some_ (F := F) c a6 ∗ some_ (F := F) c a7 ∗ some_ (F := F) c a8 ∗ some_ (F := F) c a9 ∗ some_ (F := F) c a10 ∗ some_ (F := F) c a11 ∗ some_ (F := F) c a12 ∗ some_ (F := F) c a13 ∗ some_ (F := F) c a14) -∗ K ()))
    ⊢ wp frame (wpE (defs₀ (F := F)) 𝒱₀ (c : Thread nD τ) none) E
        (cc0_mix i a1 h1 a2 h2 a3 h3 a4 h4 a5 h5 a6 h6 a7 h7 a8 h8 a9 h9 a10 h10 a11 h11 a12 h12 a13 h13 a14 h14) K := by
  simp only [cc0_mix_eq_skeleton]; unfold cc0_mix_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold is_ some_
  iintro ⟨⟨H1, H2, H3, H4, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩⟩, Hk⟩
  by_cases hc : Scalar.cmpi .ne (Scalar.extui (Scalar.cmpi .eq (BitVec.ofNat 32 (i 0).val) 0#32)) 0#32 = 1#1
  · sl_exec (disch := sl_exact hc)
    iapply (wp_call_spec 𝒱₀ (c : Thread nD τ) none E (spec (F := F) c a8 a9 a13 a14) 33
      (fun u hu => nomatch hu)
      (spec_le c a8 h8 a9 h9 a13 h13 a14 h14 i _ _ _ E 33 _ _ (start i).1 (start i).2))
    rw [spec_apply]
    unfold held some_
    isplitl [H8 H9 H13 H14]
    · isplitl [H8]; · iexists _; iexact H8
      isplitl [H9]; · iexists _; iexact H9
      isplitl [H13]; · iexists _; iexact H13
      iexists _; iexact H14
    iintro %r ⟨⟨%g8, H8⟩, ⟨%g9, H9⟩, ⟨%g13, H13⟩, ⟨%g14, H14⟩⟩
    sl_exec
    rw [wp_ret]; imodintro
    iapply Hk
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14
  · sl_exec (disch := sl_exact hc)
    iapply (wp_call_spec 𝒱₀ (c : Thread nD τ) none E (spec (F := F) c a8 a9 a13 a14) 33
      (fun u hu => nomatch hu)
      (spec_le c a8 h8 a9 h9 a13 h13 a14 h14 i _ _ _ E 33 _ _ (start i).1 (start i).2))
    rw [spec_apply]
    unfold held some_
    isplitl [H8 H9 H13 H14]
    · isplitl [H8]; · iexists _; iexact H8
      isplitl [H9]; · iexists _; iexact H9
      isplitl [H13]; · iexists _; iexact H13
      iexists _; iexact H14
    iintro %r ⟨⟨%g8, H8⟩, ⟨%g9, H9⟩, ⟨%g13, H13⟩, ⟨%g14, H14⟩⟩
    sl_exec
    rw [wp_ret]; imodintro
    iapply Hk
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.Proof.KI

end
-- ==== Proof.KI.Run.lean ====
module

public import proofs.«01_k».proof.Proof.KI.Body
public import Idealize.ShloMosaic.Lib.Pipeline.KitQuiescent
public import Idealize.ShloMosaic.Lib.Pipeline.FrameBody
public import Idealize.ShloMosaic.PureOps.Ideal

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

local notation "𝕄" => MT nD τ sig Unit (Elt F) ℕ (Idealize.ShloMosaic.UR sig nD τ) ℕ

variable (m : (ℓ : Loc nD τ sig) → Buf (Elt F) ℓ) (ρ : Dev nD → PrngReg)

/-- Every buffer's contents at the kernel's entry: what the host operations before it leave. -/
abbrev entry (c : Dev nD) (b : Ref sig .tc) : Buf (Elt F) ((c.tc : Thread nD τ).loc b) :=
  StableHlo.after (hostOps0 (F := F)) (fun b => m (c, b)) b

/-- The windows' data: an input's staging buffer is left as it was found, an output's at anything; between points the scratch
    holds anything. -/
def dat (c : Dev nD) : RDat τ (Elt F) Unit ℕ (UR sig nD τ) ℕ (cfg0 (F := F)) c where
  A w := entry m c (Pipeline.arrRef spec0 w)
  after w _ Y X := ((cfg0 (F := F)).win w).isOut = false → X = Y
  Φ _ := Pipeline.ΦA spec0 c
  q _ := fullShare
  owed _ := 0

/-- The scratch between points, its seven buffers one by one. -/
theorem phi_eq (c : Dev nD) :
    (Pipeline.ΦA (U := UR sig nD τ) (Val := Elt F) spec0 c : sProp 𝕄)
      = iprop((some_ (F := F) c (Memref.whole cc0_scratch0) ∗ some_ (F := F) c (Memref.whole cc0_scratch1)
        ∗ some_ (F := F) c (Memref.whole cc0_scratch2) ∗ some_ (F := F) c (Memref.whole cc0_scratch3)
        ∗ some_ (F := F) c (Memref.whole cc0_scratch4) ∗ some_ (F := F) c (Memref.whole cc0_scratch5)
        ∗ some_ (F := F) c (Memref.whole cc0_scratch6)) ∗ ∃ r, prngReg c r) := by
  unfold Pipeline.ΦA
  rw [scopedRest0_eq]
  simp only [some_, Memref.view_whole, View.set_whole]

theorem body_obligation (c : Dev nD) : (dat (F := F) m c).BodyObligation (defs₀ (F := F)) 𝒱₀ () Set.univ := fun t Y hY => by
  rw [bigSep_W0, bigSep_W0]
  show iprop(Pipeline.ΦA (U := UR sig nD τ) spec0 c ∗ _) ⊢ wp frame (wpE (defs₀ (F := F)) 𝒱₀ (c : Thread nD τ) none) Set.univ (bodyAt0 t) fun _ =>
    iprop(Pipeline.ΦA (U := UR sig nD τ) spec0 c ∗ (dat (F := F) m c).owesAt () t.castSucc ∗ _)
  rw [phi_eq]
  unfold owns
  iintro ⟨⟨⟨G0, G1, G2, G3, G4, G5, G6⟩, Gr⟩, Ho, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩
  iapply (body_run c (grid0.coords t) Set.univ _ _ _ _ _ _ _ _ _ _ _ _ _ _ _ _ _ _ _ _ _ _ _ _ _ _ _ _ f0 f1 f2 f3)
  isplitl [G0 G1 G2 G3 G4 G5 G6 H0 H1 H2 H3 H4 H5 H6]
  · isplitl [H0]; · iexact H0
    isplitl [H1]; · iexact H1
    isplitl [H2]; · iexact H2
    isplitl [H3]; · iexact H3
    isplitl [H4]; · iexists f4; iexact H4
    isplitl [H5]; · iexists f5; iexact H5
    isplitl [H6]; · iexists f6; iexact H6
    isplitl [G0]; · iexact G0
    isplitl [G1]; · iexact G1
    isplitl [G2]; · iexact G2
    isplitl [G3]; · iexact G3
    isplitl [G4]; · iexact G4
    isplitl [G5]; · iexact G5
    iexact G6
  iintro ⟨H0, H1, H2, H3, ⟨%g4, H4⟩, ⟨%g5, H5⟩, ⟨%g6, H6⟩, G0, G1, G2, G3, G4, G5, G6⟩
  isplitl [G0 G1 G2 G3 G4 G5 G6 Gr]
  · isplitl [G0 G1 G2 G3 G4 G5 G6]
    · isplitl [G0]; · iexact G0
      isplitl [G1]; · iexact G1
      isplitl [G2]; · iexact G2
      isplitl [G3]; · iexact G3
      isplitl [G4]; · iexact G4
      isplitl [G5]; · iexact G5
      iexact G6
    iexact Gr
  isplitl [Ho]; · iexact Ho
  isplitl [H0]
  · iexists (Y 0); isplitr; · ipureintro; exact fun _ => rfl
    iexists f0; isplitr; · ipureintro; exact e0
    iexact H0
  isplitl [H1]
  · iexists (Y 1); isplitr; · ipureintro; exact fun _ => rfl
    iexists f1; isplitr; · ipureintro; exact e1
    iexact H1
  isplitl [H2]
  · iexists (Y 2); isplitr; · ipureintro; exact fun _ => rfl
    iexists f2; isplitr; · ipureintro; exact e2
    iexact H2
  isplitl [H3]
  · iexists (Y 3); isplitr; · ipureintro; exact fun _ => rfl
    iexists f3; isplitr; · ipureintro; exact e3
    iexact H3
  isplitl [H4]
  · iexists ((st0_4 t).view.read (Elt F) g4); isplitr; · ipureintro; exact fun h => Bool.noConfusion (show true = false from h)
    iexists g4; isplitr; · ipureintro; rfl
    iexact H4
  isplitl [H5]
  · iexists ((st0_5 t).view.read (Elt F) g5); isplitr; · ipureintro; exact fun h => Bool.noConfusion (show true = false from h)
    iexists g5; isplitr; · ipureintro; rfl
    iexact H5
  iexists ((st0_6 t).view.read (Elt F) g6); isplitr; · ipureintro; exact fun h => Bool.noConfusion (show true = false from h)
  iexists g6; isplitr; · ipureintro; rfl
  iexact H6

/-- Every run of the program ends, with the windows' arrays and every other buffer as the data say, and the counters at zero. -/
theorem run_main : θ_run defs (onTc (τ := τ) (main (F := F))) (s₀ m ρ)
    (fun r => Pipeline.RDat.FramePost (cfg0 (F := F)) (dat m) (entry m) r ∧ r.2.sem = fun _ => 0) :=
  Pipeline.RDat.θ_run_frame_track cfgs 0 launch0 defs₀ 𝒱₀ (dat (F := F) m) m ρ main
    (hbody := body_obligation m)
    (hshare := fun c w => by unfold RDat.share; split <;> rfl)
    (howed := fun _ _ => rfl)
    (V := entry m)
    (hmain := Pipeline.hmain_prefix cfgs 0 defs₀ 𝒱₀ m main (hostOps0 (F := F)) hostOps0_sub ⟨rfl, rfl, rfl, rfl, rfl, rfl, rfl, rfl, rfl⟩ main_chain)
    (hA := fun _ _ => rfl) (hin := fun _ => .rfl) (hout := fun _ => .rfl)
    (Q' := fun r => Pipeline.RDat.FramePost (cfg0 (F := F)) (dat m) (entry m) r ∧ r.2.sem = fun _ => 0)
    (hQ' := fun _ h => h)

/-- The frame: the run ends, the arguments hold what they held, every counter is zero. -/
theorem frame_all (r : PUnit × MemSt nD τ sig (Elt F))
    (h : Pipeline.RDat.FramePost (cfg0 (F := F)) (dat m) (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (show main_arg0 ∈ Pipeline.restRefs sig spec0 by decide)).trans rfl, ((h c).2 main_arg1 (show main_arg1 ∈ Pipeline.restRefs sig spec0 by decide)).trans rfl, ((h c).2 main_arg2 (show main_arg2 ∈ Pipeline.restRefs sig spec0 by decide)).trans rfl⟩

theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨frame_all m r h.1, h.2⟩) (run_main (F := Ideal) m ρ)

end Cert.Proof.KI

end
-- ==== Proof.Math.Real.lean ====
module

public import Idealize.ShloMosaic.Lib.IdealHost

/-!
Stick-breaking attention over the reals.

For one query row `t`, `f j` is the log of one minus the gate at position `j`,
`g j` the log of the gate, and `v j` one column of the values. The attention of
the row over the positions `lo ≤ j < t` is `W f g v lo t`. It can be taken block
by block from the right: that is `W_split`.
-/

@[expose] public section

namespace Cert.Proof.Math
open Finset

/-- The log-sigmoid of the negated score, as the kernel writes it. -/
noncomputable def lgate (x : ℝ) : ℝ := min x 0 - Real.log (1 + Real.exp (-|x|))

/-- The sum of the logs of one minus the gate over the positions `lo ≤ j < t`. -/
noncomputable def G (f : ℕ → ℝ) (lo t : ℕ) : ℝ := ∑ j ∈ Ico lo t, f j

/-- The attention of row `t` over the positions `lo ≤ j < t`. -/
noncomputable def W (f g v : ℕ → ℝ) (lo t : ℕ) : ℝ :=
  ∑ j ∈ Ico lo t, Real.exp (g j + ∑ j' ∈ Ico (j + 1) t, f j') * v j

theorem G_split (f : ℕ → ℝ) {lo mid t : ℕ} (h1 : lo ≤ mid) (h2 : mid ≤ t) :
    G f lo t = G f mid t + G f lo mid := by
  unfold G; rw [add_comm]; exact (sum_Ico_consecutive f h1 h2).symm

theorem W_split (f g v : ℕ → ℝ) {lo mid t : ℕ} (h1 : lo ≤ mid) (h2 : mid ≤ t) :
    W f g v lo t = W f g v mid t + W f g v lo mid * Real.exp (G f mid t) := by
  unfold W G
  rw [← sum_Ico_consecutive _ h1 h2, add_comm, sum_mul]
  congr 1
  refine sum_congr rfl fun j hj => ?_
  rw [mem_Ico] at hj
  rw [← sum_Ico_consecutive f (show j + 1 ≤ mid by omega) h2, ← add_assoc, Real.exp_add]
  ring

theorem W_self (f g v : ℕ → ℝ) (t : ℕ) : W f g v t t = 0 := by simp [W]
theorem G_self (f : ℕ → ℝ) (t : ℕ) : G f t t = 0 := by simp [G]

/-- The sum of a block of positions that stops at `τ`. -/
theorem sum_block (f : ℕ → ℝ) (b τ n : ℕ) (h : τ ≤ n) :
    ∑ j ∈ range n, (if j < τ then f (b + j) else 0) = ∑ j ∈ Ico b (b + τ), f j := by
  rw [← sum_filter, sum_Ico_eq_sum_range, Nat.add_sub_cancel_left]
  refine sum_congr ?_ fun _ _ => rfl
  ext j; simp; omega

/-- The sum over the later positions of a block, written with a triangle of zeros and ones. -/
theorem sum_tri (f : ℕ → ℝ) (b τ n j : ℕ) (h : τ ≤ n) :
    ∑ j' ∈ range n, (if j' < τ then f (b + j') else 0) * (if j < j' then 1 else 0)
      = ∑ j' ∈ Ico (b + j + 1) (b + τ), f j' := by
  have e : ∀ j' ∈ range n, (if j' < τ then f (b + j') else 0) * (if j < j' then (1 : ℝ) else 0)
      = if j' < τ then (fun x => if b + j < x then f x else 0) (b + j') else 0 := by
    intro j' _; by_cases h1 : j' < τ <;> by_cases h2 : j < j' <;> simp [h1, h2]
  rw [sum_congr rfl e, sum_block (fun x => if b + j < x then f x else 0) b τ n h, ← sum_filter]
  refine sum_congr ?_ fun _ _ => rfl
  ext x; simp; omega

/-- One block, cut off at `τ`, as the kernel computes it with masks. -/
theorem block_masked (f g v : ℕ → ℝ) (b τ : ℕ) (h : τ ≤ 256) :
    ∑ j ∈ range 256, (if j < τ then Real.exp (g (b + j) + ∑ j' ∈ range 256,
        (if j' < τ then f (b + j') else 0) * (if j < j' then 1 else 0)) else 0) * v (b + j)
      = W f g v b (b + τ) := by
  unfold W
  rw [← sum_block _ b τ 256 h]
  refine sum_congr rfl fun j _ => ?_
  rw [sum_tri f b τ 256 j h]
  split <;> simp

/-- One whole block. -/
theorem block_whole (f g v : ℕ → ℝ) (b : ℕ) :
    ∑ j ∈ range 256, Real.exp (g (b + j) + ∑ j' ∈ range 256,
        f (b + j') * (if j < j' then 1 else 0)) * v (b + j)
      = W f g v b (b + 256) := by
  rw [← block_masked f g v b 256 le_rfl]
  refine sum_congr rfl fun j hj => ?_
  rw [if_pos (mem_range.mp hj)]
  have e : ∀ j' ∈ range 256, f (b + j') * (if j < j' then (1 : ℝ) else 0)
      = (if j' < 256 then f (b + j') else 0) * (if j < j' then 1 else 0) := fun j' hj' => by
    rw [if_pos (mem_range.mp hj')]
  rw [sum_congr rfl e]

theorem tot_masked (f : ℕ → ℝ) (b τ : ℕ) (h : τ ≤ 256) :
    ∑ j ∈ range 256, (if j < τ then f (b + j) else 0) = G f b (b + τ) := sum_block f b τ 256 h

theorem tot_whole (f : ℕ → ℝ) (b : ℕ) : ∑ j ∈ range 256, f (b + j) = G f b (b + 256) := by
  unfold G; rw [sum_Ico_eq_sum_range, Nat.add_sub_cancel_left]

/-- The log of the gate is the log of one minus the gate, less the negated score. -/
theorem lgate_sub (x : ℝ) : lgate x - x = lgate (-x) := by
  unfold lgate
  rw [abs_neg]
  rcases le_total x 0 with h | h
  · rw [min_eq_left h, min_eq_right (by linarith)]; ring
  · rw [min_eq_right h, min_eq_left (by linarith)]; ring

/-- The log-sigmoid as the reference writes it. -/
theorem lgate_softplus (x : ℝ) : -(max (-x) 0 + Real.log (1 + Real.exp (-|x|))) = lgate x := by
  unfold lgate
  rcases le_total x 0 with h | h
  · rw [min_eq_left h, max_eq_left (by linarith)]; ring
  · rw [min_eq_right h, max_eq_right (by linarith)]; ring

end Cert.Proof.Math
-- ==== Proof.Consts.lean ====
module

public import Idealize.ShloMosaic.Lib.IdealHost

/-! The constants of the kernel and the reference as real numbers. -/

@[expose] public section

namespace Cert.Proof.Consts
open Idealize.ShloMosaic

theorem c1024 : Ideal.ofBits .f32 0x44800000#32 = ((1024 : ℝ) : EReal) := by
  simp [Ideal.ofBits, Ideal.ieee, -EReal.coe_mul]; norm_num
theorem eighth : Ideal.ofBits .f32 0x3E000000#32 = ((1 / 8 : ℝ) : EReal) := by
  simp [Ideal.ofBits, Ideal.ieee, -EReal.coe_mul]; norm_num
theorem neg_eighth : Ideal.ofBits .f32 0xBE000000#32 = ((-(1 / 8) : ℝ) : EReal) := by
  simp [Ideal.ofBits, Ideal.ieee, -EReal.coe_mul]; norm_num
/-- The small number added to the mean square is a positive real. -/
theorem eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num
theorem inf : Ideal.ofBits .f32 0x7F800000#32 = (⊤ : EReal) := by
  simp [Ideal.ofBits, Ideal.ieee, -EReal.coe_mul]

end Cert.Proof.Consts
-- ==== Proof.KV.Vec.lean ====
module

public import proofs.«01_k».proof.Proof.Gen.KernelIdeal.Skeleton
public import proofs.«01_k».proof.Proof.Math.Real
public import proofs.«01_k».proof.Proof.Consts
public import Idealize.ShloMosaic.Lib.Pointwise
public import Idealize.ShloMosaic.Lib.IdealHost
public import Idealize.ShloMosaic.Lib.WordCmp

/-!
What the vector expressions of one block of attention hold, element by element.

The kernel writes the same five expressions for each of the four head pairs, for
the diagonal block, for the block before it and inside the loop. They are named
here once: the negated scores of a pair, their log-sigmoid, the weighted values,
and the row totals.
-/

@[expose] public section

namespace Cert.Proof.KV
open Idealize Idealize.ShloMosaic Cert.KernelIdeal Cert.KernelIdeal.Gen Cert.Proof.Math Finset

set_option maxRecDepth 16384

/-- The lane number at every position of a tile of 128 columns. -/
abbrev lanes : IVec S256x128 32 := iota .tc S256x128 32 [1] iota_S256x128_d1_w32

/-- The two heads of a pair, one above the other, each with the other's lanes zeroed. -/
noncomputable def stk (q : FVec Ideal S256x128 .bf16) : FVec Ideal S512x128 .bf16 :=
  k0_pay14 lanes q k0_pay13

/-- The negated scores of a pair against one block of keys. -/
noncomputable def nzV (q : FVec Ideal S256x128 .bf16) (k : Vec Ideal S256x128 .bf16) :
    FVec Ideal S512x256 .f32 := k0_pay102 (stk q) k

/-- The log of one minus the gate at every position of a block. -/
noncomputable def lfV (q : FVec Ideal S256x128 .bf16) (k : Vec Ideal S256x128 .bf16) :
    FVec Ideal S512x256 .f32 := k0_pay103 (stk q) k

/-- The same, zero at and after the diagonal. -/
noncomputable def mlfV (q : FVec Ideal S256x128 .bf16) (k : Vec Ideal S256x128 .bf16) :
    FVec Ideal S512x256 .f32 := k0_pay17 lanes q k0_pay13 k

/-- The weighted values of one whole block. -/
noncomputable def pvV (tri : FVec Ideal S256x256 .bf16) (q : FVec Ideal S256x128 .bf16)
    (k v : Vec Ideal S256x128 .bf16) : FVec Ideal S512x128 .f32 :=
  matmul (φ₂ := .bf16) dot_S512x256_S256x128_S512x128_1_0_0_1_n_n none
    (truncf .bf16 (exp (addf (subf (lfV q k) (nzV q k))
      (matmul dot_S512x256_S256x256_S512x256_1_0_0_1_n_n none (truncf .bf16 (lfV q k) bitsLt_bf16_f32) tri
        (constant S512x256 .f32 0x00000000#32)))) bitsLt_bf16_f32) v
    (constant S512x128 .f32 0x00000000#32)

/-- The weighted values of the diagonal block. -/
noncomputable def mpvV (tri : FVec Ideal S256x256 .bf16) (q : FVec Ideal S256x128 .bf16)
    (k v : Vec Ideal S256x128 .bf16) : FVec Ideal S512x128 .f32 :=
  k0_pay21 v k0_pay16 (k0_pay19 lanes tri q k0_pay13 k)

theorem lane_lt {l : ℕ} (h : l < 128) : (IntOp.cmpi .slt (BitVec.ofNat 32 l) 64#32 = 1) = (l < 64) := by
  have : ∀ l : Fin 128, (IntOp.cmpi .slt (BitVec.ofNat 32 l.val) 64#32 = 1) = (l.val < 64) := by decide +kernel
  exact this ⟨l, h⟩
theorem lane_ge {l : ℕ} (h : l < 128) : (IntOp.cmpi .sge (BitVec.ofNat 32 l) 64#32 = 1) = ¬(l < 64) := by
  have : ∀ l : Fin 128, (IntOp.cmpi .sge (BitVec.ofNat 32 l.val) 64#32 = 1) = ¬(l.val < 64) := by decide +kernel
  exact this ⟨l, h⟩

theorem stk_apply (q : FVec Ideal S256x128 .bf16) (r : Fin 512) (l : Fin 128) :
    stk q (ix2 r l) = if h : r.val < 256 then (if l.val < 64 then q (ix2 ⟨r.val, h⟩ l) else 0)
      else (if l.val < 64 then 0 else q (ix2 ⟨r.val - 256, by omega⟩ l)) := by
  unfold stk k0_pay14 k0_pay13
  pointwise
  split <;> simp only [Scalar.select, lane_lt l.isLt, lane_ge l.isLt, ite_not]

theorem coe_sum {ι : Type*} (s : Finset ι) (f : ι → ℝ) : ((∑ i ∈ s, f i : ℝ) : EReal) = ∑ i ∈ s, (f i : EReal) := by
  induction s using Finset.cons_induction with
  | empty => simp
  | cons a s h ih => rw [sum_cons, sum_cons, EReal.coe_add, ih]

theorem sum_fin {n : ℕ} (f : Fin n → EReal) (g : ℕ → ℝ) (h : ∀ i : Fin n, f i = (g i.val : EReal)) :
    ∑ i, f i = ((∑ i ∈ range n, g i : ℝ) : EReal) := by
  rw [coe_sum, ← Fin.sum_univ_eq_sum_range (fun i => (g i : EReal)) n]
  exact sum_congr rfl fun i _ => h i

/-- The negated score of row `r` of a pair against key `j` of a block. -/
noncomputable def nzR (Q K : ℕ → ℕ → ℝ) (r j : ℕ) : ℝ :=
  ∑ d ∈ range 64, Q (r % 256) (r / 256 * 64 + d) * K j (r / 256 * 64 + d)

theorem half_sum (f : ℕ → ℝ) (hh : ℕ) (hhh : hh < 2) :
    ∑ l ∈ range 128, (if l / 64 = hh then f l else 0) = ∑ d ∈ range 64, f (hh * 64 + d) := by
  rw [show (128 : ℕ) = 64 + 64 from rfl, sum_range_add]
  have a : ∀ x ∈ range 64, x / 64 = 0 := fun x hx => Nat.div_eq_of_lt (mem_range.mp hx)
  have b : ∀ x ∈ range 64, (64 + x) / 64 = 1 := fun x hx => by have := mem_range.mp hx; omega
  interval_cases hh
  · rw [sum_congr rfl fun x hx => by rw [if_pos (a x hx)], sum_congr (s₁ := range 64) (f := fun x => if (64 + x) / 64 = 0 then f (64 + x) else 0) (g := fun _ => 0) rfl fun x hx => by rw [if_neg (by rw [b x hx]; decide)]]
    simp
  · rw [sum_congr (s₁ := range 64) (f := fun x => if x / 64 = 1 then f x else 0) (g := fun _ => 0) rfl fun x hx => by rw [if_neg (by rw [a x hx]; decide)], sum_congr (s₁ := range 64) (f := fun x => if (64 + x) / 64 = 1 then f (64 + x) else 0) rfl fun x hx => by rw [if_pos (b x hx)]]
    simp

section
variable {q : FVec Ideal S256x128 .bf16} {k v : Vec Ideal S256x128 .bf16} {Q K V : ℕ → ℕ → ℝ}
  (hq : ∀ (r : Fin 256) (l : Fin 128), q (ix2 r l) = (Q r.val l.val : EReal))
  (hk : ∀ (j : Fin 256) (l : Fin 128), k (ix2 j l) = (K j.val l.val : EReal))
include hq

theorem stk_real (r : Fin 512) (l : Fin 128) :
    stk q (ix2 r l) = ((if l.val / 64 = r.val / 256 then Q (r.val % 256) l.val else 0 : ℝ) : EReal) := by
  rw [stk_apply]
  have hr := r.isLt; have hl := l.isLt
  by_cases h : r.val < 256 <;> by_cases h' : l.val < 64
  · rw [dif_pos h, if_pos h', if_pos (by omega), hq, Nat.mod_eq_of_lt h]
  · rw [dif_pos h, if_neg h', if_neg (by omega)]; rfl
  · rw [dif_neg h, if_pos h', if_neg (by omega)]; rfl
  · rw [dif_neg h, if_neg h', if_pos (by omega), hq]
    congr 2; dsimp only; omega

include hk

theorem nzV_real (r : Fin 512) (j : Fin 256) : nzV q k (ix2 r j) = (nzR Q K r.val j.val : EReal) := by
  unfold nzV k0_pay102
  pointwise
  rw [sum_fin _ (fun l => if l / 64 = r.val / 256 then Q (r.val % 256) l * K j.val l else 0)]
  · rw [half_sum _ _ (by have := r.isLt; omega)]; rfl
  · intro l
    rw [stk_real hq, hk, ← EReal.coe_mul]
    split <;> simp

omit hq hk in
theorem log2e : Named.named (F := Ideal) κ "log2e" (φ := .f32) 0xBFB8AA3B#32 = ((-(Real.log 2)⁻¹ : ℝ) : EReal) :=
  IdealRules.named_const.ideal_named_scalar _ _ _ _ rfl

omit hq hk in
theorem lgate_scalar (x : ℝ) :
    min (x : EReal) 0 - Ideal.log (1 + FloatOps.exp2 (F := Ideal) (φ := .f32)
      (FloatOps.absf (F := Ideal) (φ := .f32) (x : EReal) * Named.named κ "log2e" 3216550459#32)) = (lgate x : EReal) := by
  rw [log2e, Ideal.absf_def]
  have h2 : (0 : ℝ) < Real.log 2 := Real.log_pos (by norm_num)
  have e1 : max (x : EReal) (-(x : EReal)) = ((|x| : ℝ) : EReal) := by
    rw [← EReal.coe_neg]; exact (EReal.coe_strictMono.monotone.map_max).symm
  have e2 : Real.rpow 2 (|x| * -(Real.log 2)⁻¹) = Real.exp (-|x|) := by
    show (2 : ℝ) ^ (|x| * -(Real.log 2)⁻¹) = _
    rw [Real.rpow_def_of_pos (by norm_num)]
    congr 1; field_simp
  rw [e1, ← EReal.coe_mul]
  show min (x : EReal) 0 - Ideal.log (1 + Ideal.exp2 ((|x| * -(Real.log 2)⁻¹ : ℝ) : EReal)) = _
  rw [Ideal.exp2_coe, e2, ← EReal.coe_one, ← EReal.coe_add, Ideal.log_coe,
    if_neg (not_le.mpr (by positivity)), ← EReal.coe_zero, ← EReal.coe_strictMono.monotone.map_min, ← EReal.coe_sub]
  rfl

theorem lfV_real (r : Fin 512) (j : Fin 256) :
    lfV q k (ix2 r j) = (lgate (nzR Q K r.val j.val) : EReal) := by
  have h := nzV_real hq hk r j
  unfold nzV at h
  unfold lfV k0_pay103
  pointwise
  rw [h, lgate_scalar]

omit hq hk in
theorem diag_mask (r : Fin 512) (j : Fin 256) :
    (k0_pay16 (ix2 r j) = 1) = (j.val < r.val % 256) := by
  unfold k0_pay16
  pointwise
  have hr := r.isLt; have hj := j.isLt
  have e : (BitVec.ofNat 32 r.val &&& 255#32) = BitVec.ofNat 32 (r.val % 256) := by
    have : ∀ r : Fin 512, (BitVec.ofNat 32 r.val &&& 255#32) = BitVec.ofNat 32 (r.val % 256) := by decide +kernel
    exact this r
  show (IntOp.cmpi .slt (BitVec.ofNat 32 j.val) (BitVec.ofNat 32 r.val &&& 255#32) = 1) = _
  rw [e]
  exact propext (WordCmp.cmpi_slt_ofNat_eq_one_iff (by omega) (by omega))

theorem mlfV_real (r : Fin 512) (j : Fin 256) :
    mlfV q k (ix2 r j) = ((if j.val < r.val % 256 then lgate (nzR Q K r.val j.val) else 0 : ℝ) : EReal) := by
  have h := nzV_real hq hk r j
  have e : k0_pay15 lanes q k0_pay13 k = nzV q k := rfl
  unfold mlfV k0_pay17
  pointwise
  rw [e, h, lgate_scalar, Scalar.select]
  simp only [diag_mask]
  split <;> rfl

theorem totV_real (r : Fin 512) (x : Fin 1) :
    k0_pay22 (lfV q k) (ix2 r x) = ((∑ j ∈ range 256, lgate (nzR Q K r.val j) : ℝ) : EReal) := by
  unfold k0_pay22
  pointwise
  exact sum_fin _ (fun j => lgate (nzR Q K r.val j)) fun j => lfV_real hq hk r j

theorem mtotV_real (r : Fin 512) (x : Fin 1) :
    k0_pay22 (mlfV q k) (ix2 r x)
      = ((∑ j ∈ range 256, if j < r.val % 256 then lgate (nzR Q K r.val j) else 0 : ℝ) : EReal) := by
  unfold k0_pay22
  pointwise
  exact sum_fin _ (fun j => if j < r.val % 256 then lgate (nzR Q K r.val j) else 0) fun j => mlfV_real hq hk r j

variable {tri : FVec Ideal S256x256 .bf16}
  (ht : ∀ j' j : Fin 256, tri (ix2 j' j) = ((if j.val < j'.val then 1 else 0 : ℝ) : EReal))
  (hv : ∀ (j : Fin 256) (l : Fin 128), v (ix2 j l) = (V j.val l.val : EReal))
include ht hv

theorem pvV_real (r : Fin 512) (l : Fin 128) :
    pvV tri q k v (ix2 r l) = ((∑ j ∈ range 256, Real.exp (lgate (-(nzR Q K r.val j)) + ∑ j' ∈ range 256,
        lgate (nzR Q K r.val j') * (if j < j' then 1 else 0)) * V j l.val : ℝ) : EReal) := by
  unfold pvV
  pointwise
  refine sum_fin _ (fun j => Real.exp (lgate (-(nzR Q K r.val j)) + ∑ j' ∈ range 256,
        lgate (nzR Q K r.val j') * (if j < j' then 1 else 0)) * V j l.val) fun j => ?_
  rw [hv, lfV_real hq hk, nzV_real hq hk, sum_fin _ (fun j' => lgate (nzR Q K r.val j') * (if j.val < j' then 1 else 0))]
  · rw [← EReal.coe_sub, lgate_sub, ← EReal.coe_add, EReal.coe_mul]; rfl
  · intro j'
    rw [lfV_real hq hk, ht, ← EReal.coe_mul]

theorem mpvV_real (r : Fin 512) (l : Fin 128) :
    mpvV tri q k v (ix2 r l) = ((∑ j ∈ range 256, (if j < r.val % 256 then Real.exp (lgate (-(nzR Q K r.val j)) + ∑ j' ∈ range 256,
        (if j' < r.val % 256 then lgate (nzR Q K r.val j') else 0) * (if j < j' then 1 else 0)) else 0) * V j l.val : ℝ) : EReal) := by
  unfold mpvV k0_pay21 k0_pay19
  pointwise
  refine sum_fin _ (fun j => (if j < r.val % 256 then Real.exp (lgate (-(nzR Q K r.val j)) + ∑ j' ∈ range 256,
        (if j' < r.val % 256 then lgate (nzR Q K r.val j') else 0) * (if j < j' then 1 else 0)) else 0) * V j l.val) fun j => ?_
  have e : k0_pay15 lanes q k0_pay13 k = nzV q k := rfl
  have e' : k0_pay17 lanes q k0_pay13 k = mlfV q k := rfl
  simp only [e, e', Scalar.select, diag_mask]
  rw [hv, mlfV_real hq hk, nzV_real hq hk, sum_fin _ (fun j' => (if j' < r.val % 256 then lgate (nzR Q K r.val j') else 0) * (if j.val < j' then 1 else 0))]
  · by_cases h : j.val < r.val % 256
    · rw [if_pos h, if_pos h, if_pos h, ← EReal.coe_sub, lgate_sub, ← EReal.coe_add, EReal.coe_mul]; rfl
    · rw [if_neg h, if_neg h]; simp
  · intro j'
    rw [mlfV_real hq hk, ht, ← EReal.coe_mul]
end
end Cert.Proof.KV
-- ==== Proof.KV.Step.lean ====
module

public import proofs.«01_k».proof.Proof.KV.Vec
public import proofs.«01_k».proof.Proof.Gen.KernelIdeal.Launch
public import Idealize.ShloMosaic.Lib.WritesUnit
public import Idealize.ShloMosaic.Lib.Pipeline.FrameBody

/-!
One block of the sweep, on the buffers.

`P` is the projected layer input: row `t` of the whole batch, column `c` of the
4096. `att P t c lo` is what row `t` has gathered in output column `c` from the
positions `lo ≤ j < t`, and `tot P t h lo` the sum of the logs it has passed.
`Swept` says that the accumulator and the carry hold these for a tile, and a trip
of the loop takes `Swept` from one block to the block before it.
-/

@[expose] public section

namespace Cert.Proof.KV
open Idealize Idealize.ShloMosaic Cert.KernelIdeal Cert.KernelIdeal.Gen Cert.Proof.Math Finset
open Idealize.ShloMosaic.TcCoe

set_option maxRecDepth 16384

/-- The negated score of row `t` against position `j` at head `h`. -/
noncomputable def sc (P : ℕ → ℕ → ℝ) (t h j : ℕ) : ℝ :=
  ∑ d ∈ range 64, P t (512 + (64 * h + d)) * (-(1 / 8)) * P j (1024 + (64 * h + d))

noncomputable def att (P : ℕ → ℕ → ℝ) (t h c lo : ℕ) : ℝ :=
  W (fun j => lgate (sc P t h j)) (fun j => lgate (-(sc P t h j))) (fun j => P j (1536 + c)) lo t

noncomputable def tot (P : ℕ → ℕ → ℝ) (t h lo : ℕ) : ℝ := G (fun j => lgate (sc P t h j)) lo t

/-- A unit-stride load at an index is the buffer at the shifted index. -/
theorem readAt_unit {sig : RefSig} {κ : Kind} {sp : Space} {s : Shape} {e : EltTy} {Val : EltTy → Type} (v : View sig κ sp s e)
    {off size : Fin s.rank → ℕ} (inb : ∀ a, off a + size a ≤ s.size a) (f : v.ty.Contents Val)
    (x : (Rect.unit off size inb).shape.Idx) (y : s.Idx) (h : ∀ a, (y a).val = off a + (x a).val) :
    v.readAt Val (Rect.unit off size inb).toLoadRect f x = v.read Val f y := by
  rw [View.readAt_apply]
  congr 1
  funext a
  apply Fin.ext
  rw [h a]
  show off a + 1 * (x a).val = _
  rw [Nat.one_mul]

/-- The new accumulator of a pair after one whole block. -/
noncomputable def accV (tri : FVec Ideal S256x256 .bf16) (q : FVec Ideal S256x128 .bf16)
    (k v : Vec Ideal S256x128 .bf16) (cy : Vec Ideal S1x512x1 .f32) (acc : Vec Ideal S1x512x128 .f32) : FVec Ideal S1x512x128 .f32 :=
  k0_pay104 tri (k0_pay100 cy) (stk q) k v acc

/-- The new carry of a pair after one whole block. -/
noncomputable def cyV (q : FVec Ideal S256x128 .bf16) (k : Vec Ideal S256x128 .bf16) (cy : Vec Ideal S1x512x1 .f32) :
    FVec Ideal S1x512x1 .f32 := k0_pay105 (k0_pay100 cy) (stk q) k

section
variable {P : ℕ → ℕ → ℝ} {t0 b p : ℕ} {q : FVec Ideal S256x128 .bf16} {k v : Vec Ideal S256x128 .bf16}
  (hq : ∀ (r : Fin 256) (l : Fin 128), q (ix2 r l) = ((P (t0 + r.val) (512 + (128 * p + l.val)) * (-(1 / 8)) : ℝ) : EReal))
  (hk : ∀ (j : Fin 256) (l : Fin 128), k (ix2 j l) = (P (b + j.val) (1024 + (128 * p + l.val)) : EReal))

theorem nzR_sc (r j : ℕ) :
    nzR (fun r l => P (t0 + r) (512 + (128 * p + l)) * (-(1 / 8))) (fun j l => P (b + j) (1024 + (128 * p + l))) r j
      = sc P (t0 + r % 256) (2 * p + r / 256) (b + j) := by
  unfold nzR sc
  refine sum_congr rfl fun d _ => ?_
  dsimp only
  rw [show 128 * p + (r / 256 * 64 + d) = 64 * (2 * p + r / 256) + d by ring]

variable {tri : FVec Ideal S256x256 .bf16}
  (ht : ∀ j' j : Fin 256, tri (ix2 j' j) = ((if j.val < j'.val then 1 else 0 : ℝ) : EReal))
  (hv : ∀ (j : Fin 256) (l : Fin 128), v (ix2 j l) = (P (b + j.val) (1536 + (128 * p + l.val)) : EReal))

include hq hk in
theorem tot_block (r : Fin 512) (x : Fin 1) : k0_pay22 (lfV q k) (ix2 r x)
      = (G (fun j => lgate (sc P (t0 + r.val % 256) (2 * p + r.val / 256) j)) b (b + 256) : EReal) := by
  rw [totV_real (Q := fun r l => P (t0 + r) (512 + (128 * p + l)) * (-(1 / 8))) (K := fun j l => P (b + j) (1024 + (128 * p + l))) hq hk]
  simp only [nzR_sc]
  rw [tot_whole (fun j => lgate (sc P (t0 + r.val % 256) (2 * p + r.val / 256) j))]

include hq hk ht hv in
theorem pv_block (r : Fin 512) (l : Fin 128) : pvV tri q k v (ix2 r l)
      = (W (fun j => lgate (sc P (t0 + r.val % 256) (2 * p + r.val / 256) j)) (fun j => lgate (-(sc P (t0 + r.val % 256) (2 * p + r.val / 256) j)))
          (fun j => P j (1536 + (128 * p + l.val))) b (b + 256) : EReal) := by
  rw [pvV_real (Q := fun r l => P (t0 + r) (512 + (128 * p + l)) * (-(1 / 8))) (K := fun j l => P (b + j) (1024 + (128 * p + l)))
    (V := fun j l => P (b + j) (1536 + (128 * p + l))) hq hk ht hv]
  simp only [nzR_sc]
  rw [← block_whole]

include hq hk in
/-- The total of the diagonal block. -/
theorem mtot_block (hb : b = t0) (r : Fin 512) (x : Fin 1) : k0_pay22 (mlfV q k) (ix2 r x)
      = (tot P (t0 + r.val % 256) (2 * p + r.val / 256) t0 : EReal) := by
  subst hb
  rw [mtotV_real (Q := fun r l => P (b + r) (512 + (128 * p + l)) * (-(1 / 8))) (K := fun j l => P (b + j) (1024 + (128 * p + l))) hq hk]
  simp only [nzR_sc]
  rw [tot_masked (fun j => lgate (sc P (b + r.val % 256) (2 * p + r.val / 256) j)) _ _ (by omega)]
  rfl

include hq hk ht hv in
/-- The weighted values of the diagonal block. -/
theorem mpv_block (hb : b = t0) (r : Fin 512) (l : Fin 128) : mpvV tri q k v (ix2 r l)
      = (att P (t0 + r.val % 256) (2 * p + r.val / 256) (128 * p + l.val) t0 : EReal) := by
  subst hb
  rw [mpvV_real (Q := fun r l => P (b + r) (512 + (128 * p + l)) * (-(1 / 8))) (K := fun j l => P (b + j) (1024 + (128 * p + l)))
    (V := fun j l => P (b + j) (1536 + (128 * p + l))) hq hk ht hv]
  simp only [nzR_sc]
  unfold att
  rw [← block_masked _ _ _ _ _ (by omega : r.val % 256 ≤ 256)]

theorem accV_apply (cy : Vec Ideal S1x512x1 .f32) (acc : Vec Ideal S1x512x128 .f32) (x : Fin 1) (r : Fin 512) (l : Fin 128) :
    accV tri q k v cy acc (ix3 x r l) = acc (ix3 0 r l) + pvV tri q k v (ix2 r l) * Ideal.exp (cy (ix3 0 r 0)) := by
  unfold accV k0_pay104 k0_pay100 pvV
  pointwise
  rfl

theorem cyV_apply (cy : Vec Ideal S1x512x1 .f32) (x : Fin 1) (r : Fin 512) (y : Fin 1) :
    cyV q k cy (ix3 x r y) = cy (ix3 0 r 0) + k0_pay22 (lfV q k) (ix2 r 0) := by
  unfold cyV k0_pay105 k0_pay100 k0_pay22
  pointwise
  rfl

include hq hk ht hv in
theorem acc_step (cy : Vec Ideal S1x512x1 .f32) (acc : Vec Ideal S1x512x128 .f32) (hlo : b + 256 ≤ t0)
    (hacc : ∀ (r : Fin 512) (l : Fin 128), acc (ix3 0 r l) = (att P (t0 + r.val % 256) (2 * p + r.val / 256) (128 * p + l.val) (b + 256) : EReal))
    (hcy : ∀ r : Fin 512, cy (ix3 0 r 0) = (tot P (t0 + r.val % 256) (2 * p + r.val / 256) (b + 256) : EReal))
    (x : Fin 1) (r : Fin 512) (l : Fin 128) :
    accV tri q k v cy acc (ix3 x r l) = (att P (t0 + r.val % 256) (2 * p + r.val / 256) (128 * p + l.val) b : EReal) := by
  rw [accV_apply, hacc, hcy, pv_block hq hk ht hv, Ideal.exp_coe, ← EReal.coe_mul, ← EReal.coe_add]
  unfold att tot
  rw [W_split _ _ _ (show b ≤ b + 256 by omega) (show b + 256 ≤ t0 + r.val % 256 by omega)]

include hq hk in
theorem cy_step (cy : Vec Ideal S1x512x1 .f32) (hlo : b + 256 ≤ t0)
    (hcy : ∀ r : Fin 512, cy (ix3 0 r 0) = (tot P (t0 + r.val % 256) (2 * p + r.val / 256) (b + 256) : EReal))
    (x : Fin 1) (r : Fin 512) (y : Fin 1) :
    cyV q k cy (ix3 x r y) = (tot P (t0 + r.val % 256) (2 * p + r.val / 256) b : EReal) := by
  rw [cyV_apply, hcy, tot_block hq hk, ← EReal.coe_add]
  unfold tot
  rw [G_split _ (show b ≤ b + 256 by omega) (show b + 256 ≤ t0 + r.val % 256 by omega)]
end
end Cert.Proof.KV
-- ==== Proof.KV.Trip.lean ====
module

public import proofs.«01_k».proof.Proof.KV.Step

/-!
One trip of the sweep on the buffers: the four pairs' accumulators and carries,
each read back from the four slices that the trip stores.
-/

@[expose] public section

namespace Cert.Proof.KV
open Idealize Idealize.ShloMosaic Cert.KernelIdeal Cert.KernelIdeal.Gen Cert.Proof.Math Finset
open Idealize.ShloMosaic.TcCoe

set_option maxRecDepth 16384

theorem off12_eq (k : ℕ) (h : k < 32) : k0_off12 (BitVec.ofNat 32 k) = ![k * 256, 0] := by
  revert h; revert k; decide +kernel
theorem off13_eq (k : ℕ) (h : k < 32) : k0_off13 (BitVec.ofNat 32 k) = ![k * 256, 128] := by
  revert h; revert k; decide +kernel
theorem off14_eq (k : ℕ) (h : k < 32) : k0_off14 (BitVec.ofNat 32 k) = ![k * 256, 256] := by
  revert h; revert k; decide +kernel
theorem off15_eq (k : ℕ) (h : k < 32) : k0_off15 (BitVec.ofNat 32 k) = ![k * 256, 384] := by
  revert h; revert k; decide +kernel

/-- The accumulator and the carry of a tile that has gathered the positions from `lo` on. -/
def Swept (P : ℕ → ℕ → ℝ) (t0 lo : ℕ) (g13 : S4x512x128.Idx → EReal) (g14 : S4x512x1.Idx → EReal) : Prop :=
  (∀ (p : Fin 4) (r : Fin 512) (l : Fin 128),
    g13 (ix3 p r l) = (att P (t0 + r.val % 256) (2 * p.val + r.val / 256) (128 * p.val + l.val) lo : EReal))
  ∧ ∀ (p : Fin 4) (r : Fin 512),
    g14 (ix3 p r 0) = (tot P (t0 + r.val % 256) (2 * p.val + r.val / 256) lo : EReal)

/-- The first `n` rows of the caches hold the keys and values of the positions from `base` on. -/
def Cached (P : ℕ → ℕ → ℝ) (base n : ℕ) (g8 g9 : S8192x512.Idx → EReal) : Prop :=
  ∀ (j : Fin 8192) (c : Fin 512), j.val < n →
    g8 (ix2 j c) = (P (base + j.val) (1024 + c.val) : EReal) ∧ g9 (ix2 j c) = (P (base + j.val) (1536 + c.val) : EReal)

section
variable (a13 : View sig .tc .vmem S4x512x128 .f32) (f13 : a13.ty.Contents (Elt Ideal))
  (a14 : View sig .tc .vmem S4x512x1 .f32) (f14 : a14.ty.Contents (Elt Ideal))

theorem read4_13 (w0 w1 w2 w3 : FVec Ideal S1x512x128 .f32) (p : Fin 4) (r : Fin 512) (l : Fin 128) :
    a13.read (Elt Ideal) (a13.writes (Elt Ideal) f13 [
      ⟨Rect.unit (s := S4x512x128) ![3, 0, 0] S1x512x128.size inb_S4x512x128_S1x512x128_3_0_0, w3⟩,
      ⟨Rect.unit (s := S4x512x128) ![2, 0, 0] S1x512x128.size inb_S4x512x128_S1x512x128_2_0_0, w2⟩,
      ⟨Rect.unit (s := S4x512x128) ![1, 0, 0] S1x512x128.size inb_S4x512x128_S1x512x128_1_0_0, w1⟩,
      ⟨Rect.unit (s := S4x512x128) ![0, 0, 0] S1x512x128.size inb_S4x512x128_S1x512x128_0_0_0, w0⟩]) (ix3 p r l)
    = (![w0, w1, w2, w3] p) (ix3 0 r l) := by
  fin_cases p
  · rw [View.read_writes_cons_unit_of_not_mem a13 f13 _ _ _ _ rfl 0 (by left; simp),
      View.read_writes_cons_unit_of_not_mem a13 f13 _ _ _ _ rfl 0 (by left; simp),
      View.read_writes_cons_unit_of_not_mem a13 f13 _ _ _ _ rfl 0 (by left; simp)]
    exact View.read_writes_cons_unit_of_mem a13 f13 _ _ _ _ (ix3 0 r l) rfl (by intro a; fin_cases a <;> simp)
  · rw [View.read_writes_cons_unit_of_not_mem a13 f13 _ _ _ _ rfl 0 (by left; simp),
      View.read_writes_cons_unit_of_not_mem a13 f13 _ _ _ _ rfl 0 (by left; simp)]
    exact View.read_writes_cons_unit_of_mem a13 f13 _ _ _ _ (ix3 0 r l) rfl (by intro a; fin_cases a <;> simp)
  · rw [View.read_writes_cons_unit_of_not_mem a13 f13 _ _ _ _ rfl 0 (by left; simp)]
    exact View.read_writes_cons_unit_of_mem a13 f13 _ _ _ _ (ix3 0 r l) rfl (by intro a; fin_cases a <;> simp)
  · exact View.read_writes_cons_unit_of_mem a13 f13 _ _ _ _ (ix3 0 r l) rfl (by intro a; fin_cases a <;> simp)

theorem read4_14 (w0 w1 w2 w3 : FVec Ideal S1x512x1 .f32) (p : Fin 4) (r : Fin 512) (l : Fin 1) :
    a14.read (Elt Ideal) (a14.writes (Elt Ideal) f14 [
      ⟨Rect.unit (s := S4x512x1) ![3, 0, 0] S1x512x1.size inb_S4x512x1_S1x512x1_3_0_0, w3⟩,
      ⟨Rect.unit (s := S4x512x1) ![2, 0, 0] S1x512x1.size inb_S4x512x1_S1x512x1_2_0_0, w2⟩,
      ⟨Rect.unit (s := S4x512x1) ![1, 0, 0] S1x512x1.size inb_S4x512x1_S1x512x1_1_0_0, w1⟩,
      ⟨Rect.unit (s := S4x512x1) ![0, 0, 0] S1x512x1.size inb_S4x512x1_S1x512x1_0_0_0, w0⟩]) (ix3 p r l)
    = (![w0, w1, w2, w3] p) (ix3 0 r l) := by
  fin_cases p
  · rw [View.read_writes_cons_unit_of_not_mem a14 f14 _ _ _ _ rfl 0 (by left; simp),
      View.read_writes_cons_unit_of_not_mem a14 f14 _ _ _ _ rfl 0 (by left; simp),
      View.read_writes_cons_unit_of_not_mem a14 f14 _ _ _ _ rfl 0 (by left; simp)]
    exact View.read_writes_cons_unit_of_mem a14 f14 _ _ _ _ (ix3 0 r l) rfl (by intro a; fin_cases a <;> simp)
  · rw [View.read_writes_cons_unit_of_not_mem a14 f14 _ _ _ _ rfl 0 (by left; simp),
      View.read_writes_cons_unit_of_not_mem a14 f14 _ _ _ _ rfl 0 (by left; simp)]
    exact View.read_writes_cons_unit_of_mem a14 f14 _ _ _ _ (ix3 0 r l) rfl (by intro a; fin_cases a <;> simp)
  · rw [View.read_writes_cons_unit_of_not_mem a14 f14 _ _ _ _ rfl 0 (by left; simp)]
    exact View.read_writes_cons_unit_of_mem a14 f14 _ _ _ _ (ix3 0 r l) rfl (by intro a; fin_cases a <;> simp)
  · exact View.read_writes_cons_unit_of_mem a14 f14 _ _ _ _ (ix3 0 r l) rfl (by intro a; fin_cases a <;> simp)

end

/-- The queries of pair `p` in a tile's 512 columns. -/
noncomputable def qS0 (v9 : FVec Ideal S256x512 .bf16) : FVec Ideal S256x128 .bf16 :=
  extractStridedSlice S256x128 ![0, 0] v9 slices_S256x512_o0_0_S256x128
noncomputable def qS1 (v9 : FVec Ideal S256x512 .bf16) : FVec Ideal S256x128 .bf16 :=
  extractStridedSlice S256x128 ![0, 128] v9 slices_S256x512_o0_128_S256x128
noncomputable def qS2 (v9 : FVec Ideal S256x512 .bf16) : FVec Ideal S256x128 .bf16 :=
  extractStridedSlice S256x128 ![0, 256] v9 slices_S256x512_o0_256_S256x128
noncomputable def qS3 (v9 : FVec Ideal S256x512 .bf16) : FVec Ideal S256x128 .bf16 :=
  extractStridedSlice S256x128 ![0, 384] v9 slices_S256x512_o0_384_S256x128

section
variable {P : ℕ → ℕ → ℝ} {t0 : ℕ} {v9 : FVec Ideal S256x512 .bf16}
  (hv9 : ∀ (r : Fin 256) (c : Fin 512), v9 (ix2 r c) = ((P (t0 + r.val) (512 + c.val) * (-(1 / 8)) : ℝ) : EReal))
include hv9
theorem qS0_apply (r : Fin 256) (l : Fin 128) : qS0 v9 (ix2 r l) = ((P (t0 + r.val) (512 + (128 * 0 + l.val)) * (-(1 / 8)) : ℝ) : EReal) := by
  unfold qS0; pointwise; rw [hv9]
theorem qS1_apply (r : Fin 256) (l : Fin 128) : qS1 v9 (ix2 r l) = ((P (t0 + r.val) (512 + (128 * 1 + l.val)) * (-(1 / 8)) : ℝ) : EReal) := by
  unfold qS1; pointwise; rw [hv9]
theorem qS2_apply (r : Fin 256) (l : Fin 128) : qS2 v9 (ix2 r l) = ((P (t0 + r.val) (512 + (128 * 2 + l.val)) * (-(1 / 8)) : ℝ) : EReal) := by
  unfold qS2; pointwise; rw [hv9]
theorem qS3_apply (r : Fin 256) (l : Fin 128) : qS3 v9 (ix2 r l) = ((P (t0 + r.val) (512 + (128 * 3 + l.val)) * (-(1 / 8)) : ℝ) : EReal) := by
  unfold qS3; pointwise; rw [hv9]
end

/-- A block of 256 rows and 128 columns loaded from a cache. -/
theorem load_cache (v : View sig .tc .vmem S8192x512 .bf16) (f : v.ty.Contents (Elt Ideal)) {off : Fin 2 → ℕ}
    (inb : ∀ a, off a + S256x128.size a ≤ S8192x512.size a) (o c0 : ℕ) (ho : off = ![o, c0]) (ho' : o + 256 ≤ 8192) (hc : c0 + 128 ≤ 512)
    (j : Fin 256) (l : Fin 128) :
    v.readAt (Elt Ideal) (Rect.unit (s := S8192x512) off S256x128.size inb).toLoadRect f (ix2 j l)
      = v.read (Elt Ideal) f (ix2 ⟨o + j.val, by omega⟩ ⟨c0 + l.val, by omega⟩) := by
  subst ho
  exact readAt_unit v inb f _ _ (by intro a; fin_cases a <;> rfl)

section
variable {P : ℕ → ℕ → ℝ} {t0 base n : ℕ} {v9 : FVec Ideal S256x512 .bf16} {tri : FVec Ideal S256x256 .bf16}
  {a8 a9 : View sig .tc .vmem S8192x512 .bf16} {f8 : a8.ty.Contents (Elt Ideal)} {f9 : a9.ty.Contents (Elt Ideal)}
  {a13 : View sig .tc .vmem S4x512x128 .f32} {f13 : a13.ty.Contents (Elt Ideal)}
  {a14 : View sig .tc .vmem S4x512x1 .f32} {f14 : a14.ty.Contents (Elt Ideal)} {kb : BitVec 32} {hk : k0_chk1 kb}
  {w0 w1 w2 w3 : FVec Ideal S1x512x128 .f32} {x0 x1 x2 x3 : FVec Ideal S1x512x1 .f32}

theorem trip {N : ℕ} (hv9 : ∀ (r : Fin 256) (c : Fin 512), v9 (ix2 r c) = ((P (t0 + r.val) (512 + c.val) * (-(1 / 8)) : ℝ) : EReal))
    (ht : ∀ j' j : Fin 256, tri (ix2 j' j) = ((if j.val < j'.val then 1 else 0 : ℝ) : EReal))
    (hkb : kb = BitVec.ofNat 32 n) (hn : n < 32) (hlo : base + 256 * n + 256 ≤ t0) (hN : 256 * n + 256 ≤ N)
    (hc : Cached P base N (a8.read (Elt Ideal) f8) (a9.read (Elt Ideal) f9))
    (hs : Swept P t0 (base + 256 * n + 256) (a13.read (Elt Ideal) f13) (a14.read (Elt Ideal) f14))
    (h0 : w0 = accV tri (qS0 v9) (a8.readAt (Elt Ideal) (Rect.unit (s := S8192x512) (k0_off12 kb) S256x128.size (k0_off12_inb kb hk)).toLoadRect f8)
      (a9.readAt (Elt Ideal) (Rect.unit (s := S8192x512) (k0_off12 kb) S256x128.size (k0_off12_inb kb hk)).toLoadRect f9)
      (a14.readAt (Elt Ideal) (Rect.unit (s := S4x512x1) ![0, 0, 0] S1x512x1.size inb_S4x512x1_S1x512x1_0_0_0).toLoadRect f14)
      (a13.readAt (Elt Ideal) (Rect.unit (s := S4x512x128) ![0, 0, 0] S1x512x128.size inb_S4x512x128_S1x512x128_0_0_0).toLoadRect f13))
    (h1 : w1 = accV tri (qS1 v9) (a8.readAt (Elt Ideal) (Rect.unit (s := S8192x512) (k0_off13 kb) S256x128.size (k0_off13_inb kb hk)).toLoadRect f8)
      (a9.readAt (Elt Ideal) (Rect.unit (s := S8192x512) (k0_off13 kb) S256x128.size (k0_off13_inb kb hk)).toLoadRect f9)
      (a14.readAt (Elt Ideal) (Rect.unit (s := S4x512x1) ![1, 0, 0] S1x512x1.size inb_S4x512x1_S1x512x1_1_0_0).toLoadRect f14)
      (a13.readAt (Elt Ideal) (Rect.unit (s := S4x512x128) ![1, 0, 0] S1x512x128.size inb_S4x512x128_S1x512x128_1_0_0).toLoadRect f13))
    (h2 : w2 = accV tri (qS2 v9) (a8.readAt (Elt Ideal) (Rect.unit (s := S8192x512) (k0_off14 kb) S256x128.size (k0_off14_inb kb hk)).toLoadRect f8)
      (a9.readAt (Elt Ideal) (Rect.unit (s := S8192x512) (k0_off14 kb) S256x128.size (k0_off14_inb kb hk)).toLoadRect f9)
      (a14.readAt (Elt Ideal) (Rect.unit (s := S4x512x1) ![2, 0, 0] S1x512x1.size inb_S4x512x1_S1x512x1_2_0_0).toLoadRect f14)
      (a13.readAt (Elt Ideal) (Rect.unit (s := S4x512x128) ![2, 0, 0] S1x512x128.size inb_S4x512x128_S1x512x128_2_0_0).toLoadRect f13))
    (h3 : w3 = accV tri (qS3 v9) (a8.readAt (Elt Ideal) (Rect.unit (s := S8192x512) (k0_off15 kb) S256x128.size (k0_off15_inb kb hk)).toLoadRect f8)
      (a9.readAt (Elt Ideal) (Rect.unit (s := S8192x512) (k0_off15 kb) S256x128.size (k0_off15_inb kb hk)).toLoadRect f9)
      (a14.readAt (Elt Ideal) (Rect.unit (s := S4x512x1) ![3, 0, 0] S1x512x1.size inb_S4x512x1_S1x512x1_3_0_0).toLoadRect f14)
      (a13.readAt (Elt Ideal) (Rect.unit (s := S4x512x128) ![3, 0, 0] S1x512x128.size inb_S4x512x128_S1x512x128_3_0_0).toLoadRect f13))
    (i0 : x0 = cyV (qS0 v9) (a8.readAt (Elt Ideal) (Rect.unit (s := S8192x512) (k0_off12 kb) S256x128.size (k0_off12_inb kb hk)).toLoadRect f8)
      (a14.readAt (Elt Ideal) (Rect.unit (s := S4x512x1) ![0, 0, 0] S1x512x1.size inb_S4x512x1_S1x512x1_0_0_0).toLoadRect f14))
    (i1 : x1 = cyV (qS1 v9) (a8.readAt (Elt Ideal) (Rect.unit (s := S8192x512) (k0_off13 kb) S256x128.size (k0_off13_inb kb hk)).toLoadRect f8)
      (a14.readAt (Elt Ideal) (Rect.unit (s := S4x512x1) ![1, 0, 0] S1x512x1.size inb_S4x512x1_S1x512x1_1_0_0).toLoadRect f14))
    (i2 : x2 = cyV (qS2 v9) (a8.readAt (Elt Ideal) (Rect.unit (s := S8192x512) (k0_off14 kb) S256x128.size (k0_off14_inb kb hk)).toLoadRect f8)
      (a14.readAt (Elt Ideal) (Rect.unit (s := S4x512x1) ![2, 0, 0] S1x512x1.size inb_S4x512x1_S1x512x1_2_0_0).toLoadRect f14))
    (i3 : x3 = cyV (qS3 v9) (a8.readAt (Elt Ideal) (Rect.unit (s := S8192x512) (k0_off15 kb) S256x128.size (k0_off15_inb kb hk)).toLoadRect f8)
      (a14.readAt (Elt Ideal) (Rect.unit (s := S4x512x1) ![3, 0, 0] S1x512x1.size inb_S4x512x1_S1x512x1_3_0_0).toLoadRect f14)) :
    Swept P t0 (base + 256 * n)
      (a13.read (Elt Ideal) (a13.writes (Elt Ideal) f13 [
        ⟨Rect.unit (s := S4x512x128) ![3, 0, 0] S1x512x128.size inb_S4x512x128_S1x512x128_3_0_0, w3⟩,
        ⟨Rect.unit (s := S4x512x128) ![2, 0, 0] S1x512x128.size inb_S4x512x128_S1x512x128_2_0_0, w2⟩,
        ⟨Rect.unit (s := S4x512x128) ![1, 0, 0] S1x512x128.size inb_S4x512x128_S1x512x128_1_0_0, w1⟩,
        ⟨Rect.unit (s := S4x512x128) ![0, 0, 0] S1x512x128.size inb_S4x512x128_S1x512x128_0_0_0, w0⟩]))
      (a14.read (Elt Ideal) (a14.writes (Elt Ideal) f14 [
        ⟨Rect.unit (s := S4x512x1) ![3, 0, 0] S1x512x1.size inb_S4x512x1_S1x512x1_3_0_0, x3⟩,
        ⟨Rect.unit (s := S4x512x1) ![2, 0, 0] S1x512x1.size inb_S4x512x1_S1x512x1_2_0_0, x2⟩,
        ⟨Rect.unit (s := S4x512x1) ![1, 0, 0] S1x512x1.size inb_S4x512x1_S1x512x1_1_0_0, x1⟩,
        ⟨Rect.unit (s := S4x512x1) ![0, 0, 0] S1x512x1.size inb_S4x512x1_S1x512x1_0_0_0, x0⟩])) := by
  subst hkb
  obtain ⟨hs1, hs2⟩ := hs
  have lk : ∀ (p : ℕ) (hp : p < 4) (off : Fin 2 → ℕ) (inb : ∀ a, off a + S256x128.size a ≤ S8192x512.size a) (_ : off = ![n * 256, 128 * p]) (j : Fin 256) (l : Fin 128),
      a8.readAt (Elt Ideal) (Rect.unit (s := S8192x512) off S256x128.size inb).toLoadRect f8 (ix2 j l)
        = (P (base + 256 * n + j.val) (1024 + (128 * p + l.val)) : EReal) := fun p hp off inb ho j l => by
    rw [load_cache a8 f8 inb (n * 256) (128 * p) ho (by omega) (by omega), (hc _ _ (by dsimp only; omega)).1]
    dsimp only; rw [show base + (n * 256 + j.val) = base + 256 * n + j.val by ring]
  have lv : ∀ (p : ℕ) (hp : p < 4) (off : Fin 2 → ℕ) (inb : ∀ a, off a + S256x128.size a ≤ S8192x512.size a) (_ : off = ![n * 256, 128 * p]) (j : Fin 256) (l : Fin 128),
      a9.readAt (Elt Ideal) (Rect.unit (s := S8192x512) off S256x128.size inb).toLoadRect f9 (ix2 j l)
        = (P (base + 256 * n + j.val) (1536 + (128 * p + l.val)) : EReal) := fun p hp off inb ho j l => by
    rw [load_cache a9 f9 inb (n * 256) (128 * p) ho (by omega) (by omega), (hc _ _ (by dsimp only; omega)).2]
    dsimp only; rw [show base + (n * 256 + j.val) = base + 256 * n + j.val by ring]
  have la : ∀ (p : ℕ) (hp : p < 4) (inb : ∀ a, (![p, 0, 0] : Fin 3 → ℕ) a + S1x512x128.size a ≤ S4x512x128.size a) (r : Fin 512) (l : Fin 128),
      a13.readAt (Elt Ideal) (Rect.unit (s := S4x512x128) ![p, 0, 0] S1x512x128.size inb).toLoadRect f13 (ix3 0 r l)
        = (att P (t0 + r.val % 256) (2 * p + r.val / 256) (128 * p + l.val) (base + 256 * n + 256) : EReal) := fun p hp inb r l => by
    rw [readAt_unit a13 inb f13 _ (ix3 ⟨p, hp⟩ r l) (by intro a; fin_cases a <;> simp), hs1]
  have lc : ∀ (p : ℕ) (hp : p < 4) (inb : ∀ a, (![p, 0, 0] : Fin 3 → ℕ) a + S1x512x1.size a ≤ S4x512x1.size a) (r : Fin 512),
      a14.readAt (Elt Ideal) (Rect.unit (s := S4x512x1) ![p, 0, 0] S1x512x1.size inb).toLoadRect f14 (ix3 0 r 0)
        = (tot P (t0 + r.val % 256) (2 * p + r.val / 256) (base + 256 * n + 256) : EReal) := fun p hp inb r => by
    rw [readAt_unit a14 inb f14 _ (ix3 ⟨p, hp⟩ r 0) (by intro a; fin_cases a <;> simp), hs2]
  refine ⟨fun p r l => ?_, fun p r => ?_⟩
  · rw [read4_13]
    subst h0 h1 h2 h3
    fin_cases p
    · exact acc_step (qS0_apply hv9) (lk 0 (by omega) _ _ (off12_eq n hn)) ht (lv 0 (by omega) _ _ (off12_eq n hn)) _ _ hlo (la 0 (by omega) _) (lc 0 (by omega) _) 0 r l
    · exact acc_step (qS1_apply hv9) (lk 1 (by omega) _ _ (off13_eq n hn)) ht (lv 1 (by omega) _ _ (off13_eq n hn)) _ _ hlo (la 1 (by omega) _) (lc 1 (by omega) _) 0 r l
    · exact acc_step (qS2_apply hv9) (lk 2 (by omega) _ _ (off14_eq n hn)) ht (lv 2 (by omega) _ _ (off14_eq n hn)) _ _ hlo (la 2 (by omega) _) (lc 2 (by omega) _) 0 r l
    · exact acc_step (qS3_apply hv9) (lk 3 (by omega) _ _ (off15_eq n hn)) ht (lv 3 (by omega) _ _ (off15_eq n hn)) _ _ hlo (la 3 (by omega) _) (lc 3 (by omega) _) 0 r l
  · rw [read4_14]
    subst i0 i1 i2 i3
    fin_cases p
    · exact cy_step (qS0_apply hv9) (lk 0 (by omega) _ _ (off12_eq n hn)) _ hlo (lc 0 (by omega) _) 0 r 0
    · exact cy_step (qS1_apply hv9) (lk 1 (by omega) _ _ (off13_eq n hn)) _ hlo (lc 1 (by omega) _) 0 r 0
    · exact cy_step (qS2_apply hv9) (lk 2 (by omega) _ _ (off14_eq n hn)) _ hlo (lc 2 (by omega) _) 0 r 0
    · exact cy_step (qS3_apply hv9) (lk 3 (by omega) _ _ (off15_eq n hn)) _ hlo (lc 3 (by omega) _) 0 r 0
end
end Cert.Proof.KV
-- ==== Proof.KV.Tiles.lean ====
module

public import proofs.«01_k».proof.Proof.KI.Offs
public import proofs.«01_k».proof.Proof.KV.Trip

/-!
What one grid point stores: the projected tile's columns in the outputs and
scratches, and the finished attention tile, each read back element by element.
-/

@[expose] public section

namespace Cert.Proof.KV
open Idealize Idealize.ShloMosaic Cert.KernelIdeal Cert.KernelIdeal.Gen Cert.Proof.Math Finset Cert.Proof.KI
open Idealize.ShloMosaic.TcCoe

set_option maxRecDepth 16384

section
variable {e : EltTy} {M n : ℕ}

/-- Reading through the newest of a list of column tiles. -/
theorem tile_step (v : View sig .tc .vmem ⟨2, ![256, M]⟩ e) (f : v.ty.Contents (Elt Ideal)) (o : ℕ)
    (inb : ∀ a, (![0, o] : Fin 2 → ℕ) a + (⟨2, ![256, n]⟩ : Shape).size a ≤ (⟨2, ![256, M]⟩ : Shape).size a)
    (w : (⟨2, ![256, n]⟩ : Shape).Idx → Elt Ideal e) (L : List (View.Piece (Elt Ideal) ⟨2, ![256, M]⟩ e)) (r : Fin 256) (c : Fin M) :
    v.read (Elt Ideal) (v.writes (Elt Ideal) f (⟨Rect.unit (s := ⟨2, ![256, M]⟩) ![0, o] (⟨2, ![256, n]⟩ : Shape).size inb, w⟩ :: L)) (ix2 r c)
      = if h : o ≤ c.val ∧ c.val < o + n then w (ix2 r ⟨c.val - o, by omega⟩)
        else v.read (Elt Ideal) (v.writes (Elt Ideal) f L) (ix2 r c) := by
  split
  · rename_i h
    exact View.read_writes_cons_unit_of_mem v f inb w L _ (ix2 r ⟨c.val - o, by omega⟩) rfl (by intro a; fin_cases a <;> simp; omega)
  · rename_i h
    refine View.read_writes_cons_unit_of_not_mem v f inb w L _ rfl (1 : Fin 2) ?_
    simp
    omega
end

section
variable {H : FVec Ideal S256x1024 .bf16} {a3 : View sig .tc .vmem S1024x4096 .bf16} {f3 : a3.ty.Contents (Elt Ideal)} {PN : ℕ → ℕ → ℝ}

/-- The projection of a tile: `H` times the weights held in the buffer is `PN`. -/
def Projects (H : FVec Ideal S256x1024 .bf16) (R3 : S1024x4096.Idx → EReal) (PN : ℕ → ℕ → ℝ) : Prop :=
  ∀ (r : Fin 256) (c : Fin 4096), ∑ d : Fin 1024, H (ix2 r d) * R3 (ix2 d c) = (PN r.val c.val : EReal)

variable (hp : Projects H (a3.read (Elt Ideal) f3) PN)

/-- The columns `o` to `o + 256` of the weights as loaded. -/
abbrev wld (a3 : View sig .tc .vmem S1024x4096 .bf16) (f3 : a3.ty.Contents (Elt Ideal)) (o : ℕ)
    (inb : ∀ a, (![0, o] : Fin 2 → ℕ) a + S1024x256.size a ≤ S1024x4096.size a) : Vec Ideal S1024x256 .bf16 :=
  a3.readAt (Elt Ideal) (Rect.unit (s := S1024x4096) ![0, o] S1024x256.size inb).toLoadRect f3

include hp in
theorem dot_tile (o : ℕ) (inb : ∀ a, (![0, o] : Fin 2 → ℕ) a + S1024x256.size a ≤ S1024x4096.size a) (r : Fin 256) (c : Fin 256) :
    ∑ d : Fin 1024, H (ix2 r d) * wld a3 f3 o inb (ix2 d c) = (PN r.val (o + c.val) : EReal) := by
  have ho : o + 256 ≤ 4096 := inb 1
  rw [← hp r ⟨o + c.val, by omega⟩]
  refine sum_congr rfl fun d _ => ?_
  congr 1
  exact readAt_unit a3 inb f3 _ (ix2 d ⟨o + c.val, by omega⟩) (by intro a; fin_cases a <;> simp)

theorem f32_tile (w : Vec Ideal S1024x256 .bf16) (r : Fin 256) (c : Fin 256) : k0_pay18 H w (ix2 r c) = ∑ d : Fin 1024, H (ix2 r d) * w (ix2 d c) := by
  unfold k0_pay18; pointwise
theorem bf16_tile (w : Vec Ideal S1024x256 .bf16) (r : Fin 256) (c : Fin 256) : k0_pay35 H w (ix2 r c) = ∑ d : Fin 1024, H (ix2 r d) * w (ix2 d c) := by
  unfold k0_pay35; pointwise
theorem q_tile (w : Vec Ideal S1024x256 .bf16) (x : Fin 1) (r : Fin 256) (c : Fin 256) :
    k0_pay27 H w (ix3 x r c) = (∑ d : Fin 1024, H (ix2 r d) * w (ix2 d c)) * Ideal.ofBits .f32 0xBE000000#32 := by
  unfold k0_pay27; pointwise

include hp in
theorem u_out (a5 : View sig .tc .vmem S256x512 .f32) (f5 : a5.ty.Contents (Elt Ideal)) {w0 w1 : FVec Ideal S256x256 .f32}
    (h0 : w0 = k0_pay18 H (wld a3 f3 0 inb_S1024x4096_S1024x256_0_0)) (h1 : w1 = k0_pay18 H (wld a3 f3 256 inb_S1024x4096_S1024x256_0_256))
    (r : Fin 256) (c : Fin 512) :
    a5.read (Elt Ideal) (a5.writes (Elt Ideal) f5 [
      ⟨Rect.unit (s := S256x512) ![0, 256] S256x256.size inb_S256x512_S256x256_0_256, w1⟩,
      ⟨Rect.unit (s := S256x512) ![0, 0] S256x256.size inb_S256x512_S256x256_0_0, w0⟩]) (ix2 r c) = (PN r.val c.val : EReal) := by
  subst h0 h1
  rw [tile_step a5 f5 256, tile_step a5 f5 0]
  split_ifs
  · rw [f32_tile, dot_tile hp]; congr 2; simp only; omega
  · rw [f32_tile, dot_tile hp]; congr 2; simp only; omega
  · omega

include hp in
/-- A scratch of keys or values: two tiles, from columns `o` and `o + 256` of the projection. -/
theorem kv_out (a : View sig .tc .vmem S256x512 .bf16) (f : a.ty.Contents (Elt Ideal)) {w0 w1 : FVec Ideal S256x256 .bf16} (o : ℕ)
    (b0 : ∀ a, (![0, o] : Fin 2 → ℕ) a + S1024x256.size a ≤ S1024x4096.size a) (b1 : ∀ a, (![0, o + 256] : Fin 2 → ℕ) a + S1024x256.size a ≤ S1024x4096.size a)
    (h0 : w0 = k0_pay35 H (wld a3 f3 o b0)) (h1 : w1 = k0_pay35 H (wld a3 f3 (o + 256) b1))
    (r : Fin 256) (c : Fin 512) :
    a.read (Elt Ideal) (a.writes (Elt Ideal) f [
      ⟨Rect.unit (s := S256x512) ![0, 256] S256x256.size inb_S256x512_S256x256_0_256, w1⟩,
      ⟨Rect.unit (s := S256x512) ![0, 0] S256x256.size inb_S256x512_S256x256_0_0, w0⟩]) (ix2 r c) = (PN r.val (o + c.val) : EReal) := by
  subst h0 h1
  rw [tile_step a f 256, tile_step a f 0]
  split_ifs
  · rw [bf16_tile, dot_tile hp]; congr 2; simp only; omega
  · rw [bf16_tile, dot_tile hp]; congr 2
  · omega

include hp in
theorem g_out (a6 : View sig .tc .vmem S256x2048 .f32) (f6 : a6.ty.Contents (Elt Ideal)) {w0 w1 w2 w3 w4 w5 w6 w7 : FVec Ideal S256x256 .f32}
    (h0 : w0 = k0_pay18 H (wld a3 f3 2048 inb_S1024x4096_S1024x256_0_2048)) (h1 : w1 = k0_pay18 H (wld a3 f3 2304 inb_S1024x4096_S1024x256_0_2304))
    (h2 : w2 = k0_pay18 H (wld a3 f3 2560 inb_S1024x4096_S1024x256_0_2560)) (h3 : w3 = k0_pay18 H (wld a3 f3 2816 inb_S1024x4096_S1024x256_0_2816))
    (h4 : w4 = k0_pay18 H (wld a3 f3 3072 inb_S1024x4096_S1024x256_0_3072)) (h5 : w5 = k0_pay18 H (wld a3 f3 3328 inb_S1024x4096_S1024x256_0_3328))
    (h6 : w6 = k0_pay18 H (wld a3 f3 3584 inb_S1024x4096_S1024x256_0_3584)) (h7 : w7 = k0_pay18 H (wld a3 f3 3840 inb_S1024x4096_S1024x256_0_3840))
    (r : Fin 256) (c : Fin 2048) :
    a6.read (Elt Ideal) (a6.writes (Elt Ideal) f6 [
      ⟨Rect.unit (s := S256x2048) ![0, 1792] S256x256.size inb_S256x2048_S256x256_0_1792, w7⟩,
      ⟨Rect.unit (s := S256x2048) ![0, 1536] S256x256.size inb_S256x2048_S256x256_0_1536, w6⟩,
      ⟨Rect.unit (s := S256x2048) ![0, 1280] S256x256.size inb_S256x2048_S256x256_0_1280, w5⟩,
      ⟨Rect.unit (s := S256x2048) ![0, 1024] S256x256.size inb_S256x2048_S256x256_0_1024, w4⟩,
      ⟨Rect.unit (s := S256x2048) ![0, 768] S256x256.size inb_S256x2048_S256x256_0_768, w3⟩,
      ⟨Rect.unit (s := S256x2048) ![0, 512] S256x256.size inb_S256x2048_S256x256_0_512, w2⟩,
      ⟨Rect.unit (s := S256x2048) ![0, 256] S256x256.size inb_S256x2048_S256x256_0_256, w1⟩,
      ⟨Rect.unit (s := S256x2048) ![0, 0] S256x256.size inb_S256x2048_S256x256_0_0, w0⟩]) (ix2 r c) = (PN r.val (2048 + c.val) : EReal) := by
  subst h0 h1 h2 h3 h4 h5 h6 h7
  rw [tile_step a6 f6 1792, tile_step a6 f6 1536, tile_step a6 f6 1280, tile_step a6 f6 1024, tile_step a6 f6 768, tile_step a6 f6 512,
    tile_step a6 f6 256, tile_step a6 f6 0]
  split_ifs
  all_goals first
    | (rw [f32_tile, dot_tile hp]; congr 2 <;> (simp only; omega))
    | omega

include hp in
/-- The slot of the queries that the grid point stores. -/
theorem q_out (a10 : View sig .tc .vmem S2x256x512 .bf16) (f10 : a10.ty.Contents (Elt Ideal)) (i : grid0.Coords) {w0 w1 : FVec Ideal S1x256x256 .bf16}
    (h0 : w0 = k0_pay27 H (wld a3 f3 512 inb_S1024x4096_S1024x256_0_512)) (h1 : w1 = k0_pay27 H (wld a3 f3 768 inb_S1024x4096_S1024x256_0_768))
    (r : Fin 256) (c : Fin 512) :
    a10.read (Elt Ideal) (a10.writes (Elt Ideal) f10 [
      ⟨Rect.unit (s := S2x256x512) (k0_off5 i) S1x256x256.size (k0_off5_inb i), w1⟩,
      ⟨Rect.unit (s := S2x256x512) (k0_off4 i) S1x256x256.size (k0_off4_inb i), w0⟩]) (ix3 ⟨(i 0).val % 2, by omega⟩ r c)
      = ((PN r.val (512 + c.val) * (-(1 / 8)) : ℝ) : EReal) := by
  subst h0 h1
  by_cases hc : c.val < 256
  · rw [View.read_writes_cons_unit_of_not_mem a10 f10 _ _ _ _ (off5_eq i) (2 : Fin 3) (by left; simpa using hc)]
    refine (View.read_writes_cons_unit_of_mem a10 f10 _ _ _ _ (ix3 0 r ⟨c.val, hc⟩) (off4_eq i) (by intro a; fin_cases a <;> simp)).trans ?_
    rw [q_tile, dot_tile hp, Consts.neg_eighth, ← EReal.coe_mul]
  · refine (View.read_writes_cons_unit_of_mem a10 f10 _ _ _ _ (ix3 0 r ⟨c.val - 256, by omega⟩) (off5_eq i) (by intro a; fin_cases a <;> simp; omega)).trans ?_
    rw [q_tile, dot_tile hp, Consts.neg_eighth, ← EReal.coe_mul]
    simp only
    rw [show 768 + (c.val - 256) = 512 + c.val by omega]
end

/-- The cache after its tile is appended. -/
theorem cache_out (a : View sig .tc .vmem S8192x512 .bf16) (f : a.ty.Contents (Elt Ideal)) (i : grid0.Coords) (w : FVec Ideal S256x512 .bf16)
    (o : ℕ) (ho : k0_off16 i = ![o, 0]) (j : Fin 8192) (c : Fin 512) :
    a.read (Elt Ideal) (a.writes (Elt Ideal) f [⟨Rect.unit (s := S8192x512) (k0_off16 i) S256x512.size (k0_off16_inb i), w⟩]) (ix2 j c)
      = if h : o ≤ j.val ∧ j.val < o + 256 then w (ix2 ⟨j.val - o, by omega⟩ c) else a.read (Elt Ideal) f (ix2 j c) := by
  split
  · rename_i h
    exact View.read_writes_cons_unit_of_mem a f _ _ _ _ (ix2 ⟨j.val - o, by omega⟩ c) ho (by intro a; fin_cases a <;> simp; omega)
  · rename_i h
    refine (View.read_writes_cons_unit_of_not_mem a f _ _ _ _ ho (0 : Fin 2) ?_).trans rfl
    simp
    omega

/-- A pair's two heads, one above the other, back in one tile of 128 columns. -/
theorem head_tile (w : Vec Ideal S1x512x128 .f32) (r : Fin 256) (l : Fin 128) :
    k0_pay83 lanes w (ix2 r l) = if l.val < 64 then w (ix3 0 ⟨r.val, by omega⟩ l) else w (ix3 0 ⟨256 + r.val, by omega⟩ l) := by
  unfold k0_pay83
  pointwise
  simp only [Scalar.select, lane_lt l.isLt]

theorem y_tile {P : ℕ → ℕ → ℝ} {t0 lo : ℕ} (a13 : View sig .tc .vmem S4x512x128 .f32) (f13 : a13.ty.Contents (Elt Ideal))
    (hs : ∀ (p : Fin 4) (r : Fin 512) (l : Fin 128),
      a13.read (Elt Ideal) f13 (ix3 p r l) = (att P (t0 + r.val % 256) (2 * p.val + r.val / 256) (128 * p.val + l.val) lo : EReal))
    (p : ℕ) (hp : p < 4) (inb : ∀ a, (![p, 0, 0] : Fin 3 → ℕ) a + S1x512x128.size a ≤ S4x512x128.size a) (r : Fin 256) (l : Fin 128) :
    k0_pay83 lanes (a13.readAt (Elt Ideal) (Rect.unit (s := S4x512x128) ![p, 0, 0] S1x512x128.size inb).toLoadRect f13) (ix2 r l)
      = (att P (t0 + r.val) ((128 * p + l.val) / 64) (128 * p + l.val) lo : EReal) := by
  rw [head_tile]
  split
  · rw [readAt_unit a13 inb f13 _ (ix3 ⟨p, hp⟩ ⟨r.val, by omega⟩ l) (by intro a; fin_cases a <;> simp), hs]
    dsimp only
    rw [show r.val % 256 = r.val by omega, show 2 * p + r.val / 256 = (128 * p + l.val) / 64 by omega]
  · rw [readAt_unit a13 inb f13 _ (ix3 ⟨p, hp⟩ ⟨256 + r.val, by omega⟩ l) (by intro a; fin_cases a <;> simp), hs]
    dsimp only
    rw [show (256 + r.val) % 256 = r.val by omega, show 2 * p + (256 + r.val) / 256 = (128 * p + l.val) / 64 by omega]

theorem y_out {P : ℕ → ℕ → ℝ} {t0 lo : ℕ} (a13 : View sig .tc .vmem S4x512x128 .f32) (f13 : a13.ty.Contents (Elt Ideal))
    (hs : ∀ (p : Fin 4) (r : Fin 512) (l : Fin 128),
      a13.read (Elt Ideal) f13 (ix3 p r l) = (att P (t0 + r.val % 256) (2 * p.val + r.val / 256) (128 * p.val + l.val) lo : EReal))
    (a7 : View sig .tc .vmem S256x512 .bf16) (f7 : a7.ty.Contents (Elt Ideal)) {w0 w1 w2 w3 : FVec Ideal S256x128 .bf16}
    (h0 : w0 = k0_pay83 lanes (a13.readAt (Elt Ideal) (Rect.unit (s := S4x512x128) ![0, 0, 0] S1x512x128.size inb_S4x512x128_S1x512x128_0_0_0).toLoadRect f13))
    (h1 : w1 = k0_pay83 lanes (a13.readAt (Elt Ideal) (Rect.unit (s := S4x512x128) ![1, 0, 0] S1x512x128.size inb_S4x512x128_S1x512x128_1_0_0).toLoadRect f13))
    (h2 : w2 = k0_pay83 lanes (a13.readAt (Elt Ideal) (Rect.unit (s := S4x512x128) ![2, 0, 0] S1x512x128.size inb_S4x512x128_S1x512x128_2_0_0).toLoadRect f13))
    (h3 : w3 = k0_pay83 lanes (a13.readAt (Elt Ideal) (Rect.unit (s := S4x512x128) ![3, 0, 0] S1x512x128.size inb_S4x512x128_S1x512x128_3_0_0).toLoadRect f13))
    (r : Fin 256) (c : Fin 512) :
    a7.read (Elt Ideal) (a7.writes (Elt Ideal) f7 [
      ⟨Rect.unit (s := S256x512) ![0, 384] S256x128.size inb_S256x512_S256x128_0_384, w3⟩,
      ⟨Rect.unit (s := S256x512) ![0, 256] S256x128.size inb_S256x512_S256x128_0_256, w2⟩,
      ⟨Rect.unit (s := S256x512) ![0, 128] S256x128.size inb_S256x512_S256x128_0_128, w1⟩,
      ⟨Rect.unit (s := S256x512) ![0, 0] S256x128.size inb_S256x512_S256x128_0_0, w0⟩]) (ix2 r c)
      = (att P (t0 + r.val) (c.val / 64) c.val lo : EReal) := by
  subst h0 h1 h2 h3
  rw [tile_step a7 f7 384, tile_step a7 f7 256, tile_step a7 f7 128, tile_step a7 f7 0]
  split_ifs
  · refine (y_tile a13 f13 hs 3 (by omega) _ r _).trans ?_
    dsimp only; rw [show 128 * 3 + (c.val - 384) = c.val by omega]
  · refine (y_tile a13 f13 hs 2 (by omega) _ r _).trans ?_
    dsimp only; rw [show 128 * 2 + (c.val - 256) = c.val by omega]
  · refine (y_tile a13 f13 hs 1 (by omega) _ r _).trans ?_
    dsimp only; rw [show 128 * 1 + (c.val - 128) = c.val by omega]
  · refine (y_tile a13 f13 hs 0 (by omega) _ r _).trans ?_
    dsimp only; rw [show 128 * 0 + (c.val - 0) = c.val by omega]
  · omega

end Cert.Proof.KV
-- ==== Proof.KV.Inputs.lean ====
module

public import proofs.«01_k».proof.Proof.KI.Run
public import proofs.«01_k».proof.Proof.KV.Tiles
public import Idealize.ShloMosaic.Lib.Pipeline.ArrRel
public import Idealize.ShloMosaic.Lib.Pipeline.ValueKit

/-!
What the kernel finds in its input windows at a grid point: a tile of 256 rows of
the input, and the gain, the weights and the triangle whole.
-/

@[expose] public section

set_option maxRecDepth 16384

noncomputable section

namespace Cert.Proof.KV

open Cert.KernelIdeal Cert.KernelIdeal.Gen Cert.Proof.KI

open Idealize.ShloMosaic
open Idealize.ShloMosaic.TcCoe Idealize.ShloMosaic.Tactic
open Idealize.SL Idealize.SL.RA Idealize.SL.BI
open Idealize.ShloMosaic.Pipeline (RDat)

/-- A row of the input, normalised: over the root of its mean square plus the small constant, times the gain. -/
def nrow (x g : Fin 1024 → EReal) (d : Fin 1024) : EReal :=
  x d * Ideal.rsqrt (Ideal.div (∑ k, x k * x k) (Ideal.ofBits .f32 0x44800000#32) + Ideal.ofBits .f32 0x358637BD#32) * g d

theorem pay10_row (X : Vec Ideal S256x1024 .f32) (G : Vec Ideal S1x1024 .f32) (r : Fin 256) (d : Fin 1024) :
    k0_pay10 X G (ix2 r d) = nrow (fun k => X (ix2 r k)) (fun k => G (ix2 0 k)) d := by
  unfold k0_pay10 nrow
  pointwise

theorem pay11_id (T : Vec Ideal S256x256 .bf16) (a b : Fin 256) : k0_pay11 T (ix2 a b) = T (ix2 a b) := by
  unfold k0_pay11; pointwise

/-- The tile a point projects. -/
theorem index0 : ∀ t : Fin grid0.N, win0_0.index t 0 = min t.val 127 ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = min t.val 127 ∧ win0_4.index t 1 = 0 := by decide +kernel
theorem index5 : ∀ t : Fin grid0.N, win0_5.index t 0 = min t.val 127 ∧ win0_5.index t 1 = 0 := by decide +kernel
theorem index6 : ∀ t : Fin grid0.N, win0_6.index t 0 = t.val - 1 ∧ win0_6.index t 1 = 0 := by decide +kernel

section
variable {c : Dev nD} (rd : RDat τ (Elt Ideal) Unit ℕ (UR sig nD τ) ℕ (cfg0 (F := Ideal)) c) (t : Fin grid0.N)

theorem fetched0 (d) (r : Fin 256) (k : Fin 1024) :
    (rd.fetched 0 t d : S256x1024.Idx → EReal) (ix2 r k)
      = (rd.A 0 : S32768x1024.Idx → EReal) (ix2 ⟨min t.val 127 * 256 + r.val, by have := r.isLt; omega⟩ k) := by
  have e := index0 t
  show (win0_0.blk t).view.read (Elt Ideal) (rd.A 0) (ix2 r k) = _
  blk_simp
  congr 1
  blk_ext [e.1, e.2]

theorem fetched1 (d) (k : Fin 1024) :
    (rd.fetched 1 t d : S1x1024.Idx → EReal) (ix2 0 k) = (rd.A 1 : S1x1024.Idx → EReal) (ix2 0 k) := by
  have e := index1 t
  show (win0_1.blk t).view.read (Elt Ideal) (rd.A 1) (ix2 0 k) = _
  blk_simp
  congr 1
  blk_ext [e.1, e.2]

theorem fetched2 (d) (r : Fin 1024) (k : Fin 4096) :
    (rd.fetched 2 t d : S1024x4096.Idx → EReal) (ix2 r k) = (rd.A 2 : S1024x4096.Idx → EReal) (ix2 r k) := by
  have e := index2 t
  show (win0_2.blk t).view.read (Elt Ideal) (rd.A 2) (ix2 r k) = _
  blk_simp
  congr 1
  blk_ext [e.1, e.2]

theorem fetched3 (d) (r k : Fin 256) :
    (rd.fetched 3 t d : S256x256.Idx → EReal) (ix2 r k) = (rd.A 3 : S256x256.Idx → EReal) (ix2 r k) := by
  have e := index3 t
  show (win0_3.blk t).view.read (Elt Ideal) (rd.A 3) (ix2 r k) = _
  blk_simp
  congr 1
  blk_ext [e.1, e.2]
end

end Cert.Proof.KV

end
-- ==== Proof.KV.Begin.lean ====
module

public import proofs.«01_k».proof.Proof.KI.Loop
public import proofs.«01_k».proof.Proof.KI.Offs
public import proofs.«01_k».proof.Proof.KV.Tiles

/-!
The first stretch of a grid point: at point 0 the two caches and the query slots
are cleared, and at every point the tile's queries, the layer input, the gain and
the triangle are loaded.
-/

@[expose] public section

set_option maxRecDepth 16384

noncomputable section

namespace Cert.Proof.KV

open Cert.KernelIdeal Cert.KernelIdeal.Gen Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Idealize.ShloMosaic.UR sig nD τ) ℕ

/-- What the first stretch leaves in the caches and the query slots, and the queries it loads. -/
def Begun (i : grid0.Coords) (a8 a9 : View sig .tc .vmem S8192x512 .bf16) (a10 : View sig .tc .vmem S2x256x512 .bf16)
    (f8 g8 : a8.ty.Contents (Elt Ideal)) (f9 g9 : a9.ty.Contents (Elt Ideal)) (f10 : a10.ty.Contents (Elt Ideal))
    (v8 : Vec Ideal S1x256x512 .bf16) : Prop :=
  ((i 0).val = 0 → (∀ x, a8.read (Elt Ideal) g8 x = (0 : EReal)) ∧ (∀ x, a9.read (Elt Ideal) g9 x = (0 : EReal)) ∧ ∀ x, v8 x = (0 : EReal))
  ∧ ((i 0).val ≠ 0 → g8 = f8 ∧ g9 = f9
      ∧ v8 = a10.readAt (Elt Ideal) (Rect.unit (s := S2x256x512) (k0_off1 i) S1x256x512.size (k0_off1_inb i)).toLoadRect f10)

/-- What the first stretch hands on. -/
abbrev Loaded : Type := Σ' (arg0 : BitVec 32) (v4 : BitVec 32) (v9 : FVec Ideal S256x512 .bf16) (v10 : BitVec 32) (v27 : FVec Ideal S256x1024 .bf16) (v28 : IVec S256x128 32) (v30 : FVec Ideal S256x256 .bf16) (v31 : BitVec 1) (v33 : BitVec 32) (v34 : FVec Ideal S256x128 .bf16), FVec Ideal S256x128 .bf16

theorem first_iff (i : grid0.Coords) : Scalar.cmpi .ne (Scalar.extui (Scalar.cmpi .eq (BitVec.ofNat 32 (i 0).val) 0#32)) 0#32 = 1#1 ↔ (i 0).val = 0 := by
  generalize i 0 = n; revert n; decide +kernel

theorem pay6_apply (x) : k0_pay6 (F := Ideal) x = (0 : EReal) := by
  obtain ⟨a, b, rfl⟩ : ∃ a b, x = ix2 a b := ⟨x 0, x 1, by funext i; fin_cases i <;> rfl⟩
  unfold k0_pay6; pointwise
theorem pay7_apply (x) : k0_pay7 (F := Ideal) x = (0 : EReal) := by
  obtain ⟨a, b, rfl⟩ : ∃ a b, x = ix2 a b := ⟨x 0, x 1, by funext i; fin_cases i <;> rfl⟩
  unfold k0_pay7; pointwise
theorem pay8_apply (x) : k0_pay8 (F := Ideal) x = (0 : EReal) := by
  obtain ⟨a, b, c, rfl⟩ : ∃ a b c, x = ix3 a b c := ⟨x 0, x 1, x 2, by funext i; fin_cases i <;> rfl⟩
  unfold k0_pay8; pointwise

theorem slot_zero (a10 : View sig .tc .vmem S2x256x512 .bf16) (i : grid0.Coords) (x) :
    a10.readAt (Elt Ideal) (Rect.unit (s := S2x256x512) (k0_off1 i) S1x256x512.size (k0_off1_inb i)).toLoadRect
      (a10.writes (Elt Ideal) a10.junk [⟨Rect.unit (s := S2x256x512) ![0, 0, 0] S2x256x512.size inb_S2x256x512_S2x256x512_0_0_0, k0_pay8 (F := Ideal)⟩]) x
      = (0 : EReal) := by
  rw [View.readAt_apply]
  refine Eq.trans (View.read_writes_cons_unit_of_mem (off' := ![0, 0, 0]) a10 _ _ _ [] _ ((Rect.unit (s := S2x256x512) (k0_off1 i) S1x256x512.size (k0_off1_inb i)).toLoadRect.idx x) rfl ?_) (pay8_apply _)
  intro a; fin_cases a <;> simp

theorem cache_zero8 (a : View sig .tc .vmem S8192x512 .bf16) (f : a.ty.Contents (Elt Ideal)) (x : S8192x512.Idx) :
    a.read (Elt Ideal) (a.writes (Elt Ideal) f [⟨Rect.unit (s := S8192x512) ![0, 0] S8192x512.size inb_S8192x512_S8192x512_0_0, k0_pay6 (F := Ideal)⟩]) x = (0 : EReal) := by
  refine Eq.trans (View.read_writes_cons_unit_of_mem (off' := ![0, 0]) a f _ _ [] _ x rfl ?_) (pay6_apply _)
  intro a; fin_cases a <;> simp

theorem cache_zero9 (a : View sig .tc .vmem S8192x512 .bf16) (f : a.ty.Contents (Elt Ideal)) (x : S8192x512.Idx) :
    a.read (Elt Ideal) (a.writes (Elt Ideal) f [⟨Rect.unit (s := S8192x512) ![0, 0] S8192x512.size inb_S8192x512_S8192x512_0_0, k0_pay7 (F := Ideal)⟩]) x = (0 : EReal) := by
  refine Eq.trans (View.read_writes_cons_unit_of_mem (off' := ![0, 0]) a f _ _ [] _ x rfl ?_) (pay7_apply _)
  intro a; fin_cases a <;> simp

theorem part1_run (c : Dev nD) (i : grid0.Coords) (E : Set ℕ)
    (a1 : Memref sig .tc .vmem S256x1024 .f32) (h1 : a1.IsWhole)
    (a2 : Memref sig .tc .vmem S1x1024 .f32) (h2 : a2.IsWhole)
    (a3 : Memref sig .tc .vmem S1024x4096 .bf16) (h3 : a3.IsWhole)
    (a4 : Memref sig .tc .vmem S256x256 .bf16) (h4 : a4.IsWhole)
    (a5 : Memref sig .tc .vmem S256x512 .f32) (h5 : a5.IsWhole)
    (a6 : Memref sig .tc .vmem S256x2048 .f32) (h6 : a6.IsWhole)
    (a7 : Memref sig .tc .vmem S256x512 .bf16) (h7 : a7.IsWhole)
    (a8 : Memref sig .tc .vmem S8192x512 .bf16) (h8 : a8.IsWhole)
    (a9 : Memref sig .tc .vmem S8192x512 .bf16) (h9 : a9.IsWhole)
    (a10 : Memref sig .tc .vmem S2x256x512 .bf16) (h10 : a10.IsWhole)
    (a11 : Memref sig .tc .vmem S256x512 .bf16) (h11 : a11.IsWhole)
    (a12 : Memref sig .tc .vmem S256x512 .bf16) (h12 : a12.IsWhole)
    (a13 : Memref sig .tc .vmem S4x512x128 .f32) (h13 : a13.IsWhole)
    (a14 : Memref sig .tc .vmem S4x512x1 .f32) (h14 : a14.IsWhole)
    (f1 : Buf (Elt Ideal) (a1.view.loc (c : Thread nD τ))) (f2 : Buf (Elt Ideal) (a2.view.loc (c : Thread nD τ))) (f4 : Buf (Elt Ideal) (a4.view.loc (c : Thread nD τ)))
    (f8 : Buf (Elt Ideal) (a8.view.loc (c : Thread nD τ))) (f9 : Buf (Elt Ideal) (a9.view.loc (c : Thread nD τ))) (f10 : Buf (Elt Ideal) (a10.view.loc (c : Thread nD τ)))
    (K : Loaded → sProp 𝕄) :
    iprop((is_ c a1 f1 ∗ is_ c a2 f2 ∗ is_ c a4 f4 ∗ is_ c a8 f8 ∗ is_ c a9 f9 ∗ is_ c a10 f10)
      ∗ (∀ g8 : Buf (Elt Ideal) (a8.view.loc (c : Thread nD τ)), ∀ g9 : Buf (Elt Ideal) (a9.view.loc (c : Thread nD τ)), ∀ g10 : Buf (Elt Ideal) (a10.view.loc (c : Thread nD τ)),
          ∀ rv : Loaded, ⌜∃ v8 : Vec Ideal S1x256x512 .bf16, Begun i a8.view a9.view a10.view f8 g8 f9 g9 f10 v8 ∧
            rv = ⟨BitVec.ofNat 32 (i 0).val, Scalar.remsi (Scalar.addi (BitVec.ofNat 32 (i 0).val) 31#32) 32#32, k0_pay9 v8,
            Scalar.remsi (BitVec.ofNat 32 (i 0).val) 2#32,
            k0_pay10 (a1.view.readAt (Elt Ideal) (Rect.unit (s := S256x1024) ![0, 0] S256x1024.size inb_S256x1024_S256x1024_0_0).toLoadRect f1)
              (a2.view.readAt (Elt Ideal) (Rect.unit (s := S1x1024) ![0, 0] S1x1024.size inb_S1x1024_S1x1024_0_0).toLoadRect f2),
            lanes, k0_pay11 (a4.view.readAt (Elt Ideal) (Rect.unit (s := S256x256) ![0, 0] S256x256.size inb_S256x256_S256x256_0_0).toLoadRect f4),
            Scalar.cmpi .sgt (Scalar.remsi (Scalar.addi (BitVec.ofNat 32 (i 0).val) 31#32) 32#32) 0#32,
            Scalar.maxsi (Scalar.subi (Scalar.remsi (Scalar.addi (BitVec.ofNat 32 (i 0).val) 31#32) 32#32) 1#32) 0#32,
            k0_pay12 v8, k0_pay13⟩⌝ -∗
          (is_ c a1 f1 ∗ is_ c a2 f2 ∗ is_ c a4 f4 ∗ is_ c a8 g8 ∗ is_ c a9 g9 ∗ is_ c a10 g10) -∗
          K rv))
    ⊢ wp frame (wpE (defs₀ (F := Ideal)) 𝒱₀ (c : Thread nD τ) none) E
        (k0_part1 i a1 h1 a2 h2 a3 h3 a4 h4 a5 h5 a6 h6 a7 h7 a8 h8 a9 h9 a10 h10 a11 h11 a12 h12 a13 h13 a14 h14) K := by
  simp only [k0_part1_eq_skeleton]
  unfold is_
  iintro ⟨⟨H1, H2, H4, H8, H9, H10⟩, Hk⟩
  by_cases hc : Scalar.cmpi .ne (Scalar.extui (Scalar.cmpi .eq (BitVec.ofNat 32 (i 0).val) 0#32)) 0#32 = 1#1
  · sl_exec (disch := sl_exact hc)
    rw [wp_ret]; imodintro
    iapply Hk
    rotate_left 1
    · isplitl [H1]; · iexact H1
      isplitl [H2]; · iexact H2
      isplitl [H4]; · iexact H4
      isplitl [H8]; · iexact H8
      isplitl [H9]; · iexact H9
      iexact H10
    · ipureintro
      exact ⟨_, ⟨fun _ => ⟨fun x => cache_zero8 _ _ x, fun x => cache_zero9 _ _ x, fun x => slot_zero a10.view i x⟩, fun h => absurd ((first_iff i).1 hc) h⟩, rfl⟩
  · sl_exec (disch := sl_exact hc)
    rw [wp_ret]; imodintro
    iapply Hk
    rotate_left 1
    · isplitl [H1]; · iexact H1
      isplitl [H2]; · iexact H2
      isplitl [H4]; · iexact H4
      isplitl [H8]; · iexact H8
      isplitl [H9]; · iexact H9
      iexact H10
    · ipureintro
      exact ⟨_, ⟨fun h => absurd ((first_iff i).2 h) hc, fun _ => ⟨rfl, rfl, rfl⟩⟩, rfl⟩

end Cert.Proof.KV

end
-- ==== Proof.KV.Init.lean ====
module

public import proofs.«01_k».proof.Proof.KI.Offs
public import proofs.«01_k».proof.Proof.KV.Trip

/-!
What a tile has gathered before the sweep: the diagonal block, and the block
before it when there is one.
-/

@[expose] public section

namespace Cert.Proof.KV
open Idealize Idealize.ShloMosaic Cert.KernelIdeal Cert.KernelIdeal.Gen Cert.Proof.Math Finset Cert.Proof.KI
open Idealize.ShloMosaic.TcCoe

set_option maxRecDepth 16384

/-- The accumulator of a pair after the diagonal block and, if `b` says so, the block before. -/
noncomputable def accI (b : BitVec 1) (tri : FVec Ideal S256x256 .bf16) (q : FVec Ideal S256x128 .bf16)
    (k v kp vp : Vec Ideal S256x128 .bf16) : FVec Ideal S1x512x128 .f32 :=
  k0_pay28 tri b (mpvV tri q k v) (k0_pay22 (mlfV q k)) vp (nzV q kp) (lfV q kp)

/-- The carry of a pair after the same blocks. -/
noncomputable def cyI (b : BitVec 1) (q : FVec Ideal S256x128 .bf16) (k kp : Vec Ideal S256x128 .bf16) :
    FVec Ideal S1x512x1 .f32 := k0_pay29 b (k0_pay22 (mlfV q k)) (lfV q kp)

theorem accI_apply (b : BitVec 1) (tri : FVec Ideal S256x256 .bf16) (q : FVec Ideal S256x128 .bf16)
    (k v kp vp : Vec Ideal S256x128 .bf16) (x : Fin 1) (r : Fin 512) (l : Fin 128) :
    accI b tri q k v kp vp (ix3 x r l) = mpvV tri q k v (ix2 r l)
      + (if b = 1 then pvV tri q kp vp (ix2 r l) * Ideal.exp (k0_pay22 (mlfV q k) (ix2 r 0)) else 0) := by
  unfold accI k0_pay28 pvV
  by_cases h : b = 1
  · simp only [Scalar.select, h, if_true]
    pointwise
  · simp only [Scalar.select, h, if_false]
    pointwise

theorem cyI_apply (b : BitVec 1) (q : FVec Ideal S256x128 .bf16) (k kp : Vec Ideal S256x128 .bf16) (x : Fin 1) (r : Fin 512) (y : Fin 1) :
    cyI b q k kp (ix3 x r y) = k0_pay22 (mlfV q k) (ix2 r 0) + (if b = 1 then k0_pay22 (lfV q kp) (ix2 r 0) else 0) := by
  unfold cyI k0_pay29
  by_cases h : b = 1
  · simp only [Scalar.select, h, if_true]
    rw [show (k0_pay22 (lfV q kp) (ix2 r 0)) = ∑ j : Fin 256, lfV q kp (ix2 r j) by unfold k0_pay22; pointwise]
    generalize k0_pay22 (mlfV q k) = A
    pointwise
  · simp only [Scalar.select, h, if_false]
    generalize k0_pay22 (mlfV q k) = A
    pointwise

section
variable {P : ℕ → ℕ → ℝ} {t0 base qi p : ℕ} (hq : t0 = base + 256 * qi)
  {tri : FVec Ideal S256x256 .bf16} {q : FVec Ideal S256x128 .bf16} {k v kp vp : Vec Ideal S256x128 .bf16} {b : BitVec 1}
  (ht : ∀ j' j : Fin 256, tri (ix2 j' j) = ((if j.val < j'.val then 1 else 0 : ℝ) : EReal))
  (hqq : ∀ (r : Fin 256) (l : Fin 128), q (ix2 r l) = ((P (t0 + r.val) (512 + (128 * p + l.val)) * (-(1 / 8)) : ℝ) : EReal))
  (hk : ∀ (j : Fin 256) (l : Fin 128), k (ix2 j l) = (P (base + 256 * qi + j.val) (1024 + (128 * p + l.val)) : EReal))
  (hv : ∀ (j : Fin 256) (l : Fin 128), v (ix2 j l) = (P (base + 256 * qi + j.val) (1536 + (128 * p + l.val)) : EReal))
  (hkp : ∀ (j : Fin 256) (l : Fin 128), kp (ix2 j l) = (P (base + 256 * (qi - 1) + j.val) (1024 + (128 * p + l.val)) : EReal))
  (hvp : ∀ (j : Fin 256) (l : Fin 128), vp (ix2 j l) = (P (base + 256 * (qi - 1) + j.val) (1536 + (128 * p + l.val)) : EReal))
  (h31 : b = 1 ↔ 0 < qi)

include hq ht hqq hk hv hkp hvp h31 in
theorem accI_start (x : Fin 1) (r : Fin 512) (l : Fin 128) : accI b tri q k v kp vp (ix3 x r l)
      = (att P (t0 + r.val % 256) (2 * p + r.val / 256) (128 * p + l.val) (base + 256 * (qi - 1)) : EReal) := by
  rw [accI_apply, mpv_block hqq hk ht hv hq.symm]
  by_cases h : b = 1
  · have h0 := h31.1 h
    have e : base + 256 * (qi - 1) + 256 = t0 := by omega
    rw [if_pos h, pv_block hqq hkp ht hvp, mtot_block hqq hk hq.symm, Ideal.exp_coe, ← EReal.coe_mul, ← EReal.coe_add]
    unfold att tot
    rw [W_split _ _ _ (show base + 256 * (qi - 1) ≤ t0 by omega) (show t0 ≤ t0 + r.val % 256 by omega), e]
  · have h0 : qi = 0 := by by_contra hh; exact h (h31.2 (by omega))
    rw [if_neg h, add_zero, show base + 256 * (qi - 1) = t0 by omega]

include hq hqq hk hkp h31 in
theorem cyI_start (x : Fin 1) (r : Fin 512) (y : Fin 1) : cyI b q k kp (ix3 x r y)
      = (tot P (t0 + r.val % 256) (2 * p + r.val / 256) (base + 256 * (qi - 1)) : EReal) := by
  rw [cyI_apply, mtot_block hqq hk hq.symm]
  by_cases h : b = 1
  · have h0 := h31.1 h
    have e : base + 256 * (qi - 1) + 256 = t0 := by omega
    rw [if_pos h, tot_block hqq hkp, ← EReal.coe_add]
    unfold tot
    rw [G_split _ (show base + 256 * (qi - 1) ≤ t0 by omega) (show t0 ≤ t0 + r.val % 256 by omega), e]
  · have h0 : qi = 0 := by by_contra hh; exact h (h31.2 (by omega))
    rw [if_neg h, add_zero, show base + 256 * (qi - 1) = t0 by omega]
end

section
variable {P : ℕ → ℕ → ℝ} {t0 base qi : ℕ} {v9 : FVec Ideal S256x512 .bf16} {tri : FVec Ideal S256x256 .bf16} {v31 : BitVec 1}
  {a8 a9 : View sig .tc .vmem S8192x512 .bf16} {f8 : a8.ty.Contents (Elt Ideal)} {f9 : a9.ty.Contents (Elt Ideal)}
  {a13 : View sig .tc .vmem S4x512x128 .f32} {f13 : a13.ty.Contents (Elt Ideal)}
  {a14 : View sig .tc .vmem S4x512x1 .f32} {f14 : a14.ty.Contents (Elt Ideal)} {i : grid0.Coords}
  {w0 w1 w2 w3 : FVec Ideal S1x512x128 .f32} {x0 x1 x2 x3 : FVec Ideal S1x512x1 .f32}

theorem begun (hqi : qi = ((i 0).val + 31) % 32) (hq : t0 = base + 256 * qi)
    (hv9 : ∀ (r : Fin 256) (c : Fin 512), v9 (ix2 r c) = ((P (t0 + r.val) (512 + c.val) * (-(1 / 8)) : ℝ) : EReal))
    (ht : ∀ j' j : Fin 256, tri (ix2 j' j) = ((if j.val < j'.val then 1 else 0 : ℝ) : EReal))
    (hc : Cached P base (256 * qi + 256) (a8.read (Elt Ideal) f8) (a9.read (Elt Ideal) f9))
    (h31 : v31 = 1 ↔ 0 < qi)
    (h0 : w0 = accI v31 tri (qS0 v9) (a8.readAt (Elt Ideal) (Rect.unit (s := S8192x512) (k0_off2 i) S256x128.size (k0_off2_inb i)).toLoadRect f8) (a9.readAt (Elt Ideal) (Rect.unit (s := S8192x512) (k0_off2 i) S256x128.size (k0_off2_inb i)).toLoadRect f9)
      (a8.readAt (Elt Ideal) (Rect.unit (s := S8192x512) (k0_off3 i) S256x128.size (k0_off3_inb i)).toLoadRect f8) (a9.readAt (Elt Ideal) (Rect.unit (s := S8192x512) (k0_off3 i) S256x128.size (k0_off3_inb i)).toLoadRect f9))
    (h1 : w1 = accI v31 tri (qS1 v9) (a8.readAt (Elt Ideal) (Rect.unit (s := S8192x512) (k0_off6 i) S256x128.size (k0_off6_inb i)).toLoadRect f8) (a9.readAt (Elt Ideal) (Rect.unit (s := S8192x512) (k0_off6 i) S256x128.size (k0_off6_inb i)).toLoadRect f9)
      (a8.readAt (Elt Ideal) (Rect.unit (s := S8192x512) (k0_off7 i) S256x128.size (k0_off7_inb i)).toLoadRect f8) (a9.readAt (Elt Ideal) (Rect.unit (s := S8192x512) (k0_off7 i) S256x128.size (k0_off7_inb i)).toLoadRect f9))
    (h2 : w2 = accI v31 tri (qS2 v9) (a8.readAt (Elt Ideal) (Rect.unit (s := S8192x512) (k0_off8 i) S256x128.size (k0_off8_inb i)).toLoadRect f8) (a9.readAt (Elt Ideal) (Rect.unit (s := S8192x512) (k0_off8 i) S256x128.size (k0_off8_inb i)).toLoadRect f9)
      (a8.readAt (Elt Ideal) (Rect.unit (s := S8192x512) (k0_off9 i) S256x128.size (k0_off9_inb i)).toLoadRect f8) (a9.readAt (Elt Ideal) (Rect.unit (s := S8192x512) (k0_off9 i) S256x128.size (k0_off9_inb i)).toLoadRect f9))
    (h3 : w3 = accI v31 tri (qS3 v9) (a8.readAt (Elt Ideal) (Rect.unit (s := S8192x512) (k0_off10 i) S256x128.size (k0_off10_inb i)).toLoadRect f8) (a9.readAt (Elt Ideal) (Rect.unit (s := S8192x512) (k0_off10 i) S256x128.size (k0_off10_inb i)).toLoadRect f9)
      (a8.readAt (Elt Ideal) (Rect.unit (s := S8192x512) (k0_off11 i) S256x128.size (k0_off11_inb i)).toLoadRect f8) (a9.readAt (Elt Ideal) (Rect.unit (s := S8192x512) (k0_off11 i) S256x128.size (k0_off11_inb i)).toLoadRect f9))
    (i0 : x0 = cyI v31 (qS0 v9) (a8.readAt (Elt Ideal) (Rect.unit (s := S8192x512) (k0_off2 i) S256x128.size (k0_off2_inb i)).toLoadRect f8) (a8.readAt (Elt Ideal) (Rect.unit (s := S8192x512) (k0_off3 i) S256x128.size (k0_off3_inb i)).toLoadRect f8))
    (i1 : x1 = cyI v31 (qS1 v9) (a8.readAt (Elt Ideal) (Rect.unit (s := S8192x512) (k0_off6 i) S256x128.size (k0_off6_inb i)).toLoadRect f8) (a8.readAt (Elt Ideal) (Rect.unit (s := S8192x512) (k0_off7 i) S256x128.size (k0_off7_inb i)).toLoadRect f8))
    (i2 : x2 = cyI v31 (qS2 v9) (a8.readAt (Elt Ideal) (Rect.unit (s := S8192x512) (k0_off8 i) S256x128.size (k0_off8_inb i)).toLoadRect f8) (a8.readAt (Elt Ideal) (Rect.unit (s := S8192x512) (k0_off9 i) S256x128.size (k0_off9_inb i)).toLoadRect f8))
    (i3 : x3 = cyI v31 (qS3 v9) (a8.readAt (Elt Ideal) (Rect.unit (s := S8192x512) (k0_off10 i) S256x128.size (k0_off10_inb i)).toLoadRect f8) (a8.readAt (Elt Ideal) (Rect.unit (s := S8192x512) (k0_off11 i) S256x128.size (k0_off11_inb i)).toLoadRect f8)) :
    Swept P t0 (base + 256 * (qi - 1))
      (a13.read (Elt Ideal) (a13.writes (Elt Ideal) f13 [
        ⟨Rect.unit (s := S4x512x128) ![3, 0, 0] S1x512x128.size inb_S4x512x128_S1x512x128_3_0_0, w3⟩,
        ⟨Rect.unit (s := S4x512x128) ![2, 0, 0] S1x512x128.size inb_S4x512x128_S1x512x128_2_0_0, w2⟩,
        ⟨Rect.unit (s := S4x512x128) ![1, 0, 0] S1x512x128.size inb_S4x512x128_S1x512x128_1_0_0, w1⟩,
        ⟨Rect.unit (s := S4x512x128) ![0, 0, 0] S1x512x128.size inb_S4x512x128_S1x512x128_0_0_0, w0⟩]))
      (a14.read (Elt Ideal) (a14.writes (Elt Ideal) f14 [
        ⟨Rect.unit (s := S4x512x1) ![3, 0, 0] S1x512x1.size inb_S4x512x1_S1x512x1_3_0_0, x3⟩,
        ⟨Rect.unit (s := S4x512x1) ![2, 0, 0] S1x512x1.size inb_S4x512x1_S1x512x1_2_0_0, x2⟩,
        ⟨Rect.unit (s := S4x512x1) ![1, 0, 0] S1x512x1.size inb_S4x512x1_S1x512x1_1_0_0, x1⟩,
        ⟨Rect.unit (s := S4x512x1) ![0, 0, 0] S1x512x1.size inb_S4x512x1_S1x512x1_0_0_0, x0⟩])) := by
  subst hqi
  set qi := ((i 0).val + 31) % 32 with hqi
  have hlt : qi < 32 := by omega
  have lk : ∀ (p : ℕ) (hp : p < 4) (m : ℕ) (hm : m ≤ qi) (off : Fin 2 → ℕ) (inb : ∀ a, off a + S256x128.size a ≤ S8192x512.size a) (_ : off = ![m * 256, 128 * p]) (j : Fin 256) (l : Fin 128),
      a8.readAt (Elt Ideal) (Rect.unit (s := S8192x512) off S256x128.size inb).toLoadRect f8 (ix2 j l)
        = (P (base + 256 * m + j.val) (1024 + (128 * p + l.val)) : EReal) := fun p hp m hm off inb ho j l => by
    rw [load_cache a8 f8 inb (m * 256) (128 * p) ho (by omega) (by omega), (hc _ _ (by dsimp only; omega)).1]
    dsimp only; rw [show base + (m * 256 + j.val) = base + 256 * m + j.val by ring]
  have lv : ∀ (p : ℕ) (hp : p < 4) (m : ℕ) (hm : m ≤ qi) (off : Fin 2 → ℕ) (inb : ∀ a, off a + S256x128.size a ≤ S8192x512.size a) (_ : off = ![m * 256, 128 * p]) (j : Fin 256) (l : Fin 128),
      a9.readAt (Elt Ideal) (Rect.unit (s := S8192x512) off S256x128.size inb).toLoadRect f9 (ix2 j l)
        = (P (base + 256 * m + j.val) (1536 + (128 * p + l.val)) : EReal) := fun p hp m hm off inb ho j l => by
    rw [load_cache a9 f9 inb (m * 256) (128 * p) ho (by omega) (by omega), (hc _ _ (by dsimp only; omega)).2]
    dsimp only; rw [show base + (m * 256 + j.val) = base + 256 * m + j.val by ring]
  refine ⟨fun p r l => ?_, fun p r => ?_⟩
  · rw [read4_13]
    subst h0 h1 h2 h3
    fin_cases p
    · exact accI_start hq ht (qS0_apply hv9) (lk 0 (by omega) qi (by omega) _ _ (off2_eq i)) (lv 0 (by omega) qi (by omega) _ _ (off2_eq i)) (lk 0 (by omega) (qi - 1) (by omega) _ _ (off3_eq i)) (lv 0 (by omega) (qi - 1) (by omega) _ _ (off3_eq i)) h31 0 r l
    · exact accI_start hq ht (qS1_apply hv9) (lk 1 (by omega) qi (by omega) _ _ (off6_eq i)) (lv 1 (by omega) qi (by omega) _ _ (off6_eq i)) (lk 1 (by omega) (qi - 1) (by omega) _ _ (off7_eq i)) (lv 1 (by omega) (qi - 1) (by omega) _ _ (off7_eq i)) h31 0 r l
    · exact accI_start hq ht (qS2_apply hv9) (lk 2 (by omega) qi (by omega) _ _ (off8_eq i)) (lv 2 (by omega) qi (by omega) _ _ (off8_eq i)) (lk 2 (by omega) (qi - 1) (by omega) _ _ (off9_eq i)) (lv 2 (by omega) (qi - 1) (by omega) _ _ (off9_eq i)) h31 0 r l
    · exact accI_start hq ht (qS3_apply hv9) (lk 3 (by omega) qi (by omega) _ _ (off10_eq i)) (lv 3 (by omega) qi (by omega) _ _ (off10_eq i)) (lk 3 (by omega) (qi - 1) (by omega) _ _ (off11_eq i)) (lv 3 (by omega) (qi - 1) (by omega) _ _ (off11_eq i)) h31 0 r l
  · rw [read4_14]
    subst i0 i1 i2 i3
    fin_cases p
    · exact cyI_start hq (qS0_apply hv9) (lk 0 (by omega) qi (by omega) _ _ (off2_eq i)) (lk 0 (by omega) (qi - 1) (by omega) _ _ (off3_eq i)) h31 0 r 0
    · exact cyI_start hq (qS1_apply hv9) (lk 1 (by omega) qi (by omega) _ _ (off6_eq i)) (lk 1 (by omega) (qi - 1) (by omega) _ _ (off7_eq i)) h31 0 r 0
    · exact cyI_start hq (qS2_apply hv9) (lk 2 (by omega) qi (by omega) _ _ (off8_eq i)) (lk 2 (by omega) (qi - 1) (by omega) _ _ (off9_eq i)) h31 0 r 0
    · exact cyI_start hq (qS3_apply hv9) (lk 3 (by omega) qi (by omega) _ _ (off10_eq i)) (lk 3 (by omega) (qi - 1) (by omega) _ _ (off11_eq i)) h31 0 r 0
end
end Cert.Proof.KV
-- ==== Proof.KV.Loop.lean ====
module

public import proofs.«01_k».proof.Proof.KI.Loop
public import proofs.«01_k».proof.Proof.KV.Trip

/-!
The sweep over earlier blocks, with values: from an accumulator and a carry that
have gathered the positions from block `n` of the batch on, the loop leaves them
with all positions of the batch gathered. The loop's exit test compares with a
constant that is minus infinity, so no block is skipped.
-/

@[expose] public section

set_option maxRecDepth 16384

noncomputable section

namespace Cert.Proof.KV

open Cert.KernelIdeal Cert.KernelIdeal.Gen Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Idealize.ShloMosaic.UR sig nD τ) ℕ

/-- The exit constant is minus infinity. -/
theorem exit_bot : Named.named (F := Ideal) κ "exit" (φ := .f32) 0xC2D00000#32 = (⊥ : EReal) :=
  IdealRules.named_const.ideal_named_scalar _ _ _ _ rfl

/-- The exit test never stops the sweep. -/
theorem flag_one (x : EReal) :
    Scalar.extui (Scalar.cmpf (F := Ideal) (φ := .f32) .oge x (Named.named κ "exit" 0xC2D00000#32)) = (1#32 : BitVec 32) := by
  rw [exit_bot]
  have : Scalar.cmpf (F := Ideal) (φ := .f32) .oge x (⊥ : EReal) = 1#1 := by
    show Ideal.cmp .oge x ⊥ = 1#1
    simp [Ideal.cmp]
  rw [this]; rfl

section Loop

variable (c : Dev nD)
  (arg8 : Memref sig .tc .vmem S8192x512 .bf16) (harg8 : arg8.IsWhole)
  (arg9 : Memref sig .tc .vmem S8192x512 .bf16) (harg9 : arg9.IsWhole)
  (arg13 : Memref sig .tc .vmem S4x512x128 .f32) (harg13 : arg13.IsWhole)
  (arg14 : Memref sig .tc .vmem S4x512x1 .f32) (harg14 : arg14.IsWhole)
  (f8 : Buf (Elt Ideal) (arg8.view.loc (c : Thread nD τ))) (f9 : Buf (Elt Ideal) (arg9.view.loc (c : Thread nD τ)))
  (P : ℕ → ℕ → ℝ) (t0 base : ℕ)

/-- The two caches as they are, the accumulator and the carry with the positions from block `n` on gathered. -/
def heldAt (n : ℕ) : sProp 𝕄 :=
  iprop(is_ c arg8 f8 ∗ is_ c arg9 f9 ∗ ∃ f13 : Buf (Elt Ideal) (arg13.view.loc (c : Thread nD τ)), ∃ f14 : Buf (Elt Ideal) (arg14.view.loc (c : Thread nD τ)),
    ⌜Swept P t0 (base + 256 * n) (arg13.view.read (Elt Ideal) f13) (arg14.view.read (Elt Ideal) f14)⌝
      ∗ is_ c arg13 f13 ∗ is_ c arg14 f14)

/-- The sweep's specification. -/
def sweep (n : ℕ) : sWPT 𝕄 (BitVec 32 × BitVec 32) := do
  sWPT.consume (heldAt c arg8 arg9 arg13 arg14 f8 f9 P t0 base n)
  let r ← sWPT.arbitrary
  sWPT.produce (heldAt c arg8 arg9 arg13 arg14 f8 f9 P t0 base 0)
  pure r

theorem sweep_apply (n : ℕ) (K : BitVec 32 × BitVec 32 → sProp 𝕄) :
    sweep c arg8 arg9 arg13 arg14 f8 f9 P t0 base n K
      = iprop(heldAt c arg8 arg9 arg13 arg14 f8 f9 P t0 base n ∗ ∀ r : BitVec 32 × BitVec 32, (heldAt c arg8 arg9 arg13 arg14 f8 f9 P t0 base 0 -∗ K r)) := rfl

theorem sweep_le (i : grid0.Coords) (v9 : FVec Ideal S256x512 .bf16) (v30 : FVec Ideal S256x256 .bf16) (E : Set ℕ)
    (hv9 : ∀ (r : Fin 256) (c : Fin 512), v9 (ix2 r c) = ((P (t0 + r.val) (512 + c.val) * (-(1 / 8)) : ℝ) : EReal))
    (ht : ∀ j' j : Fin 256, v30 (ix2 j' j) = ((if j.val < j'.val then 1 else 0 : ℝ) : EReal))
    (N : ℕ) (hc : Cached P base N (arg8.view.read (Elt Ideal) f8) (arg9.view.read (Elt Ideal) f9)) :
    ∀ (n : ℕ) (kb : BitVec 32), n ≤ 32 → (kb.toInt + 1).toNat = n → (n ≠ 0 → base + 256 * n ≤ t0) → 256 * n ≤ N → ∀ K,
      sweep c arg8 arg9 arg13 arg14 f8 f9 P t0 base n K
      ⊢ wp frame (wpE (defs₀ (F := Ideal)) 𝒱₀ (c : Thread nD τ) (some n)) E
          (defs₀ (F := Ideal) .tc 1 ⟨i, arg14, harg14, v9, lanes, arg8, harg8, arg9, harg9, v30, arg13, harg13, kb, 1#32⟩) K := by
  intro n
  induction n with
  | zero =>
    intro kb h32 hn _ _ K
    rw [sweep_apply]
    show _ ⊢ wp frame (wpE (defs₀ (F := Ideal)) 𝒱₀ (c : Thread nD τ) (some 0)) E
      (cc0_while1 i arg14 harg14 v9 lanes arg8 harg8 arg9 harg9 v30 arg13 harg13 kb 1#32) K
    simp only [cc0_while1_eq_skeleton]; unfold cc0_while1_skel
    have hc : ¬ Scalar.andi (Scalar.cmpi .sge kb 0#32) (Scalar.cmpi .sgt 1#32 0#32) = 1#1 := by
      have : Scalar.cmpi .sge kb 0#32 = 0#1 := by
        simp only [Scalar.cmpi, IntOp.cmpi]; rw [BitVec.sle_eq_decide]
        rw [decide_eq_false (by simp; omega)]; rfl
      rw [this]; simp [Scalar.andi, IntOp.andi]
    simp only [hc, ↓reduceIte, Prog.pure_eq_ret]
    iintro ⟨H, Hk⟩
    rw [wp_ret]; imodintro
    iapply Hk; iexact H
  | succ n ih =>
    intro kb h32 hn hlo hN K
    rw [sweep_apply]
    show _ ⊢ wp frame (wpE (defs₀ (F := Ideal)) 𝒱₀ (c : Thread nD τ) (some (n + 1))) E
      (cc0_while1 i arg14 harg14 v9 lanes arg8 harg8 arg9 harg9 v30 arg13 harg13 kb 1#32) K
    simp only [cc0_while1_eq_skeleton]; unfold cc0_while1_skel
    have h0 : kb.toInt = n := by omega
    have hkb : kb = BitVec.ofNat 32 n := by
      apply BitVec.eq_of_toInt_eq
      rw [h0]
      have : ∀ n : ℕ, n < 32 → (n : ℤ) = (BitVec.ofNat 32 n).toInt := by decide
      exact this n (by omega)
    have hc1 : Scalar.andi (Scalar.cmpi .sge kb 0#32) (Scalar.cmpi .sgt 1#32 0#32) = 1#1 := by
      have : Scalar.cmpi .sge kb 0#32 = 1#1 := by
        simp only [Scalar.cmpi, IntOp.cmpi]; rw [BitVec.sle_eq_decide]
        rw [decide_eq_true (by simp; omega)]; rfl
      rw [this]; rfl
    have hchk := chk_of_range kb (by omega) (by omega)
    have hsub : (Scalar.subi kb 1#32).toInt = kb.toInt - 1 := by
      show (kb - 1#32).toInt = _
      rw [BitVec.toInt_sub]; simp
      rw [Int.bmod_eq_of_le] <;> omega
    simp only [hc1, ↓reduceIte, k0_part15_eq_skeleton, k0_part16_eq_skeleton, k0_part17_eq_skeleton, k0_part18_eq_skeleton, k0_part19_eq_skeleton]
    unfold heldAt
    iintro ⟨⟨H8, H9, ⟨%f13, ⟨%f14, %hs, H13, H14⟩⟩⟩, Hk⟩
    sl_exec
    rw [flag_one]
    iapply (wp_call_spec 𝒱₀ (c : Thread nD τ) (some (n + 1)) E (sweep c arg8 arg9 arg13 arg14 f8 f9 P t0 base n) n
      (fun u hu => by cases hu; exact Nat.lt_succ_self n)
      (ih _ (by omega) (by rw [hsub]; omega) (fun _ => by have := hlo (by omega); omega) (by omega)))
    rw [sweep_apply]
    unfold heldAt
    isplitl [H8 H9 H13 H14]
    · isplitl [H8]; · iexact H8
      isplitl [H9]; · iexact H9
      iexists _
      iexists _
      isplitr
      rotate_left
      · isplitl [H13]; · iexact H13
        iexact H14
      · ipureintro
        exact trip (kb := kb) (hk := hchk) (f8 := f8) (f9 := f9) (v9 := v9) (tri := v30) hv9 ht hkb (by omega) (by have := hlo (by omega); omega) (by omega) hc
          hs rfl rfl rfl rfl rfl rfl rfl rfl
    · iintro %r H
      rw [wp_ret]; imodintro
      iapply Hk
      iexact H

end Loop

end Cert.Proof.KV

end
-- ==== Proof.KV.Body.lean ====
module

public import proofs.«01_k».proof.Proof.KI.Body
public import proofs.«01_k».proof.Proof.KV.Begin
public import proofs.«01_k».proof.Proof.KV.Init
public import proofs.«01_k».proof.Proof.KV.Loop
public import Idealize.ShloMosaic.Lib.VecWindow

/-!
One grid point with values. It projects a tile, stores the tile's `u` and `g`
columns in the outputs and its queries, keys and values in the scratches, and it
finishes the attention of the tile before.
-/

@[expose] public section

set_option maxRecDepth 16384

noncomputable section

namespace Cert.Proof.KV

open Cert.KernelIdeal Cert.KernelIdeal.Gen Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Idealize.ShloMosaic.UR sig nD τ) ℕ

/-- The tile attended at grid point `i`, within its batch. -/
abbrev tileOf (i : grid0.Coords) : ℕ := ((i 0).val + 31) % 32

theorem kb_eq (i : grid0.Coords) :
    ((Scalar.subi (Scalar.remsi (Scalar.addi (BitVec.ofNat 32 (i 0).val) 31#32) 32#32) 2#32).toInt + 1).toNat = tileOf i - 1 := by
  unfold tileOf; generalize i 0 = n; revert n; decide +kernel

theorem prev_iff (i : grid0.Coords) :
    Scalar.cmpi .sgt (Scalar.remsi (Scalar.addi (BitVec.ofNat 32 (i 0).val) 31#32) 32#32) 0#32 = 1 ↔ 0 < tileOf i := by
  unfold tileOf; generalize i 0 = n; revert n; decide +kernel

/-- What a grid point needs of the scratches: nothing at point 0, after it the queries of the tile to attend in
their slot, and the keys and values of its batch up to that tile. -/
def Ready (i : grid0.Coords) (P : ℕ → ℕ → ℝ) (base : ℕ) (g8 g9 : S8192x512.Idx → EReal) (g10 : S2x256x512.Idx → EReal) : Prop :=
  ((i 0).val = 0 → ∀ r c, P r c = 0)
  ∧ ((i 0).val ≠ 0 → (∀ (r : Fin 256) (c : Fin 512), g10 (ix3 ⟨((i 0).val + 1) % 2, by omega⟩ r c)
        = ((P (base + 256 * tileOf i + r.val) (512 + c.val) * (-(1 / 8)) : ℝ) : EReal))
      ∧ Cached P base (256 * tileOf i + 256) g8 g9)

/-- What a grid point leaves. -/
def Done (i : grid0.Coords) (P PN : ℕ → ℕ → ℝ) (base : ℕ) (f8 f9 : S8192x512.Idx → EReal) (g5 : S256x512.Idx → EReal) (g6 : S256x2048.Idx → EReal)
    (g7 : S256x512.Idx → EReal) (g8 g9 : S8192x512.Idx → EReal) (g10 : S2x256x512.Idx → EReal) : Prop :=
  (∀ (r : Fin 256) (c : Fin 512), g5 (ix2 r c) = (PN r.val c.val : EReal))
  ∧ (∀ (r : Fin 256) (c : Fin 2048), g6 (ix2 r c) = (PN r.val (2048 + c.val) : EReal))
  ∧ (∀ (r : Fin 256) (c : Fin 512), g7 (ix2 r c) = (att P (base + 256 * tileOf i + r.val) (c.val / 64) c.val base : EReal))
  ∧ (∀ (j : Fin 8192) (c : Fin 512), (i 0).val % 32 * 256 ≤ j.val → j.val < (i 0).val % 32 * 256 + 256 →
      g8 (ix2 j c) = (PN (j.val - (i 0).val % 32 * 256) (1024 + c.val) : EReal) ∧ g9 (ix2 j c) = (PN (j.val - (i 0).val % 32 * 256) (1536 + c.val) : EReal))
  ∧ ((i 0).val ≠ 0 → ∀ (j : Fin 8192) (c : Fin 512), ¬((i 0).val % 32 * 256 ≤ j.val ∧ j.val < (i 0).val % 32 * 256 + 256) →
      g8 (ix2 j c) = f8 (ix2 j c) ∧ g9 (ix2 j c) = f9 (ix2 j c))
  ∧ (∀ (r : Fin 256) (c : Fin 512), g10 (ix3 ⟨(i 0).val % 2, by omega⟩ r c) = ((PN r.val (512 + c.val) * (-(1 / 8)) : ℝ) : EReal))

/-- The queries and the caches after the first stretch. -/
theorem begun_ready (i : grid0.Coords) (P : ℕ → ℕ → ℝ) (base : ℕ) (a8 a9 : View sig .tc .vmem S8192x512 .bf16) (a10 : View sig .tc .vmem S2x256x512 .bf16)
    (f8 g8 : a8.ty.Contents (Elt Ideal)) (f9 g9 : a9.ty.Contents (Elt Ideal)) (f10 : a10.ty.Contents (Elt Ideal)) (v8 : Vec Ideal S1x256x512 .bf16)
    (hb : Begun i a8 a9 a10 f8 g8 f9 g9 f10 v8) (hr : Ready i P base (a8.read (Elt Ideal) f8) (a9.read (Elt Ideal) f9) (a10.read (Elt Ideal) f10)) :
    (∀ (r : Fin 256) (c : Fin 512), k0_pay9 v8 (ix2 r c) = ((P (base + 256 * tileOf i + r.val) (512 + c.val) * (-(1 / 8)) : ℝ) : EReal))
    ∧ Cached P base (256 * tileOf i + 256) (a8.read (Elt Ideal) g8) (a9.read (Elt Ideal) g9) := by
  have e9 : ∀ (r : Fin 256) (c : Fin 512), k0_pay9 v8 (ix2 r c) = v8 (ix3 0 r c) := fun r c => by unfold k0_pay9; pointwise
  by_cases h0 : (i 0).val = 0
  · obtain ⟨h8, h9, hq⟩ := hb.1 h0
    have hP := hr.1 h0
    refine ⟨fun r c => ?_, fun j c _ => ⟨?_, ?_⟩⟩
    · rw [e9, hq, hP]; simp
    · rw [h8, hP]; simp
    · rw [h9, hP]; simp
  · obtain ⟨rfl, rfl, rfl⟩ := hb.2 h0
    obtain ⟨hq, hc⟩ := hr.2 h0
    refine ⟨fun r c => ?_, hc⟩
    refine (e9 r c).trans ((readAt_unit a10 (k0_off1_inb i) f10 (ix3 0 r c) (ix3 ⟨((i 0).val + 1) % 2, by omega⟩ r c) (fun a => ?_)).trans (hq r c))
    have e := congrFun (off1_eq i) a
    rw [e]; fin_cases a <;> simp

theorem pay1_id (v : Vec Ideal S256x512 .bf16) : k0_pay1 v = v := by
  funext y; unfold k0_pay1; pointwise

theorem pay2_id (v : Vec Ideal S256x512 .bf16) : k0_pay2 v = v := by
  funext y; unfold k0_pay2; pointwise

section
variable (i : grid0.Coords) (P PN : ℕ → ℕ → ℝ) (base : ℕ)

theorem body_val (c : Dev nD) (E : Set ℕ)
    (a1 : Memref sig .tc .vmem S256x1024 .f32) (h1 : a1.IsWhole)
    (a2 : Memref sig .tc .vmem S1x1024 .f32) (h2 : a2.IsWhole)
    (a3 : Memref sig .tc .vmem S1024x4096 .bf16) (h3 : a3.IsWhole)
    (a4 : Memref sig .tc .vmem S256x256 .bf16) (h4 : a4.IsWhole)
    (a5 : Memref sig .tc .vmem S256x512 .f32) (h5 : a5.IsWhole)
    (a6 : Memref sig .tc .vmem S256x2048 .f32) (h6 : a6.IsWhole)
    (a7 : Memref sig .tc .vmem S256x512 .bf16) (h7 : a7.IsWhole)
    (a8 : Memref sig .tc .vmem S8192x512 .bf16) (h8 : a8.IsWhole)
    (a9 : Memref sig .tc .vmem S8192x512 .bf16) (h9 : a9.IsWhole)
    (a10 : Memref sig .tc .vmem S2x256x512 .bf16) (h10 : a10.IsWhole)
    (a11 : Memref sig .tc .vmem S256x512 .bf16) (h11 : a11.IsWhole)
    (a12 : Memref sig .tc .vmem S256x512 .bf16) (h12 : a12.IsWhole)
    (a13 : Memref sig .tc .vmem S4x512x128 .f32) (h13 : a13.IsWhole)
    (a14 : Memref sig .tc .vmem S4x512x1 .f32) (h14 : a14.IsWhole)
    (f1 : Buf (Elt Ideal) (a1.view.loc (c : Thread nD τ))) (f2 : Buf (Elt Ideal) (a2.view.loc (c : Thread nD τ))) (f3 : Buf (Elt Ideal) (a3.view.loc (c : Thread nD τ))) (f4 : Buf (Elt Ideal) (a4.view.loc (c : Thread nD τ)))
    (f8 : Buf (Elt Ideal) (a8.view.loc (c : Thread nD τ))) (f9 : Buf (Elt Ideal) (a9.view.loc (c : Thread nD τ))) (f10 : Buf (Elt Ideal) (a10.view.loc (c : Thread nD τ)))
    (hp : Projects (k0_pay10 (a1.view.readAt (Elt Ideal) (Rect.unit (s := S256x1024) ![0, 0] S256x1024.size inb_S256x1024_S256x1024_0_0).toLoadRect f1)
              (a2.view.readAt (Elt Ideal) (Rect.unit (s := S1x1024) ![0, 0] S1x1024.size inb_S1x1024_S1x1024_0_0).toLoadRect f2)) (a3.view.read (Elt Ideal) f3) PN)
    (ht : ∀ j' j : Fin 256, k0_pay11 (a4.view.readAt (Elt Ideal) (Rect.unit (s := S256x256) ![0, 0] S256x256.size inb_S256x256_S256x256_0_0).toLoadRect f4) (ix2 j' j)
      = ((if j.val < j'.val then 1 else 0 : ℝ) : EReal))
    (hr : Ready i P base (a8.view.read (Elt Ideal) f8) (a9.view.read (Elt Ideal) f9) (a10.view.read (Elt Ideal) f10))
    (K : PUnit → sProp 𝕄) :
    iprop((is_ c a1 f1 ∗ is_ c a2 f2 ∗ is_ c a3 f3 ∗ is_ c a4 f4 ∗ some_ (F := Ideal) c a5 ∗ some_ (F := Ideal) c a6 ∗ some_ (F := Ideal) c a7 ∗ is_ c a8 f8 ∗ is_ c a9 f9 ∗ is_ c a10 f10 ∗ some_ (F := Ideal) c a11 ∗ some_ (F := Ideal) c a12 ∗ some_ (F := Ideal) c a13 ∗ some_ (F := Ideal) c a14)
      ∗ (∀ g5 : Buf (Elt Ideal) (a5.view.loc (c : Thread nD τ)), ∀ g6 : Buf (Elt Ideal) (a6.view.loc (c : Thread nD τ)), ∀ g7 : Buf (Elt Ideal) (a7.view.loc (c : Thread nD τ)),
          ∀ g8 : Buf (Elt Ideal) (a8.view.loc (c : Thread nD τ)), ∀ g9 : Buf (Elt Ideal) (a9.view.loc (c : Thread nD τ)), ∀ g10 : Buf (Elt Ideal) (a10.view.loc (c : Thread nD τ)),
          ⌜Done i P PN base (a8.view.read (Elt Ideal) f8) (a9.view.read (Elt Ideal) f9) (a5.view.read (Elt Ideal) g5) (a6.view.read (Elt Ideal) g6) (a7.view.read (Elt Ideal) g7)
            (a8.view.read (Elt Ideal) g8) (a9.view.read (Elt Ideal) g9) (a10.view.read (Elt Ideal) g10)⌝ -∗
          (is_ c a1 f1 ∗ is_ c a2 f2 ∗ is_ c a3 f3 ∗ is_ c a4 f4 ∗ is_ c a5 g5 ∗ is_ c a6 g6 ∗ is_ c a7 g7 ∗ is_ c a8 g8 ∗ is_ c a9 g9 ∗ is_ c a10 g10 ∗ some_ (F := Ideal) c a11 ∗ some_ (F := Ideal) c a12 ∗ some_ (F := Ideal) c a13 ∗ some_ (F := Ideal) c a14) -∗ K ()))
    ⊢ wp frame (wpE (defs₀ (F := Ideal)) 𝒱₀ (c : Thread nD τ) none) E
        (cc0_mix i a1 h1 a2 h2 a3 h3 a4 h4 a5 h5 a6 h6 a7 h7 a8 h8 a9 h9 a10 h10 a11 h11 a12 h12 a13 h13 a14 h14) K := by
  simp only [cc0_mix_eq_skeleton]; unfold cc0_mix_skel
  rw [wp_bind]
  iintro ⟨⟨H1, H2, H3, H4, H5, H6, H7, H8, H9, H10, H11, H12, H13, H14⟩, Hk⟩
  iapply (part1_run c i E a1 h1 a2 h2 a3 h3 a4 h4 a5 h5 a6 h6 a7 h7 a8 h8 a9 h9 a10 h10 a11 h11 a12 h12 a13 h13 a14 h14 f1 f2 f4 f8 f9 f10)
  isplitl [H1 H2 H4 H8 H9 H10]
  · isplitl [H1]; · iexact H1
    isplitl [H2]; · iexact H2
    isplitl [H4]; · iexact H4
    isplitl [H8]; · iexact H8
    isplitl [H9]; · iexact H9
    iexact H10
  iintro %g8 %g9 %g10 %rv %hb ⟨H1, H2, H4, H8, H9, H10⟩
  obtain ⟨v8, hb, rfl⟩ := hb
  obtain ⟨hv9, hc⟩ := begun_ready i P base _ _ _ f8 g8 f9 g9 f10 v8 hb hr
  dsimp only
  simp only [k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold is_ some_
  icases H5 with ⟨%f5, H5⟩
  icases H6 with ⟨%f6, H6⟩
  icases H7 with ⟨%f7, H7⟩
  icases H11 with ⟨%f11, H11⟩
  icases H12 with ⟨%f12, H12⟩
  icases H13 with ⟨%f13, H13⟩
  icases H14 with ⟨%f14, H14⟩
  sl_exec
  iapply (wp_call_spec 𝒱₀ (c : Thread nD τ) none E (sweep c a8 a9 a13 a14 g8 g9 P (base + 256 * tileOf i) base (tileOf i - 1)) (tileOf i - 1)
      (fun u hu => nomatch hu)
      (sweep_le c a8 h8 a9 h9 a13 h13 a14 h14 g8 g9 P _ base i _ _ E hv9 ht _ hc (tileOf i - 1) _ (by unfold tileOf; omega) (kb_eq i) (by intro _; omega) (by omega)))
  rw [sweep_apply]
  unfold heldAt
  isplitl [H8 H9 H13 H14]
  · isplitl [H8]; · iexact H8
    isplitl [H9]; · iexact H9
    iexists _
    iexists _
    isplitr
    rotate_left
    · isplitl [H13]; · iexact H13
      iexact H14
    · ipureintro
      exact begun (i := i) rfl rfl hv9 ht hc (prev_iff i) rfl rfl rfl rfl rfl rfl rfl rfl
  unfold is_
  iintro %r ⟨H8, H9, ⟨%g13, ⟨%g14, %hs, H13, H14⟩⟩⟩
  rw [show base + 256 * 0 = base by omega] at hs
  sl_exec
  rw [wp_ret]; imodintro
  iapply Hk
  rotate_left 1
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexists _; iexact H13
    iexists _; iexact H14
  · ipureintro
    refine ⟨?_, ?_, ?_, ?_, ?_, ?_⟩
    · exact fun r c => u_out hp a5.view f5 rfl rfl r c
    · exact fun r c => g_out hp a6.view f6 rfl rfl rfl rfl rfl rfl rfl rfl r c
    · exact fun r c => y_out a13.view g13 hs.1 a7.view f7 rfl rfl rfl rfl r c
    · intro j c hj1 hj2
      refine ⟨(cache_out a8.view g8 i _ _ (off16_eq i) j c).trans ?_, (cache_out a9.view g9 i _ _ (off16_eq i) j c).trans ?_⟩
      · rw [dif_pos ⟨hj1, hj2⟩]
        refine (congrFun (pay1_id _) _).trans ?_
        exact (congrFun (View.readAt_full a11.view _ _) _).trans (kv_out hp a11.view _ 1024 _ _ rfl rfl ⟨j.val - (i 0).val % 32 * 256, by omega⟩ c)
      · rw [dif_pos ⟨hj1, hj2⟩]
        refine (congrFun (pay2_id _) _).trans ?_
        exact (congrFun (View.readAt_full a12.view _ _) _).trans (kv_out hp a12.view _ 1536 _ _ rfl rfl ⟨j.val - (i 0).val % 32 * 256, by omega⟩ c)
    · intro h0 j c hj
      obtain ⟨rfl, rfl, _⟩ := hb.2 h0
      refine ⟨(cache_out a8.view g8 i _ _ (off16_eq i) j c).trans ?_, (cache_out a9.view g9 i _ _ (off16_eq i) j c).trans ?_⟩
      · rw [dif_neg hj]
      · rw [dif_neg hj]
    · exact fun r c => q_out hp a10.view g10 i rfl rfl r c
end

end Cert.Proof.KV

end
-- ==== Proof.KV.Run.lean ====
module

public import proofs.«01_k».proof.Proof.KV.Inputs
public import proofs.«01_k».proof.Proof.KV.Body

/-!
The run of the whole kernel with values. Between two grid points the scratches hold the
queries of the last projected tile and the keys and values of its batch so far.
-/

@[expose] public section

set_option maxRecDepth 16384

noncomputable section

namespace Cert.Proof.KV

open Cert.KernelIdeal Cert.KernelIdeal.Gen Cert.Proof.KI

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Ideal) ℕ (Idealize.ShloMosaic.UR sig nD τ) ℕ

/-- What the scratches hold before grid point `t`: at first anything, then the queries of tile `t - 1` in their slot
and the keys and values of its batch up to it. -/
def Inv (P : ℕ → ℕ → ℝ) (t : ℕ) (g8 g9 : S8192x512.Idx → EReal) (g10 : S2x256x512.Idx → EReal) : Prop :=
  1 ≤ t → t ≤ 128 →
    (∀ (r : Fin 256) (c : Fin 512), g10 (ix3 ⟨(t - 1) % 2, by omega⟩ r c) = ((P ((t - 1) * 256 + r.val) (512 + c.val) * (-(1 / 8)) : ℝ) : EReal))
    ∧ Cached P ((t - 1) / 32 * 8192) ((t - 1) % 32 * 256 + 256) g8 g9

/-- The projections the attention of point `t` reads: all zero at point 0. -/
def prior (P : ℕ → ℕ → ℝ) (t : ℕ) : ℕ → ℕ → ℝ := if t = 0 then fun _ _ => 0 else P

theorem inv_ready (i : grid0.Coords) (P : ℕ → ℕ → ℝ) {g8 g9 : S8192x512.Idx → EReal} {g10 : S2x256x512.Idx → EReal}
    (h : Inv P (i 0).val g8 g9 g10) : Ready i (prior P (i 0).val) (((i 0).val - 1) / 32 * 8192) g8 g9 g10 := by
  have hlt : (i 0).val < 129 := (i 0).isLt
  refine ⟨fun h0 r c => by rw [prior, if_pos h0], fun h0 => ?_⟩
  obtain ⟨hq, hc⟩ := h (by omega) (by omega)
  rw [prior, if_neg h0]
  refine ⟨fun r c => ?_, ?_⟩
  · have e : (⟨((i 0).val + 1) % 2, by omega⟩ : Fin 2) = ⟨((i 0).val - 1) % 2, by omega⟩ := Fin.ext (by simp only; omega)
    rw [e, hq]
    congr 3
    unfold tileOf; omega
  · rw [show 256 * tileOf i + 256 = ((i 0).val - 1) % 32 * 256 + 256 by unfold tileOf; omega]
    exact hc

theorem done_inv (i : grid0.Coords) (P PN : ℕ → ℕ → ℝ) (hPN : ∀ r c, PN r c = P (min (i 0).val 127 * 256 + r) c)
    {P' : ℕ → ℕ → ℝ} {base : ℕ} {f8 f9 : S8192x512.Idx → EReal} {f10 : S2x256x512.Idx → EReal} {g5 g6 g7} {g8 g9 : S8192x512.Idx → EReal} {g10 : S2x256x512.Idx → EReal}
    (h : Inv P (i 0).val f8 f9 f10) (hd : Done i P' PN base f8 f9 g5 g6 g7 g8 g9 g10) : Inv P ((i 0).val + 1) g8 g9 g10 := by
  obtain ⟨-, -, -, hnew, hold, hq⟩ := hd
  intro _ hle
  simp only [Nat.add_sub_cancel]
  refine ⟨fun r c => ?_, fun j c hj => ?_⟩
  · rw [hq, hPN, show min (i 0).val 127 = (i 0).val by omega]
  · by_cases hj1 : (i 0).val % 32 * 256 ≤ j.val
    · obtain ⟨a, b⟩ := hnew j c hj1 hj
      rw [a, b, hPN, hPN, show min (i 0).val 127 * 256 + (j.val - (i 0).val % 32 * 256) = (i 0).val / 32 * 8192 + j.val by omega]
      exact ⟨rfl, rfl⟩
    · obtain ⟨a, b⟩ := hold (by omega) j c (by omega)
      obtain ⟨-, hc⟩ := h (by omega) (by omega)
      have := hc j c (by omega)
      rw [a, b, this.1, this.2, show ((i 0).val - 1) / 32 = (i 0).val / 32 by omega]
      exact ⟨rfl, rfl⟩

variable (m : (ℓ : Loc nD τ sig) → Buf (Elt Ideal) ℓ) (ρ : Dev nD → PrngReg)

/-- `P` is what the arrays project to, and the fourth array is the strict triangle. -/
structure Known (c : Dev nD) (P : ℕ → ℕ → ℝ) : Prop where
  proj : ∀ (r : Fin 32768) (j : Fin 4096),
    ∑ d : Fin 1024, nrow (fun k => (entry m c main_v0 : S32768x1024.Idx → EReal) (ix2 r k)) (fun k => (entry m c main_v2 : S1x1024.Idx → EReal) (ix2 0 k)) d
      * (entry m c main_v4 : S1024x4096.Idx → EReal) (ix2 d j) = (P r.val j.val : EReal)
  tri : ∀ a b : Fin 256, (entry m c main_v8 : S256x256.Idx → EReal) (ix2 a b) = ((if b.val < a.val then 1 else 0 : ℝ) : EReal)

/-- What the kernel's three outputs hold of a point's block. -/
def OutU (P : ℕ → ℕ → ℝ) (t : ℕ) (X : S256x512.Idx → EReal) : Prop :=
  ∀ (r : Fin 256) (c : Fin 512), X (ix2 r c) = (P (min t 127 * 256 + r.val) c.val : EReal)
def OutG (P : ℕ → ℕ → ℝ) (t : ℕ) (X : S256x2048.Idx → EReal) : Prop :=
  ∀ (r : Fin 256) (c : Fin 2048), X (ix2 r c) = (P (min t 127 * 256 + r.val) (2048 + c.val) : EReal)
def OutY (P : ℕ → ℕ → ℝ) (t : ℕ) (X : S256x512.Idx → EReal) : Prop :=
  1 ≤ t → ∀ (r : Fin 256) (c : Fin 512),
    X (ix2 r c) = (att P ((t - 1) * 256 + r.val) (c.val / 64) c.val ((t - 1) / 32 * 8192) : EReal)

/-- Of an output's block at a point: the above. -/
def Out (P : ℕ → ℕ → ℝ) : (w : Fin 7) → (t : ℕ) → (((cfg0 (F := Ideal)).win w).block.Idx → Elt Ideal ((cfg0 (F := Ideal)).win w).elt) → Prop
  | 4, t, X => OutU P t X
  | 5, t, X => OutG P t X
  | 6, t, X => OutY P t X
  | _, _, _ => True

/-- The scratch with what it is known to hold before point `t`. -/
def scratch (P : ℕ → ℕ → ℝ) (c : Dev nD) (t : ℕ) : sProp 𝕄 :=
  iprop((∃ g8, ∃ g9, ∃ g10, ⌜Inv P t ((Memref.whole cc0_scratch0).view.read (Elt Ideal) g8) ((Memref.whole cc0_scratch1).view.read (Elt Ideal) g9) ((Memref.whole cc0_scratch2).view.read (Elt Ideal) g10)⌝
      ∗ (is_ c (Memref.whole cc0_scratch0) g8 ∗ is_ c (Memref.whole cc0_scratch1) g9 ∗ is_ c (Memref.whole cc0_scratch2) g10
        ∗ some_ (F := Ideal) c (Memref.whole cc0_scratch3) ∗ some_ (F := Ideal) c (Memref.whole cc0_scratch4)
        ∗ some_ (F := Ideal) c (Memref.whole cc0_scratch5) ∗ some_ (F := Ideal) c (Memref.whole cc0_scratch6))) ∗ ∃ r, prngReg c r)

/-- The windows' data with values. -/
def vdat (P : Dev nD → ℕ → ℕ → ℝ) (c : Dev nD) : RDat τ (Elt Ideal) Unit ℕ (UR sig nD τ) ℕ (cfg0 (F := Ideal)) c where
  A w := entry m c (Pipeline.arrRef spec0 w)
  after w t Y X := (((cfg0 (F := Ideal)).win w).isOut = false → X = Y) ∧ Out (P c) w t.val X
  Φ t := scratch (P c) c t.val
  q _ := fullShare
  owed _ := 0

theorem scratch_in (P : ℕ → ℕ → ℝ) (c : Dev nD) : (Pipeline.ΦA (U := UR sig nD τ) (Val := Elt Ideal) spec0 c : sProp 𝕄) ⊢ scratch P c 0 := by
  rw [phi_eq]; unfold scratch
  conv_lhs => unfold some_
  iintro ⟨⟨⟨%g8, H8⟩, ⟨%g9, H9⟩, ⟨%g10, H10⟩, H11, H12, H13, H14⟩, Hr⟩
  isplitr [Hr]
  · iexists g8; iexists g9; iexists g10
    isplitr; · ipureintro; exact fun h => absurd h (by omega)
    unfold is_ some_
    isplitl [H8]; · iexact H8
    isplitl [H9]; · iexact H9
    isplitl [H10]; · iexact H10
    isplitl [H11]; · iexact H11
    isplitl [H12]; · iexact H12
    isplitl [H13]; · iexact H13
    iexact H14
  iexact Hr

theorem scratch_out (P : ℕ → ℕ → ℝ) (c : Dev nD) (t : ℕ) : scratch P c t ⊢ (Pipeline.ΦA (U := UR sig nD τ) (Val := Elt Ideal) spec0 c : sProp 𝕄) := by
  rw [phi_eq]; unfold scratch
  iintro ⟨⟨%g8, %g9, %g10, -, H8, H9, H10, H11, H12, H13, H14⟩, Hr⟩
  unfold is_ some_
  isplitr [Hr]
  · isplitl [H8]; · iexists g8; iexact H8
    isplitl [H9]; · iexists g9; iexact H9
    isplitl [H10]; · iexists g10; iexact H10
    isplitl [H11]; · iexact H11
    isplitl [H12]; · iexact H12
    isplitl [H13]; · iexact H13
    iexact H14
  iexact Hr

theorem coords0 : ∀ t : Fin grid0.N, (grid0.coords t 0).val = t.val := by decide +kernel

/-- An input's staging buffer holds its block. -/
theorem finds_in (P : Dev nD → ℕ → ℕ → ℝ) (c : Dev nD) (w : Fin (cfg0 (F := Ideal)).W) (hw : ((cfg0 (F := Ideal)).win w).isOut = false)
    (hclip : ∀ t t' : Fin (cfg0 (F := Ideal)).N, ((cfg0 (F := Ideal)).win w).index t = ((cfg0 (F := Ideal)).win w).index t' →
      ((cfg0 (F := Ideal)).win w).clip ((cfg0 (F := Ideal)).grid.coords t) = ((cfg0 (F := Ideal)).win w).clip ((cfg0 (F := Ideal)).grid.coords t'))
    (t : Fin (cfg0 (F := Ideal)).N) (Y) (hY : (vdat m P c).Finds w t Y) : ∃ d, Y = (vdat m P c).fetched w t d :=
  RDat.finds_in_eq_fetched (vdat m P c) w hw hclip (fun _ _ _ h => h.1 hw) t Y hY

/-- The projection a point computes is the tile's. -/
theorem projects (P : Dev nD → ℕ → ℕ → ℝ) (c : Dev nD) (hk : Known m c (P c)) (t : Fin grid0.N)
    (a1 : View sig .tc .vmem S256x1024 .f32) (a2 : View sig .tc .vmem S1x1024 .f32) (a3 : View sig .tc .vmem S1024x4096 .bf16)
    (f1 : a1.ty.Contents (Elt Ideal)) (f2 : a2.ty.Contents (Elt Ideal)) (f3 : a3.ty.Contents (Elt Ideal)) (d0 d1 d2)
    (h1 : a1.read (Elt Ideal) f1 = (vdat m P c).fetched 0 t d0) (h2 : a2.read (Elt Ideal) f2 = (vdat m P c).fetched 1 t d1)
    (h3 : a3.read (Elt Ideal) f3 = (vdat m P c).fetched 2 t d2) :
    Projects (k0_pay10 (a1.readAt (Elt Ideal) (Rect.unit (s := S256x1024) ![0, 0] S256x1024.size inb_S256x1024_S256x1024_0_0).toLoadRect f1)
        (a2.readAt (Elt Ideal) (Rect.unit (s := S1x1024) ![0, 0] S1x1024.size inb_S1x1024_S1x1024_0_0).toLoadRect f2)) (a3.read (Elt Ideal) f3)
      (fun r j => P c (min (grid0.coords t 0).val 127 * 256 + r) j) := by
  have q1 := (View.readAt_full a1 f1 inb_S256x1024_S256x1024_0_0).trans h1
  have q2 := (View.readAt_full a2 f2 inb_S1x1024_S1x1024_0_0).trans h2
  intro r j
  rw [coords0]
  have key := hk.proj ⟨min t.val 127 * 256 + r.val, by have := r.isLt; omega⟩ j
  refine Eq.trans (Finset.sum_congr rfl fun d _ => ?_) key
  refine congrArg₂ (· * ·) ?_ ((congrFun h3 (ix2 d j)).trans (fetched2 (vdat m P c) t d2 d j))
  refine (pay10_row _ _ r d).trans ?_
  congr 1
  · funext k; exact (congrFun q1 (ix2 r k)).trans (fetched0 (vdat m P c) t d0 r k)
  · funext k; exact (congrFun q2 (ix2 0 k)).trans (fetched1 (vdat m P c) t d1 k)

theorem triangle (P : Dev nD → ℕ → ℕ → ℝ) (c : Dev nD) (hk : Known m c (P c)) (t : Fin grid0.N)
    (a4 : View sig .tc .vmem S256x256 .bf16) (f4 : a4.ty.Contents (Elt Ideal)) (d3) (h4 : a4.read (Elt Ideal) f4 = (vdat m P c).fetched 3 t d3) (a b : Fin 256) :
    k0_pay11 (a4.readAt (Elt Ideal) (Rect.unit (s := S256x256) ![0, 0] S256x256.size inb_S256x256_S256x256_0_0).toLoadRect f4) (ix2 a b)
      = ((if b.val < a.val then 1 else 0 : ℝ) : EReal) :=
  (pay11_id _ a b).trans ((congrFun ((View.readAt_full a4 f4 inb_S256x256_S256x256_0_0).trans h4) (ix2 a b)).trans ((fetched3 (vdat m P c) t d3 a b).trans (hk.tri a b)))

/-- The three outputs and the scratch a point leaves. -/
theorem done_out (i : grid0.Coords) (P : ℕ → ℕ → ℝ) {f8 f9 : S8192x512.Idx → EReal} {g5 g6 g7} {g8 g9 : S8192x512.Idx → EReal} {g10 : S2x256x512.Idx → EReal}
    (hd : Done i (prior P (i 0).val) (fun r j => P (min (i 0).val 127 * 256 + r) j) (((i 0).val - 1) / 32 * 8192) f8 f9 g5 g6 g7 g8 g9 g10) :
    OutU P (i 0).val g5 ∧ OutG P (i 0).val g6 ∧ OutY P (i 0).val g7 := by
  obtain ⟨hu, hg, hy, -⟩ := hd
  refine ⟨hu, hg, fun h1 r c => ?_⟩
  rw [hy, prior, if_neg (by omega)]
  congr 2
  unfold tileOf; omega

set_option maxHeartbeats 2000000 in
theorem body_obligation (P : Dev nD → ℕ → ℕ → ℝ) (c : Dev nD) (hk : Known m c (P c)) :
    (vdat m P c).BodyObligation (defs₀ (F := Ideal)) 𝒱₀ () Set.univ := fun t Y hY => by
  obtain ⟨d0, y0⟩ := finds_in m P c 0 rfl (fun _ _ _ => rfl) t _ (hY 0)
  obtain ⟨d1, y1⟩ := finds_in m P c 1 rfl (fun _ _ _ => rfl) t _ (hY 1)
  obtain ⟨d2, y2⟩ := finds_in m P c 2 rfl (fun _ _ _ => rfl) t _ (hY 2)
  obtain ⟨d3, y3⟩ := finds_in m P c 3 rfl (fun _ _ _ => rfl) t _ (hY 3)
  rw [bigSep_W0, bigSep_W0]
  show iprop(scratch (P c) c t.val ∗ _) ⊢ wp frame (wpE (defs₀ (F := Ideal)) 𝒱₀ (c : Thread nD τ) none) Set.univ (bodyAt0 t) fun _ =>
    iprop(scratch (P c) c (t.val + 1) ∗ (vdat m P c).owesAt () t.castSucc ∗ _)
  unfold owns scratch
  iintro ⟨⟨⟨%g8, %g9, %g10, %hinv, G0, G1, G2, G3, G4, G5, G6⟩, Gr⟩, Ho, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩
  iapply (body_val (grid0.coords t) (prior (P c) (grid0.coords t 0).val) (fun r j => P c (min (grid0.coords t 0).val 127 * 256 + r) j)
    (((grid0.coords t 0).val - 1) / 32 * 8192) c Set.univ _ _ _ _ _ _ _ _ _ _ _ _ _ _ _ _ _ _ _ _ _ _ _ _ _ _ _ _ f0 f1 f2 f3 g8 g9 g10
    (projects m P c hk t _ _ _ f0 f1 f2 d0 d1 d2 (e0.trans y0) (e1.trans y1) (e2.trans y2)) (triangle m P c hk t _ f3 d3 (e3.trans y3))
    (inv_ready _ _ (by rw [coords0]; exact hinv)))
  isplitl [G0 G1 G2 G3 G4 G5 G6 H0 H1 H2 H3 H4 H5 H6]
  · isplitl [H0]; · iexact H0
    isplitl [H1]; · iexact H1
    isplitl [H2]; · iexact H2
    isplitl [H3]; · iexact H3
    isplitl [H4]; · iexists f4; iexact H4
    isplitl [H5]; · iexists f5; iexact H5
    isplitl [H6]; · iexists f6; iexact H6
    isplitl [G0]; · iexact G0
    isplitl [G1]; · iexact G1
    isplitl [G2]; · iexact G2
    isplitl [G3]; · iexact G3
    isplitl [G4]; · iexact G4
    isplitl [G5]; · iexact G5
    iexact G6
  iintro %u %g %y %k8 %k9 %k10 %hd ⟨H0, H1, H2, H3, H4, H5, H6, G0, G1, G2, G3, G4, G5, G6⟩
  have hinv' := done_inv (grid0.coords t) (P c) (fun r j => P c (min (grid0.coords t 0).val 127 * 256 + r) j) (fun _ _ => rfl) (by rw [coords0]; exact hinv) hd
  obtain ⟨ou, og, oy⟩ := done_out (grid0.coords t) (P c) hd
  rw [coords0] at hinv' ou og oy
  isplitl [G0 G1 G2 G3 G4 G5 G6 Gr]
  · isplitr [Gr]
    · iexists k8; iexists k9; iexists k10
      isplitr; · ipureintro; exact hinv'
      isplitl [G0]; · iexact G0
      isplitl [G1]; · iexact G1
      isplitl [G2]; · iexact G2
      isplitl [G3]; · iexact G3
      isplitl [G4]; · iexact G4
      isplitl [G5]; · iexact G5
      iexact G6
    iexact Gr
  isplitl [Ho]; · iexact Ho
  isplitl [H0]
  · iexists (Y 0); isplitr; · ipureintro; exact ⟨fun _ => rfl, trivial⟩
    iexists f0; isplitr; · ipureintro; exact e0
    iexact H0
  isplitl [H1]
  · iexists (Y 1); isplitr; · ipureintro; exact ⟨fun _ => rfl, trivial⟩
    iexists f1; isplitr; · ipureintro; exact e1
    iexact H1
  isplitl [H2]
  · iexists (Y 2); isplitr; · ipureintro; exact ⟨fun _ => rfl, trivial⟩
    iexists f2; isplitr; · ipureintro; exact e2
    iexact H2
  isplitl [H3]
  · iexists (Y 3); isplitr; · ipureintro; exact ⟨fun _ => rfl, trivial⟩
    iexists f3; isplitr; · ipureintro; exact e3
    iexact H3
  isplitl [H4]
  · iexists ((st0_4 t).view.read (Elt Ideal) u); isplitr; · ipureintro; exact ⟨fun h => Bool.noConfusion (show true = false from h), ou⟩
    iexists u; isplitr; · ipureintro; rfl
    iexact H4
  isplitl [H5]
  · iexists ((st0_5 t).view.read (Elt Ideal) g); isplitr; · ipureintro; exact ⟨fun h => Bool.noConfusion (show true = false from h), og⟩
    iexists g; isplitr; · ipureintro; rfl
    iexact H5
  iexists ((st0_6 t).view.read (Elt Ideal) y); isplitr; · ipureintro; exact ⟨fun h => Bool.noConfusion (show true = false from h), oy⟩
  iexists y; isplitr; · ipureintro; rfl
  iexact H6

/-- Every run of the program ends, with the windows' arrays and every other buffer as the data say, and the counters at zero. -/
theorem run_val (P : Dev nD → ℕ → ℕ → ℝ) (hk : ∀ c, Known m c (P c)) : θ_run defs (onTc (τ := τ) (main (F := Ideal))) (s₀ m ρ)
    (fun r => Pipeline.RDat.FramePost (cfg0 (F := Ideal)) (vdat m P) (entry m) r ∧ r.2.sem = fun _ => 0) :=
  Pipeline.RDat.θ_run_frame_track cfgs 0 launch0 defs₀ 𝒱₀ (vdat m P) m ρ main
    (hbody := fun c => body_obligation m P c (hk c))
    (hshare := fun c w => by unfold RDat.share; split <;> rfl)
    (howed := fun _ _ => rfl)
    (V := entry m)
    (hmain := Pipeline.hmain_prefix cfgs 0 defs₀ 𝒱₀ m main (hostOps0 (F := Ideal)) hostOps0_sub ⟨rfl, rfl, rfl, rfl, rfl, rfl, rfl, rfl, rfl⟩ main_chain)
    (hA := fun _ _ => rfl) (hin := fun c => scratch_in (P c) c) (hout := fun c => scratch_out (P c) c _)
    (Q' := fun r => Pipeline.RDat.FramePost (cfg0 (F := Ideal)) (vdat m P) (entry m) r ∧ r.2.sem = fun _ => 0)
    (hQ' := fun _ h => h)

end Cert.Proof.KV

end
-- ==== Proof.KV.Array.lean ====
module

public import proofs.«01_k».proof.Proof.KV.Run
public import Idealize.ShloMosaic.Lib.Pipeline.Covers

/-!
The three outputs after the run, as arrays.
-/

@[expose] public section

set_option maxRecDepth 16384

noncomputable section

namespace Cert.Proof.KV

open Cert.KernelIdeal Cert.KernelIdeal.Gen Cert.Proof.KI

open Idealize.ShloMosaic
open Idealize.ShloMosaic.TcCoe Idealize.ShloMosaic.Tactic
open Idealize.SL Idealize.SL.RA Idealize.SL.BI Idealize.SL.Sem
open Idealize.ShloMosaic.Pipeline (RDat)

/-- The three results, of the projections `P`. -/
def arrU (P : ℕ → ℕ → ℝ) : S32768x512.Idx → EReal := fun x => (P (x 0).val (x 1).val : EReal)
def arrG (P : ℕ → ℕ → ℝ) : S32768x2048.Idx → EReal := fun x => (P (x 0).val (2048 + (x 1).val) : EReal)
def arrY (P : ℕ → ℕ → ℝ) : S32768x512.Idx → EReal :=
  fun x => (att P (x 0).val ((x 1).val / 64) (x 1).val ((x 0).val / 8192 * 8192) : EReal)

variable (m : (ℓ : Loc nD τ sig) → Buf (Elt Ideal) ℓ)

/-- The last tile of attention is written after point 0 only. -/
theorem flush6 : ∀ t : Fin grid0.N, win0_6.flush t = true → 1 ≤ t.val := by decide +kernel

theorem leaves_out (P : Dev nD → ℕ → ℕ → ℝ) (c : Dev nD) (w : Fin (cfg0 (F := Ideal)).W) (t : Fin (cfg0 (F := Ideal)).N) {X}
    (h : (vdat m P c).Leaves w t X) : Out (P c) w t.val X := by
  obtain ⟨Y, _, hY⟩ := h
  exact hY.2

theorem arrays (P : Dev nD → ℕ → ℕ → ℝ) (r : PUnit × MemSt nD τ sig (Elt Ideal))
    (h : Pipeline.RDat.FramePost (cfg0 (F := Ideal)) (vdat m P) (entry m) r) (c : Dev nD) :
    r.2.mem ((c.tc : Thread nD τ).loc main_v9_0) = arrU (P c)
    ∧ r.2.mem ((c.tc : Thread nD τ).loc main_v9_1) = arrG (P c)
    ∧ r.2.mem ((c.tc : Thread nD τ).loc main_v9_2) = arrY (P c) := by
  obtain ⟨after, hL, hA⟩ := h.exists_exact c
  refine ⟨(hA 4).trans ?_, (hA 5).trans ?_, (hA 6).trans ?_⟩
  · refine Pipeline.Dat.arrAt_eq_of_covers _ 4 _ (by decide +kernel) fun t hf y => ?_
    have ho : OutU (P c) t.val (after 4 t) := leaves_out m P c 4 t (hL 4 t hf)
    have e := index4 t
    blk_simp
    refine ((congrArg (after 4 t) (eq_ix2 y)).trans (ho (y 0) (y 1))).trans ?_
    unfold arrU
    have hy0 : (y 0).val < 256 := (y 0).isLt
    blk_simp [e.1, e.2]
  · refine Pipeline.Dat.arrAt_eq_of_covers _ 5 _ (by decide +kernel) fun t hf y => ?_
    have ho : OutG (P c) t.val (after 5 t) := leaves_out m P c 5 t (hL 5 t hf)
    have e := index5 t
    blk_simp
    refine ((congrArg (after 5 t) (eq_ix2 y)).trans (ho (y 0) (y 1))).trans ?_
    unfold arrG
    have hy0 : (y 0).val < 256 := (y 0).isLt
    blk_simp [e.1, e.2]
  · refine Pipeline.Dat.arrAt_eq_of_covers _ 6 _ (by decide +kernel) fun t hf y => ?_
    have ho : OutY (P c) t.val (after 6 t) := leaves_out m P c 6 t (hL 6 t hf)
    have e := index6 t
    have h1 := flush6 t hf
    blk_simp
    refine ((congrArg (after 6 t) (eq_ix2 y)).trans (ho h1 (y 0) (y 1))).trans ?_
    unfold arrY
    have hy0 : (y 0).val < 256 := (y 0).isLt
    blk_simp [e.1, e.2]
    have e2 : ((t.val - 1) * 256 + (y 0).val) / 8192 * 8192 = (t.val - 1) / 32 * 8192 := by omega
    rw [e2]

end Cert.Proof.KV

end
-- ==== Proof.RV.Known.lean ====
module

public import proofs.«01_k».proof.Proof.KV.Array
public import proofs.«01_k».proof.Proof.Consts
public import Idealize.ShloMosaic.Lib.StableHlo.Run
public import Idealize.ShloMosaic.Lib.WordCmp

/-!
What the kernel's operands hold, from a real gain and real weights: the input by rows, the gain,
the weights and the triangle; and the projection is real, whatever the input.
-/

@[expose] public section

set_option maxRecDepth 16384

noncomputable section

namespace Cert.Proof.RV

open Cert.KernelIdeal Cert.KernelIdeal.Gen Cert.Proof.KI Cert.Proof.KV

open Idealize.ShloMosaic
open Idealize.ShloMosaic.TcCoe

variable (m : (ℓ : Loc nD τ sig) → Buf (Elt Ideal) ℓ) (c : Dev nD)

abbrev X : FVec Ideal S4x8192x1024 .f32 := m ((c.tc : Thread nD τ).loc main_arg0)
abbrev G : FVec Ideal S1x1024 .f32 := m ((c.tc : Thread nD τ).loc main_arg1)
abbrev W : FVec Ideal S1x1024x4096 .f32 := m ((c.tc : Thread nD τ).loc main_arg2)

theorem entry0 (r : Fin 32768) (k : Fin 1024) :
    (entry m c main_v0 : S32768x1024.Idx → EReal) (ix2 r k) = X m c (ix3 ⟨r.val / 8192, by omega⟩ ⟨r.val % 8192, by omega⟩ k) := by
  have e : (entry m c main_v0 : S32768x1024.Idx → EReal) = shapeCast _ (X m c) shapeCasts_S4x8192x1024_S32768x1024 := by
    rfl
  rw [e]; pointwise

theorem entry2 (k : Fin 1024) :
    (entry m c main_v2 : S1x1024.Idx → EReal) (ix2 0 k) = G m c (ix2 0 k) := by
  have e : (entry m c main_v2 : S1x1024.Idx → EReal) = shapeCast _ (shapeCast _ (G m c) shapeCasts_S1x1024_S1024) shapeCasts_S1024_S1x1024 := by
    rfl
  rw [e]; pointwise

theorem entry4 (d : Fin 1024) (j : Fin 4096) :
    (entry m c main_v4 : S1024x4096.Idx → EReal) (ix2 d j) = W m c (ix3 0 d j) := by
  have e : (entry m c main_v4 : S1024x4096.Idx → EReal) = truncf .bf16 (shapeCast _ (W m c) shapeCasts_S1x1024x4096_S1024x4096) bitsLt_bf16_f32 := by
    rfl
  rw [e]; pointwise

theorem entry8 (a b : Fin 256) :
    (entry m c main_v8 : S256x256.Idx → EReal) (ix2 a b) = ((if b.val < a.val then 1 else 0 : ℝ) : EReal) := by
  have e : (entry m c main_v8 : S256x256.Idx → EReal)
      = uitofp (F := Ideal) .bf16 (cmpi .sgt (iotaInDim S256x256 32 0) (iotaInDim S256x256 32 1)) := by
    rfl
  rw [e]; pointwise
  show ((BitVec.toNat (IntOp.cmpi .sgt (BitVec.ofNat 32 a.val) (BitVec.ofNat 32 b.val)) : ℝ) : EReal) = _
  rw [WordCmp.cmpi_sgt_ofNat (by have := a.isLt; omega) (by have := b.isLt; omega)]
  by_cases h : b.val < a.val <;> simp [h]

/-- A real row with a real gain is real once normalised: the mean square plus the small constant is positive. -/
theorem nrow_real_of (x g : Fin 1024 → EReal) (hx : ∀ k, ∃ r : ℝ, x k = (r : EReal)) (hg : ∀ k, ∃ r : ℝ, g k = (r : EReal))
    (d : Fin 1024) : ∃ r : ℝ, nrow x g d = (r : EReal) := by
  choose xr hx using hx
  choose gr hg using hg
  obtain ⟨e, he, hE⟩ := Consts.eps
  have hs : ∑ k, x k * x k = ((∑ k, xr k * xr k : ℝ) : EReal) := by
    rw [coe_sum]
    exact Finset.sum_congr rfl fun k _ => by rw [hx, EReal.coe_mul]
  have hp : 0 < (∑ k, xr k * xr k) * (1 / 1024) + e :=
    add_pos_of_nonneg_of_pos (mul_nonneg (Finset.sum_nonneg fun k _ => mul_self_nonneg _) (by norm_num)) he
  refine ⟨xr d * (Real.sqrt ((∑ k, xr k * xr k) * (1 / 1024) + e))⁻¹ * gr d, ?_⟩
  unfold nrow
  rw [hs, Consts.c1024, hE, Ideal.div_coe (by norm_num), ← EReal.coe_mul, ← EReal.coe_add, Ideal.rsqrt_coe, if_neg (not_lt.mpr hp.le),
    if_neg hp.ne', hx, hg, ← EReal.coe_mul, ← EReal.coe_mul]

theorem square_nonneg (a : EReal) : 0 ≤ a * a := by
  induction a using EReal.rec with
  | bot => rw [EReal.bot_mul_bot]; exact le_top
  | top => rw [EReal.top_mul_top]; exact le_top
  | coe r => rw [← EReal.coe_mul]; exact EReal.coe_nonneg.mpr (mul_self_nonneg r)

/-- A row with an infinite entry is zero once normalised: its mean square is infinite, and the reciprocal root of that zero. -/
theorem nrow_zero (x g : Fin 1024 → EReal) (k : Fin 1024) (hk : x k * x k = ⊤) (d : Fin 1024) : nrow x g d = 0 := by
  obtain ⟨e, he, hE⟩ := Consts.eps
  have hs : ∑ k, x k * x k = ⊤ :=
    top_le_iff.mp (hk.symm.le.trans (Finset.single_le_sum (f := fun k => x k * x k) (fun k _ => square_nonneg (x k)) (Finset.mem_univ k)))
  unfold nrow
  rw [hs, Consts.c1024, hE, Ideal.div_coe (by norm_num), EReal.top_mul_coe_of_pos (by norm_num), EReal.top_add_coe, Ideal.rsqrt_top, mul_zero, zero_mul]

/-- Any row with a real gain is real once normalised. -/
theorem nrow_real (x g : Fin 1024 → EReal) (hg : ∀ k, ∃ r : ℝ, g k = (r : EReal)) (d : Fin 1024) : ∃ r : ℝ, nrow x g d = (r : EReal) := by
  by_cases hx : ∀ k, ∃ r : ℝ, x k = (r : EReal)
  · exact nrow_real_of x g hx hg d
  · obtain ⟨k, hk⟩ := not_forall.mp hx
    refine ⟨0, (nrow_zero x g k ?_ d).trans EReal.coe_zero.symm⟩
    generalize x k = a at hk ⊢
    induction a using EReal.rec with
    | bot => exact EReal.bot_mul_bot
    | top => exact EReal.top_mul_top
    | coe r => exact absurd ⟨r, rfl⟩ hk

/-- One element of the projection. -/
def projE (X : FVec Ideal S4x8192x1024 .f32) (G : FVec Ideal S1x1024 .f32) (W : FVec Ideal S1x1024x4096 .f32)
    (b : Fin 4) (s : Fin 8192) (j : Fin 4096) : EReal :=
  ∑ d : Fin 1024, nrow (fun k => X (ix3 b s k)) (fun k => G (ix2 0 k)) d * W (ix3 0 d j)

/-- The projection as real numbers, which it is from a real gain and real weights: row by row of the whole batch. -/
def projP (X : FVec Ideal S4x8192x1024 .f32) (G : FVec Ideal S1x1024 .f32) (W : FVec Ideal S1x1024x4096 .f32) (r j : ℕ) : ℝ :=
  if h : r < 32768 ∧ j < 4096 then (projE X G W ⟨r / 8192, by omega⟩ ⟨r % 8192, by omega⟩ ⟨j, h.2⟩).toReal else 0

theorem projP_eq {X : FVec Ideal S4x8192x1024 .f32} {G : FVec Ideal S1x1024 .f32} {W : FVec Ideal S1x1024x4096 .f32}
    (hG : ∀ i, ∃ r : ℝ, G i = (r : EReal)) (hW : ∀ i, ∃ r : ℝ, W i = (r : EReal))
    (r : Fin 32768) (j : Fin 4096) :
    projE X G W ⟨r.val / 8192, by omega⟩ ⟨r.val % 8192, by omega⟩ j = (projP X G W r.val j.val : EReal) := by
  have h : ∃ q : ℝ, projE X G W ⟨r.val / 8192, by omega⟩ ⟨r.val % 8192, by omega⟩ j = (q : EReal) := by
    choose nr hn using nrow_real (fun k => X (ix3 ⟨r.val / 8192, by omega⟩ ⟨r.val % 8192, by omega⟩ k)) (fun k => G (ix2 0 k)) (fun k => hG _)
    choose wr hw using hW
    refine ⟨∑ d, nr d * wr (ix3 0 d j), ?_⟩
    rw [coe_sum]
    exact Finset.sum_congr rfl fun d _ => by rw [hn, hw, EReal.coe_mul]
  obtain ⟨q, hq⟩ := h
  unfold projP
  rw [dif_pos ⟨r.isLt, j.isLt⟩]
  show _ = ((projE X G W ⟨r.val / 8192, by omega⟩ ⟨r.val % 8192, by omega⟩ j).toReal : EReal)
  rw [hq, EReal.toReal_coe]

/-- From a real gain and real weights the kernel's operands are as the run supposes. -/
theorem known (hG : ∀ i, ∃ r : ℝ, G m c i = (r : EReal)) (hW : ∀ i, ∃ r : ℝ, W m c i = (r : EReal)) :
    Known m c (projP (X m c) (G m c) (W m c)) where
  proj r j := by
    rw [← projP_eq hG hW, projE]
    refine Finset.sum_congr rfl fun d _ => ?_
    rw [entry4]
    rw [show (fun k => (entry m c main_v0 : S32768x1024.Idx → EReal) (ix2 r k)) = _ from funext (entry0 m c r),
      show (fun k => (entry m c main_v2 : S1x1024.Idx → EReal) (ix2 0 k)) = _ from funext (entry2 m c)]
  tri := entry8 m c

open Idealize.SL.Sem in
/-- The kernel's run: its three arrays, the arguments unchanged. -/
theorem kernel_run (ρ : Dev nD → PrngReg) (P : Dev nD → ℕ → ℕ → ℝ) (hk : ∀ c, Known m c (P c)) :
    θ_run (defs (F := Ideal)) (onTc (τ := τ) (main (F := Ideal))) ⟨m, fun _ => 0, ρ⟩ (fun r => ∀ c : Dev nD,
      r.2.mem ((c.tc : Thread nD τ).loc main_v9_0) = arrU (P c)
      ∧ r.2.mem ((c.tc : Thread nD τ).loc main_v9_1) = arrG (P c)
      ∧ r.2.mem ((c.tc : Thread nD τ).loc main_v9_2) = arrY (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨a0, a1, a2⟩ := arrays m P r h.1 c
    exact ⟨a0, a1, a2, ((h.1 c).2 main_arg0 (show main_arg0 ∈ Pipeline.restRefs sig spec0 by decide)).trans rfl,
      ((h.1 c).2 main_arg1 (show main_arg1 ∈ Pipeline.restRefs sig spec0 by decide)).trans rfl,
      ((h.1 c).2 main_arg2 (show main_arg2 ∈ Pipeline.restRefs sig spec0 by decide)).trans rfl⟩) (run_val m ρ P hk)

end Cert.Proof.RV

end
-- ==== Proof.RV.Terms.lean ====
module

public import proofs.«01_k».proof.Proof.Gen.ReferenceIdeal.Run
public import proofs.«01_k».proof.Proof.KV.Inputs
public import Idealize.ShloMosaic.Lib.Pointwise
public import Idealize.ShloMosaic.Lib.IdealHost

/-!
The reference's results as a few named expressions: the projection, the scores,
the log of the gate, its sums over the later positions, and the attention.
-/

@[expose] public section

set_option maxRecDepth 16384

noncomputable section

namespace Cert.Proof.RV

open Cert.ReferenceIdeal Cert.ReferenceIdeal.Gen Idealize.ShloMosaic Idealize.ShloMosaic.TcCoe

/-- The normalised input against the weights: 4096 columns for every position. -/
def projR (X : FVec Ideal S4x8192x1024 .f32) (G : FVec Ideal S1x1024 .f32) (W : FVec Ideal S1x1024x4096 .f32) :
    FVec Ideal S4x8192x4096 .f32 :=
  Host.dotGeneral dot_S4x8192x1024_S1024x4096_S4x8192x4096_2_0_01_1_n_n none (mulf (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (shapeCast _ G shapeCasts_S1x1024_S1024)))) (shapeCast _ W shapeCasts_S1x1024x4096_S1024x4096)

/-- The columns from `o` of the projection, one head after another, heads before positions. -/
def headR {o : ℕ} (h : S4x8192x4096.Slices ![0, 0, o] S4x8192x512) (P : FVec Ideal S4x8192x4096 .f32) : FVec Ideal S4x8x8192x64 .f32 :=
  transpose S4x8x8192x64 [0, 2, 1, 3] (shapeCast _ (extractStridedSlice S4x8192x512 ![0, 0, o] P h) shapeCasts_S4x8192x512_S4x8192x8x64) transposes_S4x8192x8x64_S4x8x8192x64_0_2_1_3

def zR (P : FVec Ideal S4x8192x4096 .f32) : FVec Ideal S4x8x8192x8192 .f32 :=
  mulf (Host.dotGeneral dot_S4x8x8192x64_S4x8x8192x64_S4x8x8192x8192_3_3_2_2_01_01 none (headR slices_S4x8192x4096_S4x8192x512_0_0_512 P) (headR slices_S4x8192x4096_S4x8192x512_0_0_1024 P)) (broadcastInDim S4x8x8192x8192 ![] bcast_S_S4x8x8192x8192 (constant S_ .f32 0x3E000000#32))

def zeroR : FVec Ideal S4x8x8192x8192 .f32 := broadcastInDim S4x8x8192x8192 ![] bcast_S_S4x8x8192x8192 (constant S_ .f32 0x00000000#32)

/-- The log of one plus the exponential. -/
def spR (y : FVec Ideal S4x8x8192x8192 .f32) : FVec Ideal S4x8x8192x8192 .f32 :=
  select (cmpf .une (subf y zeroR) (subf y zeroR)) (addf y zeroR) (addf (maximumf y zeroR) (Host.log1p (Host.exp (Host.negf (Host.absf (subf y zeroR))))))

/-- Whether a position lies before the row. -/
def maskR : IVec S4x8x8192x8192 1 :=
  broadcastInDim S4x8x8192x8192 ![2, 3] bcast_S8192x8192_S4x8x8192x8192_2_3 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))

def lfR (Z : FVec Ideal S4x8x8192x8192 .f32) : FVec Ideal S4x8x8192x8192 .f32 :=
  select maskR (Host.negf (spR (Host.negf (Host.negf Z)))) zeroR

def sufR (L : FVec Ideal S4x8x8192x8192 .f32) : FVec Ideal S4x8x8192x8192 .f32 :=
  subf (Host.reduceWindowAdd ![1, 1, 1, 8192] ![1, 1, 1, 1] ![0, 0, 0, 0] ![0, 0, 0, 8191] L (broadcastInDim S_ ![] bcast_S_S_ (constant S_ .f32 0x00000000#32)) reduceWindows_S4x8x8192x8192_S4x8x8192x8192_w1s1p0_0_w1s1p0_0_w1s1p0_0_w8192s1p0_8191 h_S_) L

def wR (Z : FVec Ideal S4x8x8192x8192 .f32) : FVec Ideal S4x8x8192x8192 .f32 :=
  select maskR (Host.exp (addf (Host.negf (spR (Host.negf Z))) (sufR (lfR Z)))) zeroR

def yR (A : FVec Ideal S4x8x8192x8192 .f32) (V : FVec Ideal S4x8x8192x64 .f32) : FVec Ideal S32768x512 .bf16 :=
  truncf .bf16 (shapeCast _ (shapeCast _ (transpose S4x8192x8x64 [0, 2, 1, 3] (Host.dotGeneral dot_S4x8x8192x8192_S4x8x8192x64_S4x8x8192x64_3_2_2_3_01_01 none A V) transposes_S4x8x8192x64_S4x8192x8x64_0_2_1_3) shapeCasts_S4x8192x8x64_S4x8192x512) shapeCasts_S4x8192x512_S32768x512) bitsLt_bf16_f32

def attR (P : FVec Ideal S4x8192x4096 .f32) : FVec Ideal S32768x512 .bf16 :=
  yR (wR (zR P)) (headR slices_S4x8192x4096_S4x8192x512_0_0_1536 P)

variable (m : (ℓ : Loc nD τ sig) → Buf (Elt Ideal) ℓ) (c : Dev nD)

/-- The projection of one device's arguments. -/
def projM : FVec Ideal S4x8192x4096 .f32 :=
  projR (m ((c.tc : Thread nD τ).loc main_arg0)) (m ((c.tc : Thread nD τ).loc main_arg1)) (m ((c.tc : Thread nD τ).loc main_arg2))

theorem res_eq : Value.res_main_v51 (F := Ideal) m c = attR (projM m c) := by
  unfold Value.res_main_v51
  rfl

end Cert.Proof.RV

end
-- ==== Proof.RV.Proj.lean ====
module

public import proofs.«01_k».proof.Proof.RV.Terms
public import Idealize.ShloMosaic.Lib.WordCmp

/-! The reference's expressions, element by element. -/

@[expose] public section

set_option maxRecDepth 16384

noncomputable section

namespace Cert.Proof.RV

open Cert.ReferenceIdeal Cert.ReferenceIdeal.Gen Idealize.ShloMosaic Idealize.ShloMosaic.TcCoe Cert.Proof.KV

theorem projR_apply (X : FVec Ideal S4x8192x1024 .f32) (G : FVec Ideal S1x1024 .f32) (W : FVec Ideal S1x1024x4096 .f32)
    (b : Fin 4) (s : Fin 8192) (j : Fin 4096) :
    projR X G W (ix3 b s j) = ∑ d : Fin 1024, nrow (fun k => X (ix3 b s k)) (fun k => G (ix2 0 k)) d * W (ix3 0 d j) := by
  unfold projR nrow
  pointwise

theorem headR_apply {o : ℕ} (h : S4x8192x4096.Slices ![0, 0, o] S4x8192x512) (ho : o + 512 ≤ 4096) (P : FVec Ideal S4x8192x4096 .f32)
    (b : Fin 4) (n : Fin 8) (s : Fin 8192) (d : Fin 64) :
    headR h P (ix4 b n s d) = P (ix3 b s ⟨o + (64 * n.val + d.val), by omega⟩) := by
  unfold headR
  pointwise
  simp only [Nat.mul_comm]

theorem yR_apply (A : FVec Ideal S4x8x8192x8192 .f32) (V : FVec Ideal S4x8x8192x64 .f32) (r : Fin 32768) (c : Fin 512) :
    yR A V (ix2 r c) = ∑ s : Fin 8192, A (ix4 ⟨r.val / 8192, by omega⟩ ⟨c.val / 64, by omega⟩ ⟨r.val % 8192, by omega⟩ s)
      * V (ix4 ⟨r.val / 8192, by omega⟩ ⟨c.val / 64, by omega⟩ s ⟨c.val % 64, by omega⟩) := by
  unfold yR
  pointwise

theorem maskR_apply (b : Fin 4) (n : Fin 8) (t s : Fin 8192) : (maskR (ix4 b n t s) = 1) = (s.val < t.val) := by
  unfold maskR
  pointwise
  exact propext (WordCmp.cmpi_slt_ofNat_eq_one_iff (by have := s.isLt; omega) (by have := t.isLt; omega))

/-- The softplus of a real score. -/
theorem spR_apply (y : FVec Ideal S4x8x8192x8192 .f32) (b : Fin 4) (n : Fin 8) (t s : Fin 8192) (x : ℝ) (h : y (ix4 b n t s) = (x : EReal)) :
    spR y (ix4 b n t s) = ((max x 0 + Real.log (1 + Real.exp (-|x|)) : ℝ) : EReal) := by
  unfold spR zeroR
  pointwise
  have e1 : max (x : EReal) (-(x : EReal)) = ((|x| : ℝ) : EReal) := by
    rw [← EReal.coe_neg]; exact (EReal.coe_strictMono.monotone.map_max).symm
  rw [h, if_neg (fun hn => hn rfl), Ideal.absf_def, e1, ← EReal.coe_neg, Ideal.exp_coe, Ideal.log1p, ← EReal.coe_one, ← EReal.coe_add,
    Ideal.log_coe, if_neg (not_le.mpr (by positivity)), ← EReal.coe_zero, ← EReal.coe_strictMono.monotone.map_max, ← EReal.coe_add]

theorem foldl_sum {n : ℕ} (e : Fin n → EReal) : (List.finRange n).foldl (fun r i => r + e i) 0 = ∑ i, e i := by
  rw [Fin.sum_univ_def, List.sum_eq_foldl, List.foldl_map]

theorem idx_eq (x y : ℕ) (h : y = 0) : x * 1 + y - 0 = x := by omega
theorem idx_add (x y : ℕ) : x * 1 + y - 0 = x + y := by omega

/-- The window sum at a position adds up the positions from it to the end of its row. -/
theorem window_sum (L : FVec Ideal S4x8x8192x8192 .f32) (b : Fin 4) (n : Fin 8) (t s : Fin 8192) :
    Host.reduceWindowAdd ![1, 1, 1, 8192] ![1, 1, 1, 1] ![0, 0, 0, 0] ![0, 0, 0, 8191] L
        (broadcastInDim S_ ![] bcast_S_S_ (constant S_ FTy.f32 0#32))
        reduceWindows_S4x8x8192x8192_S4x8x8192x8192_w1s1p0_0_w1s1p0_0_w1s1p0_0_w8192s1p0_8191 h_S_ (ix4 b n t s)
      = ∑ k : Fin 8192, if h : s.val + k.val < 8192 then L (ix4 b n t ⟨s.val + k.val, h⟩) else 0 := by
  unfold Host.reduceWindowAdd
  rw [Ideal.hostReduceWindowAdd_def]
  have e0 : (broadcastInDim S_ ![] bcast_S_S_ (constant (F := Ideal) S_ FTy.f32 0#32)) (Shape.Idx.first h_S_) = (0 : EReal) := by
    pointwise
  rw [e0]
  unfold Ideal.hostReduceWindowAdd Host.reduceWindow
  refine (foldl_sum _).trans ?_
  let g : (⟨4, ![1, 1, 1, 8192]⟩ : Shape).Idx → EReal := fun w =>
    if h : s.val + (w 3).val < 8192 then L (ix4 b n t ⟨s.val + (w 3).val, h⟩) else 0
  refine (Finset.sum_congr rfl fun i _ => (?_ : _ = g ((Shape.rowMajor ⟨4, ![1, 1, 1, 8192]⟩).symm i))).trans
    ((Equiv.sum_comp (Shape.rowMajor ⟨4, ![1, 1, 1, 8192]⟩).symm g).trans ?_)
  · have key : ∀ w : (⟨4, ![1, 1, 1, 8192]⟩ : Shape).Idx, (w 0).val = 0 ∧ (w 1).val = 0 ∧ (w 2).val = 0 := fun w =>
      ⟨Nat.lt_one_iff.mp (w 0).isLt, Nat.lt_one_iff.mp (w 1).isLt, Nat.lt_one_iff.mp (w 2).isLt⟩
    obtain ⟨k0, k1, k2⟩ := key ((Shape.rowMajor ⟨4, ![1, 1, 1, 8192]⟩).symm i)
    by_cases h : s.val + ((Shape.rowMajor ⟨4, ![1, 1, 1, 8192]⟩).symm i 3).val < 8192
    · rw [dif_pos, show g ((Shape.rowMajor ⟨4, ![1, 1, 1, 8192]⟩).symm i) = L (ix4 b n t ⟨_, h⟩) from dif_pos h]
      · congr 1
        funext a
        apply Fin.ext
        match a with
        | ⟨0, _⟩ => exact idx_eq b.val _ k0
        | ⟨1, _⟩ => exact idx_eq n.val _ k1
        | ⟨2, _⟩ => exact idx_eq t.val _ k2
        | ⟨3, _⟩ => exact idx_add s.val _
      · intro a
        refine ⟨?_, ?_⟩
        · fin_cases a <;> exact Nat.zero_le _
        · match a with
          | ⟨0, _⟩ => exact (idx_eq b.val _ k0).trans_lt b.isLt
          | ⟨1, _⟩ => exact (idx_eq n.val _ k1).trans_lt n.isLt
          | ⟨2, _⟩ => exact (idx_eq t.val _ k2).trans_lt t.isLt
          | ⟨3, _⟩ => exact (idx_add s.val _).trans_lt h
    · rw [dif_neg, show g ((Shape.rowMajor ⟨4, ![1, 1, 1, 8192]⟩).symm i) = 0 from dif_neg h]
      intro hh
      have h3 : s.val * 1 + ((Shape.rowMajor ⟨4, ![1, 1, 1, 8192]⟩).symm i 3).val - 0 < 8192 := (hh 3).2
      rw [Nat.mul_one, Nat.sub_zero] at h3
      exact h h3
  · rw [sum_idx4]
    simp only [Fintype.sum_unique]
    rfl

open Finset Cert.Proof.Math

/-- The window sum less the element itself adds up the later positions. -/
theorem sufR_real (L : FVec Ideal S4x8x8192x8192 .f32) (b : Fin 4) (n : Fin 8) (t s : Fin 8192) (l : ℕ → ℝ)
    (hl : ∀ j : Fin 8192, L (ix4 b n t j) = (l j.val : EReal)) :
    sufR L (ix4 b n t s) = ((∑ j ∈ Ico (s.val + 1) 8192, l j : ℝ) : EReal) := by
  unfold sufR
  pointwise
  have hs := s.isLt
  rw [window_sum, hl, sum_fin _ (fun k => if k < 8192 - s.val then l (s.val + k) else 0)]
  · rw [sum_block l s.val (8192 - s.val) 8192 (Nat.sub_le _ _), Nat.add_sub_cancel' hs.le, sum_eq_sum_Ico_succ_bot hs, ← EReal.coe_sub, add_sub_cancel_left]
  · intro k
    by_cases h : s.val + k.val < 8192
    · rw [dif_pos h, if_pos (by omega), hl]
    · rw [dif_neg h, if_neg (by omega)]; rfl

section
variable {Pv : FVec Ideal S4x8192x4096 .f32} {P : ℕ → ℕ → ℝ}
  (hP : ∀ (b : Fin 4) (s : Fin 8192) (j : Fin 4096), Pv (ix3 b s j) = (P (b.val * 8192 + s.val) j.val : EReal))
include hP

theorem zR_real (b : Fin 4) (n : Fin 8) (t s : Fin 8192) :
    zR Pv (ix4 b n t s) = ((-(sc P (b.val * 8192 + t.val) n.val (b.val * 8192 + s.val)) : ℝ) : EReal) := by
  unfold zR
  pointwise
  rw [Consts.eighth, sum_fin _ (fun d => P (b.val * 8192 + t.val) (512 + (64 * n.val + d)) * P (b.val * 8192 + s.val) (1024 + (64 * n.val + d)))]
  · rw [← EReal.coe_mul, sum_mul, sc, ← sum_neg_distrib]
    congr 1
    exact sum_congr rfl fun d _ => by ring
  · intro d
    rw [headR_apply _ (by norm_num), headR_apply _ (by norm_num), hP, hP, ← EReal.coe_mul]

theorem lfR_real (b : Fin 4) (n : Fin 8) (t s : Fin 8192) :
    lfR (zR Pv) (ix4 b n t s)
      = ((if s.val < t.val then lgate (sc P (b.val * 8192 + t.val) n.val (b.val * 8192 + s.val)) else 0 : ℝ) : EReal) := by
  have hz := zR_real hP b n t s
  unfold lfR zeroR
  pointwise
  rw [spR_apply _ b n t s (-(sc P (b.val * 8192 + t.val) n.val (b.val * 8192 + s.val)))]
  · rw [Scalar.select]
    simp only [maskR_apply]
    rw [← EReal.coe_neg, abs_neg, lgate_softplus]
    split <;> rfl
  · pointwise
    rw [hz, neg_neg]

theorem wR_real (b : Fin 4) (n : Fin 8) (t s : Fin 8192) :
    wR (zR Pv) (ix4 b n t s)
      = ((if s.val < t.val then Real.exp (lgate (-(sc P (b.val * 8192 + t.val) n.val (b.val * 8192 + s.val)))
          + ∑ j ∈ Ico (b.val * 8192 + s.val + 1) (b.val * 8192 + t.val), lgate (sc P (b.val * 8192 + t.val) n.val j)) else 0 : ℝ) : EReal) := by
  have hz := zR_real hP b n t s
  have hsuf := sufR_real (lfR (zR Pv)) b n t s
    (fun j => if j < t.val then lgate (sc P (b.val * 8192 + t.val) n.val (b.val * 8192 + j)) else 0) (fun j => lfR_real hP b n t j)
  unfold wR zeroR
  pointwise
  rw [spR_apply _ b n t s (sc P (b.val * 8192 + t.val) n.val (b.val * 8192 + s.val)), hsuf]
  · rw [Scalar.select]
    simp only [maskR_apply]
    rw [← EReal.coe_neg, ← EReal.coe_add, Ideal.exp_coe]
    have e1 := lgate_softplus (-(sc P (b.val * 8192 + t.val) n.val (b.val * 8192 + s.val)))
    rw [neg_neg, abs_neg] at e1
    rw [e1]
    have e2 : ∑ j ∈ Ico (s.val + 1) 8192, (if j < t.val then lgate (sc P (b.val * 8192 + t.val) n.val (b.val * 8192 + j)) else 0)
        = ∑ j ∈ Ico (b.val * 8192 + s.val + 1) (b.val * 8192 + t.val), lgate (sc P (b.val * 8192 + t.val) n.val j) := by
      rw [← sum_filter, Ico_filter_lt, min_eq_right t.isLt.le,
        sum_Ico_add (fun x => lgate (sc P (b.val * 8192 + t.val) n.val x)) (s.val + 1) t.val (b.val * 8192)]
      rw [show s.val + 1 + b.val * 8192 = b.val * 8192 + s.val + 1 by omega, Nat.add_comm t.val]
    rw [e2]
    split <;> rfl
  · pointwise
    rw [hz, ← EReal.coe_neg, neg_neg]

/-- The reference's attention is `att` of the row over its own batch element. -/
theorem attR_real (r : Fin 32768) (c : Fin 512) :
    attR Pv (ix2 r c) = (att P r.val (c.val / 64) c.val (r.val / 8192 * 8192) : EReal) := by
  unfold attR
  rw [yR_apply]
  have er : r.val / 8192 * 8192 + r.val % 8192 = r.val := Nat.div_add_mod' _ _
  have ec : 64 * (c.val / 64) + c.val % 64 = c.val := Nat.div_add_mod _ _
  rw [sum_fin _ (fun s => if s < r.val % 8192 then (fun j => Real.exp (lgate (-(sc P r.val (c.val / 64) j))
      + ∑ j' ∈ Ico (j + 1) r.val, lgate (sc P r.val (c.val / 64) j')) * P j (1536 + c.val)) (r.val / 8192 * 8192 + s) else 0)]
  · rw [sum_block (fun j => Real.exp (lgate (-(sc P r.val (c.val / 64) j))
      + ∑ j' ∈ Ico (j + 1) r.val, lgate (sc P r.val (c.val / 64) j')) * P j (1536 + c.val)) (r.val / 8192 * 8192) (r.val % 8192) 8192 (by omega), er]
    rfl
  · intro s
    rw [wR_real hP, headR_apply _ (by norm_num), hP]
    dsimp only
    rw [er, ec, ← EReal.coe_mul]
    split <;> simp
end

end Cert.Proof.RV

end
-- ==== Proof.RV.Finite.lean ====
module

public import proofs.«01_k».proof.Defs
public import proofs.«01_k».proof.Proof.Consts
public import Idealize.ShloMosaic.Lib.ReduceAll
public import Idealize.ShloMosaic.Lib.IdealHost
public import Idealize.ShloMosaic.Lib.Pointwise

/-! What the precondition says: every entry of the gain and of the weights is a real number. -/

@[expose] public section

set_option maxRecDepth 16384

noncomputable section

namespace Cert.Proof.RV

open Idealize.ShloMosaic Idealize.ShloMosaic.TcCoe

/-- The shape relations the precondition's operations take. -/
theorem facts_pre : Cert.Pre_finite.Facts where
  bcast_S_S1x1024 := by decide
  reducesTo_S1x1024_S_d0_1 := by decide
  h_S_ := by decide
  bcast_S_S1x1024x4096 := by decide
  reducesTo_S1x1024x4096_S_d0_1_2 := by decide

theorem real_of_lt (a : EReal) (h : FloatOps.cmpf (F := Ideal) (φ := .f32) .olt (FloatOps.absf (F := Ideal) (φ := .f32) a) (Ideal.ofBits .f32 0x7F800000#32) = 1#1) :
    ∃ r : ℝ, a = (r : EReal) := by
  rw [Consts.inf, Ideal.absf_def] at h
  have h2 : max a (-a) < ⊤ := by
    by_contra hn
    have h : BitVec.ofBool (decide (max a (-a) < ⊤)) = 1#1 := h
    rw [decide_eq_false hn] at h
    exact absurd h (by decide)
  induction a using EReal.rec with
  | bot => simp at h2
  | top => simp at h2
  | coe r => exact ⟨r, rfl⟩

instance : Subsingleton Cert.Pre_finite.S_.Idx := ⟨fun a b => funext fun i => i.elim0⟩

theorem reals {X G W} (h : letI := facts_pre; Cert.Pre_finite.fn (F := Ideal) X G W = fun _ => 1#1) :
    (∀ i, ∃ r : ℝ, G i = (r : EReal)) ∧ ∀ i, ∃ r : ℝ, W i = (r : EReal) := by
  letI := facts_pre
  have h := congrFun h (fun i => i.elim0)
  unfold Cert.Pre_finite.fn at h
  obtain ⟨h1, h2⟩ := IntOp.andi_eq_one.mp h
  exact ⟨fun i => real_of_lt _ (Host.reduce_andi_all _ _ _ _ _ h1 i), fun i => real_of_lt _ (Host.reduce_andi_all _ _ _ _ _ h2 i)⟩

end Cert.Proof.RV

end
-- ==== Proof.RV.Final.lean ====
module

public import proofs.«01_k».proof.Proof.RV.Known
public import proofs.«01_k».proof.Proof.RV.Proj
public import proofs.«01_k».proof.Proof.RV.Finite

/-!
The value claim: from a real gain and real weights the kernel and the reference end with the same
three arrays.
-/

@[expose] public section

set_option maxRecDepth 16384

noncomputable section

namespace Cert.Proof.RV

open Idealize.ShloMosaic Idealize.ShloMosaic.TcCoe Idealize.SL.Sem Cert.Proof.KV
open Cert.ReferenceIdeal Cert.ReferenceIdeal.Gen

section
variable {X : FVec Ideal S4x8192x1024 .f32} {G : FVec Ideal S1x1024 .f32} {W : FVec Ideal S1x1024x4096 .f32}
  (hG : ∀ i, ∃ r : ℝ, G i = (r : EReal)) (hW : ∀ i, ∃ r : ℝ, W i = (r : EReal))
include hG hW

theorem projR_real (b : Fin 4) (s : Fin 8192) (j : Fin 4096) :
    projR X G W (ix3 b s j) = (projP X G W (b.val * 8192 + s.val) j.val : EReal) := by
  have hb := b.isLt; have hs := s.isLt
  have h := projP_eq (X := X) hG hW ⟨b.val * 8192 + s.val, by omega⟩ j
  have e1 : (⟨(b.val * 8192 + s.val) / 8192, by omega⟩ : Fin 4) = b := Fin.ext (by simp only; omega)
  have e2 : (⟨(b.val * 8192 + s.val) % 8192, by omega⟩ : Fin 8192) = s := Fin.ext (by simp only; omega)
  simp only [e1, e2] at h
  rw [projR_apply]
  exact h

theorem u_eq : (shapeCast _ (extractStridedSlice S4x8192x512 ![0, 0, 0] (projR X G W) slices_S4x8192x4096_S4x8192x512_0_0_0) shapeCasts_S4x8192x512_S32768x512 : S32768x512.Idx → EReal)
    = arrU (projP X G W) := by
  funext x
  rw [eq_ix2 x]
  pointwise
  rw [projR_real hG hW]
  exact congrArg (fun k : ℕ => ((projP X G W k (x 1).val : ℝ) : EReal)) (Nat.div_add_mod' (x 0).val 8192)

theorem g_eq : (shapeCast _ (extractStridedSlice S4x8192x2048 ![0, 0, 2048] (projR X G W) slices_S4x8192x4096_S4x8192x2048_0_0_2048) shapeCasts_S4x8192x2048_S32768x2048 : S32768x2048.Idx → EReal)
    = arrG (projP X G W) := by
  funext x
  rw [eq_ix2 x]
  pointwise
  rw [projR_real hG hW]
  exact congrArg (fun k : ℕ => ((projP X G W k (2048 + (x 1).val) : ℝ) : EReal)) (Nat.div_add_mod' (x 0).val 8192)

theorem y_eq : (attR (projR X G W) : S32768x512.Idx → EReal) = arrY (projP X G W) := by
  funext x
  exact (congrArg (attR (projR X G W)) (eq_ix2 x)).trans (attR_real (projR_real hG hW) (x 0) (x 1))
end

/-- The reference's run, its three arrays in the terms of this folder. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v48) = shapeCast _ (extractStridedSlice S4x8192x512 ![0, 0, 0] (projM m c) slices_S4x8192x4096_S4x8192x512_0_0_0) shapeCasts_S4x8192x512_S32768x512
      ∧ r.2.mem ((c.tc : Thread nD τ).loc main_v49) = shapeCast _ (extractStridedSlice S4x8192x2048 ![0, 0, 2048] (projM m c) slices_S4x8192x4096_S4x8192x2048_0_0_2048) shapeCasts_S4x8192x2048_S32768x2048
      ∧ r.2.mem ((c.tc : Thread nD τ).loc main_v51) = attR (projM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1, (h c).2.1, (h c).2.2.1.trans (res_eq m c), (h c).2.2.2⟩) (Value.run (F := Ideal) m g)

/-- From a real gain and real weights, the same arguments on both sides, both programs end with the same three arrays. -/
theorem algebraic :
    letI := Cert.KernelIdeal.Gen.facts; letI := Cert.ReferenceIdeal.Gen.facts; letI := facts_pre
    Cert.algebraic_KernelIdeal_ReferenceIdeal_pre_finite := by
  intro m g m' g' hpre hargs
  have hr := fun c => reals (hpre c)
  refine ⟨fun c => arrU (projP (RV.X m c) (RV.G m c) (RV.W m c)), fun c => arrG (projP (RV.X m c) (RV.G m c) (RV.W m c)),
    fun c => arrY (projP (RV.X m c) (RV.G m c) (RV.W m c)),
    kernel_run m g (fun c => projP (RV.X m c) (RV.G m c) (RV.W m c)) (fun c => known m c (hr c).1 (hr c).2), ?_⟩
  refine (θ_run Cert.ReferenceIdeal.defs _ _).mono (fun r h c => ?_) (reference_run m' g')
  obtain ⟨b0, b1, b2, b3⟩ := h c
  obtain ⟨c0, c1, c2⟩ := hargs c
  have e : projM m' c = projR (RV.X m c) (RV.G m c) (RV.W m c) := by
    unfold projM
    rw [c0, c1, c2]
  rw [e] at b0 b1 b2
  exact ⟨b0.trans (u_eq (hr c).1 (hr c).2), b1.trans (g_eq (hr c).1 (hr c).2),
    b2.trans (y_eq (hr c).1 (hr c).2), b3⟩

end Cert.Proof.RV

end
-- ==== Proof.P2.Row.lean ====
module

public import Idealize.ShloMosaic.Lib.IdealHost

/-!
What the second call computes for one position, as a function of that position's
inputs and of the weights.
-/

@[expose] public section

noncomputable section

namespace Cert.Proof.P2

open Idealize.ShloMosaic

/-- The weights of the second call. -/
structure Wts where
  pool : Fin 4 → Fin 128 → Fin 128 → EReal
  scale : Fin 512 → EReal
  a : Fin 512 → Fin 1024 → EReal
  b : Fin 512 → Fin 1024 → EReal
  out : Fin 1024 → Fin 1024 → EReal
  nffn : Fin 1024 → EReal
  gate : Fin 1024 → Fin 2816 → EReal
  up : Fin 1024 → Fin 2816 → EReal
  down : Fin 2816 → Fin 1024 → EReal
  nple : Fin 1024 → EReal
  pgate : Fin 1024 → Fin 1024 → EReal
  pproj : Fin 256 → Fin 1024 → EReal
  nfin : Fin 1024 → EReal

/-- The inputs at one position: the pooled values, the attention's values, the gates, the residual and the embedding. -/
structure Row where
  pl : Fin 512 → EReal
  yb : Fin 512 → EReal
  g : Fin 2048 → EReal
  x : Fin 1024 → EReal
  p : Fin 256 → EReal

/-- A row over the root of its mean square plus the small constant, times the gain. -/
def norm (x g : Fin 1024 → EReal) (d : Fin 1024) : EReal :=
  x d * Ideal.rsqrt (Ideal.div (∑ k, x k * x k) (Ideal.ofBits .f32 0x44800000#32) + Ideal.ofBits .f32 0x358637BD#32) * g d

/-- The pooling branch: each group of 128 columns against its own matrix, then scaled. -/
def ya (W : Wts) (R : Row) (k : Fin 512) : EReal :=
  (∑ j : Fin 128, R.pl ⟨128 * (k.val / 128) + j.val, by omega⟩ * W.pool ⟨k.val / 128, by omega⟩ j ⟨k.val % 128, by omega⟩) * W.scale k

/-- The two gated branches together. -/
def mg (W : Wts) (R : Row) (c : Fin 1024) : EReal :=
  Ideal.logistic (R.g ⟨c.val, by omega⟩) * (∑ k, ya W R k * W.a k c) + Ideal.logistic (R.g ⟨1024 + c.val, by omega⟩) * (∑ k, R.yb k * W.b k c)

def y1 (W : Wts) (R : Row) (c : Fin 1024) : EReal := R.x c + ∑ k, mg W R k * W.out k c

def h1 (W : Wts) (R : Row) : Fin 1024 → EReal := norm (y1 W R) W.nffn

/-- One column of the feed-forward layer's inside. -/
def act (W : Wts) (h : Fin 1024 → EReal) (f : Fin 2816) : EReal :=
  (∑ k, h k * W.gate k f) * Ideal.logistic (∑ k, h k * W.gate k f) * (∑ k, h k * W.up k f)

def y2 (W : Wts) (R : Row) (c : Fin 1024) : EReal := y1 W R c + ∑ f, act W (h1 W R) f * W.down f c

def y3 (W : Wts) (R : Row) (c : Fin 1024) : EReal :=
  y2 W R c + Ideal.logistic (∑ k, norm (y2 W R) W.nple k * W.pgate k c) * (∑ k, R.p k * W.pproj k c)

/-- The result at one position. -/
def res (W : Wts) (R : Row) : Fin 1024 → EReal := norm (y3 W R) W.nfin

/-- The feed-forward layer's sum in two parts of 1536 and 1280 columns. -/
theorem y2_parts (W : Wts) (R : Row) (c : Fin 1024) :
    (y1 W R c + ∑ f : Fin 1536, act W (h1 W R) ⟨f.val, by omega⟩ * W.down ⟨f.val, by omega⟩ c)
      + ∑ f : Fin 1280, act W (h1 W R) ⟨1536 + f.val, by omega⟩ * W.down ⟨1536 + f.val, by omega⟩ c = y2 W R c := by
  unfold y2
  rw [add_assoc]
  congr 1
  exact (Fin.sum_univ_add (a := 1536) (b := 1280) (fun f => act W (h1 W R) f * W.down f c)).symm

end Cert.Proof.P2

end
-- ==== Proof.P2.PayPool.lean ====
module

public import proofs.«01_k».proof.Proof.Gen.Kernel2Ideal.Skeleton
public import proofs.«01_k».proof.Proof.P2.Row
public import Idealize.ShloMosaic.Lib.Pointwise
public import Idealize.ShloMosaic.Lib.WordCmp

/-! The expressions of the second call's pooling, element by element. -/

@[expose] public section

set_option maxRecDepth 16384

noncomputable section

namespace Cert.Proof.P2

open Cert.Kernel2Ideal Cert.Kernel2Ideal.Gen Idealize.ShloMosaic Idealize.ShloMosaic.TcCoe

/-- The number of positions in a window: one more than the position (the sum of two words), at most `w`, as a word. -/
def cnt (a b w : BitVec 32) : EReal := FloatOps.sitofp (F := Ideal) .f32 (IntOp.minsi (IntOp.addi (IntOp.addi a b) 1#32) w)

theorem pay7_apply (a : BitVec 32) (u : Vec Ideal S512x512 .f32) (b : IVec S512x1 32) (s t : Vec Ideal S528x128 .f32) (r : Fin 512) (l : Fin 128) :
    k0_pay7 a u b s t (ix2 r l) = Ideal.div (s (ix2 ⟨16 + r.val, by omega⟩ l) + t (ix2 ⟨16 + r.val, by omega⟩ l)) (cnt a (b (ix2 r 0)) 2#32) - u (ix2 r ⟨l.val, by omega⟩) := by
  unfold k0_pay7 k0_pay6 cnt
  pointwise

theorem pay8_apply (s t : Vec Ideal S528x128 .f32) (q : Fin 528) (l : Fin 128) : k0_pay8 s t (ix2 q l) = s (ix2 q l) + t (ix2 q l) := by
  unfold k0_pay8
  pointwise

theorem pay9_apply (s t : Vec Ideal S528x128 .f32) (q : Fin 528) (l : Fin 128) : k0_pay9 s t (ix3 0 q l) = s (ix2 q l) + t (ix2 q l) := by
  unfold k0_pay9 k0_pay8
  pointwise

theorem pay10_apply (a : BitVec 32) (u : Vec Ideal S512x512 .f32) (b : IVec S512x1 32) (s t : Vec Ideal S528x128 .f32) (v : Vec Ideal S1x528x128 .f32)
    (r : Fin 512) (l : Fin 128) :
    k0_pay10 a u b s t v (ix2 r l) = Ideal.div (s (ix2 ⟨16 + r.val, by omega⟩ l) + t (ix2 ⟨16 + r.val, by omega⟩ l) + v (ix3 0 ⟨16 + r.val, by omega⟩ l)) (cnt a (b (ix2 r 0)) 4#32) - u (ix2 r ⟨128 + l.val, by omega⟩) := by
  unfold k0_pay10 k0_pay6 k0_pay8 cnt
  pointwise

theorem pay14_apply (s t : Vec Ideal S528x128 .f32) (q : Fin 528) (l : Fin 128) : k0_pay14 s t (ix3 0 q l) = s (ix2 q l) + t (ix2 q l) := by
  unfold k0_pay14 k0_pay13
  pointwise

theorem pay16_apply (s t : Vec Ideal S528x128 .f32) (v : Vec Ideal S1x528x128 .f32) (q : Fin 528) (l : Fin 128) :
    k0_pay16 s t v (ix3 0 q l) = s (ix2 q l) + t (ix2 q l) + v (ix3 0 q l) := by
  unfold k0_pay16 k0_pay15 k0_pay13
  pointwise

theorem pay17_apply (a : BitVec 32) (u : Vec Ideal S512x512 .f32) (b : IVec S512x1 32) (s t : Vec Ideal S528x128 .f32) (v w : Vec Ideal S1x528x128 .f32)
    (r : Fin 512) (l : Fin 128) :
    k0_pay17 u (k0_pay11 a b) k0_pay12 s t v w (ix2 r l) = Ideal.div (s (ix2 ⟨16 + r.val, by omega⟩ l) + t (ix2 ⟨16 + r.val, by omega⟩ l) + v (ix3 0 ⟨16 + r.val, by omega⟩ l)
      + w (ix3 0 ⟨16 + r.val, by omega⟩ l)) (cnt a (b (ix2 r 0)) 8#32) - u (ix2 r ⟨256 + l.val, by omega⟩) := by
  unfold k0_pay17 k0_pay11 k0_pay12 k0_pay15 k0_pay13 k0_pay6 cnt
  pointwise

theorem pay19_apply (s t : Vec Ideal S528x128 .f32) (q : Fin 528) (l : Fin 128) : k0_pay19 s t (ix2 q l) = s (ix2 q l) + t (ix2 q l) := by
  unfold k0_pay19
  pointwise

theorem pay20_apply (s : FVec Ideal S528x128 .f32) (q : Fin 528) (l : Fin 128) : k0_pay20 s (ix3 0 q l) = s (ix2 q l) := by
  unfold k0_pay20
  pointwise

theorem pay22_apply (s : FVec Ideal S528x128 .f32) (v : Vec Ideal S1x528x128 .f32) (q : Fin 528) (l : Fin 128) :
    k0_pay22 s v (ix3 0 q l) = s (ix2 q l) + v (ix3 0 q l) := by
  unfold k0_pay22 k0_pay21
  pointwise

theorem pay24_apply (s : FVec Ideal S528x128 .f32) (v w : Vec Ideal S1x528x128 .f32) (q : Fin 528) (l : Fin 128) :
    k0_pay24 s v w (ix3 0 q l) = s (ix2 q l) + v (ix3 0 q l) + w (ix3 0 q l) := by
  unfold k0_pay24 k0_pay23 k0_pay21
  pointwise

theorem pay25_apply (a : BitVec 32) (b : IVec S512x1 32) (u : Vec Ideal S512x512 .f32) (s : FVec Ideal S528x128 .f32) (v w z : Vec Ideal S1x528x128 .f32)
    (r : Fin 512) (l : Fin 128) :
    k0_pay25 u (k0_pay18 (k0_pay6 a b)) s v w z (ix2 r l) = Ideal.div (s (ix2 ⟨16 + r.val, by omega⟩ l) + v (ix3 0 ⟨16 + r.val, by omega⟩ l)
      + w (ix3 0 ⟨16 + r.val, by omega⟩ l) + z (ix3 0 ⟨16 + r.val, by omega⟩ l)) (cnt a (b (ix2 r 0)) 16#32) - u (ix2 r ⟨384 + l.val, by omega⟩) := by
  unfold k0_pay25 k0_pay18 k0_pay23 k0_pay21 k0_pay6 cnt
  pointwise

theorem pay2_apply (r : Fin 8) (k : Fin 512) : k0_pay2 (F := Ideal) (ix2 r k) = 0 := by
  unfold k0_pay2
  pointwise

theorem pay5_apply (u : Vec Ideal S512x512 .f32) (r k : Fin 512) : k0_pay5 u (ix2 r k) = u (ix2 r k) := by
  unfold k0_pay5
  pointwise

/-- Four blocks of 128 columns, each the rows from `o` of `P` against a matrix, side by side and scaled. -/
theorem pay29_apply (P0 P1 P2 P3 : FVec Ideal S512x128 .bf16) (w0 w1 w2 w3 : Vec Ideal S1x128x128 .bf16) (z : Vec Ideal S1x512 .f32) (r : Fin 256) (g : Fin 4) (l : Fin 128) :
    k0_pay29 P3 (k0_pay26 P0 w0) (k0_pay27 P1 w1) (k0_pay28 P2) w2 w3 z (ix2 r ⟨128 * g.val + l.val, by omega⟩)
      = (∑ j : Fin 128, (![P0, P1, P2, P3] g) (ix2 ⟨r.val, by omega⟩ j) * (![w0, w1, w2, w3] g) (ix3 0 j l)) * z (ix2 0 ⟨128 * g.val + l.val, by omega⟩) := by
  unfold k0_pay29 k0_pay26 k0_pay27 k0_pay28
  fin_cases g
  · pointwise
  · pointwise
  · pointwise
    rw [dif_neg (by omega), dif_neg (by omega), dif_pos (by omega)]
    simp only [show 256 + l.val - 128 - 128 = l.val by omega]
  · pointwise
    rw [dif_neg (by omega), dif_neg (by omega), dif_neg (by omega)]
    simp only [show 384 + l.val - 128 - 128 - 128 = l.val by omega]

theorem pay30_apply (P0 P1 P2 P3 : FVec Ideal S512x128 .bf16) (w0 w1 w2 w3 : Vec Ideal S1x128x128 .bf16) (z : Vec Ideal S1x512 .f32) (r : Fin 256) (g : Fin 4) (l : Fin 128) :
    k0_pay30 P0 P1 P2 P3 w0 w1 w2 w3 z (ix2 r ⟨128 * g.val + l.val, by omega⟩)
      = (∑ j : Fin 128, (![P0, P1, P2, P3] g) (ix2 ⟨256 + r.val, by omega⟩ j) * (![w0, w1, w2, w3] g) (ix3 0 j l)) * z (ix2 0 ⟨128 * g.val + l.val, by omega⟩) := by
  unfold k0_pay30
  fin_cases g
  · pointwise
  · pointwise
  · pointwise
    rw [dif_neg (by omega), dif_neg (by omega), dif_pos (by omega)]
    simp only [show 256 + l.val - 128 - 128 = l.val by omega]
  · pointwise
    rw [dif_neg (by omega), dif_neg (by omega), dif_neg (by omega)]
    simp only [show 384 + l.val - 128 - 128 - 128 = l.val by omega]

end Cert.Proof.P2

end
-- ==== Proof.P2.PoolW.lean ====
module

public import proofs.«01_k».proof.Proof.Gen.Kernel2Ideal.Frame
public import proofs.«01_k».proof.Proof.P2.PayPool

/-!
What the second call's two scratch buffers hold when they are read: the rows of a
tile below the last rows of the tile before it, and sums over 2, 4 and 8 such rows.
-/

@[expose] public section

set_option maxRecDepth 16384

noncomputable section

namespace Cert.Proof.P2

open Cert.Kernel2Ideal Cert.Kernel2Ideal.Gen Idealize.ShloMosaic Idealize.ShloMosaic.TcCoe

/-- The tile of a grid point begins at this position of its sequence. -/
theorem word_begin (i : grid0.Coords) : kernelRun0_A.sl.v10 i = BitVec.ofNat 32 (512 * (i 0).val % 8192) :=
  (by decide +kernel : ∀ n : Fin 64, Scalar.select (Scalar.andi (Scalar.xori (Scalar.cmpi .slt (Scalar.remsi (Scalar.muli (BitVec.ofNat 32 n.val) 512#32) 8192#32) 0#32) 0#1)
      (Scalar.cmpi .ne (Scalar.remsi (Scalar.muli (BitVec.ofNat 32 n.val) 512#32) 8192#32) 0#32))
      (Scalar.addi (Scalar.remsi (Scalar.muli (BitVec.ofNat 32 n.val) 512#32) 8192#32) 8192#32)
      (Scalar.remsi (Scalar.muli (BitVec.ofNat 32 n.val) 512#32) 8192#32) = BitVec.ofNat 32 (512 * n.val % 8192)) (i 0)

theorem first_tile (i : grid0.Coords) : Scalar.cmpi .eq (kernelRun0_A.sl.v10 i) 0#32 = if 512 * (i 0).val % 8192 = 0 then 1 else 0 := by
  rw [word_begin]
  exact (by decide +kernel : ∀ n : Fin 64, Scalar.cmpi .eq (BitVec.ofNat 32 (512 * n.val % 8192)) 0#32 = if 512 * n.val % 8192 = 0 then 1 else 0) (i 0)

theorem pay4_apply (i : grid0.Coords) (x : Vec Ideal S16x512 .f32) (r : Fin 16) (k : Fin 512) :
    k0_pay4 i x (ix2 r k) = if 512 * (i 0).val % 8192 = 0 then 0 else x (ix2 r k) := by
  have e : k0_pay4 i x = shapeCast S16x512 (Scalar.select (Scalar.cmpi .eq (kernelRun0_A.sl.v10 i) 0#32) (broadcast S16x512 (Scalar.ofBits (F := Ideal) .f32 0x00000000#32)) x) shapeCasts_S16x512_S16x512 := rfl
  rw [e, first_tile]
  by_cases h : 512 * (i 0).val % 8192 = 0
  · simp only [h, if_true, Scalar.select]
    pointwise
  · rw [if_neg h]
    simp only [h, if_false, Scalar.select]
    rw [if_neg (by decide)]
    pointwise

/-- Row `ρ` of the buffer of inputs: from 24 on the tile, before it the 16 rows before the tile, or zeros. -/
def ubv (i : grid0.Coords) (x0 : Vec Ideal S512x512 .f32) (x1 : Vec Ideal S16x512 .f32) (k : Fin 512) (ρ : ℕ) : EReal :=
  if ρ < 24 then (if 512 * (i 0).val % 8192 = 0 then 0 else x1 (ix2 ⟨(ρ - 8) % 16, by omega⟩ k)) else x0 (ix2 ⟨(ρ - 24) % 512, by omega⟩ k)

/-- Sums over the last 2, 4, 8 and 16 terms of a sequence. -/
def w2 (u : ℕ → EReal) (ρ : ℕ) : EReal := u ρ + u (ρ - 1)
def w4 (u : ℕ → EReal) (ρ : ℕ) : EReal := w2 u ρ + w2 u (ρ - 2)
def w8 (u : ℕ → EReal) (ρ : ℕ) : EReal := w4 u ρ + w4 u (ρ - 4)
def w16 (u : ℕ → EReal) (ρ : ℕ) : EReal := w8 u ρ + w8 u (ρ - 8)

section
variable {A B a b : ℕ} {e : EltTy} {o p : ℕ}

theorem unit_idx2 (inb : ∀ j, (![o, p] : Fin 2 → ℕ) j + (⟨2, ![a, b]⟩ : Shape).size j ≤ (⟨2, ![A, B]⟩ : Shape).size j) (r : Fin a) (c : Fin b) (hr : o + r.val < A) (hc : p + c.val < B) :
    (Rect.unit (s := ⟨2, ![A, B]⟩) ![o, p] (⟨2, ![a, b]⟩ : Shape).size inb).toLoadRect.idx (ix2 r c) = ix2 ⟨o + r.val, hr⟩ ⟨p + c.val, hc⟩ := by
  funext j
  apply Fin.ext
  fin_cases j
  · show o + 1 * r.val = o + r.val
    omega
  · show p + 1 * c.val = p + c.val
    omega

theorem read2 (v : Memref sig .tc .vmem ⟨2, ![A, B]⟩ e) (h : v.IsWhole) (x : Vec Ideal ⟨2, ![A, B]⟩ e)
    (inb : ∀ j, (![o, p] : Fin 2 → ℕ) j + (⟨2, ![a, b]⟩ : Shape).size j ≤ (⟨2, ![A, B]⟩ : Shape).size j) (r : Fin a) (c : Fin b) (hr : o + r.val < A) (hc : p + c.val < B) :
    View.readAt (Elt Ideal) v.view (Rect.unit (s := ⟨2, ![A, B]⟩) ![o, p] (⟨2, ![a, b]⟩ : Shape).size inb).toLoadRect (h.unread x) (ix2 r c) = x (ix2 ⟨o + r.val, hr⟩ ⟨p + c.val, hc⟩) := by
  rw [View.readAt_apply, h.read_unread, unit_idx2]

theorem hit2 (inb : ∀ j, (![o, p] : Fin 2 → ℕ) j + (⟨2, ![a, b]⟩ : Shape).size j ≤ (⟨2, ![A, B]⟩ : Shape).size j)
    (w : Vec Ideal ⟨2, ![a, b]⟩ e) (L : List (View.Piece (Elt Ideal) ⟨2, ![A, B]⟩ e)) (r' : Fin A) (c' : Fin B) (r : Fin a) (c : Fin b) (hr : r'.val = o + r.val) (hc : c'.val = p + c.val) :
    View.canon (⟨Rect.unit (s := ⟨2, ![A, B]⟩) ![o, p] (⟨2, ![a, b]⟩ : Shape).size inb, w⟩ :: L) (ix2 r' c') = w (ix2 r c) := by
  have e1 : (ix2 r' c' : Shape.Idx ⟨2, ![A, B]⟩) = (Rect.unit (s := ⟨2, ![A, B]⟩) ![o, p] (⟨2, ![a, b]⟩ : Shape).size inb).emb (ix2 r c) := by
    funext j
    apply Fin.ext
    fin_cases j
    · show r'.val = o + 1 * r.val
      omega
    · show c'.val = p + 1 * c.val
      omega
  rw [e1]
  exact View.canon_cons_emb _ _ _ _

theorem miss2 (inb : ∀ j, (![o, p] : Fin 2 → ℕ) j + (⟨2, ![a, b]⟩ : Shape).size j ≤ (⟨2, ![A, B]⟩ : Shape).size j)
    (w : Vec Ideal ⟨2, ![a, b]⟩ e) (L : List (View.Piece (Elt Ideal) ⟨2, ![A, B]⟩ e)) (r' : Fin A) (c' : Fin B) (hr : r'.val < o) :
    View.canon (⟨Rect.unit (s := ⟨2, ![A, B]⟩) ![o, p] (⟨2, ![a, b]⟩ : Shape).size inb, w⟩ :: L) (ix2 r' c') = View.canon L (ix2 r' c') := by
  refine View.canon_cons_of_not_mem _ _ fun hm => ?_
  have h2 : o ≤ r'.val := ((Rect.mem_set_unit (inb := inb)).1 hm 0).1
  omega
end

section
variable {A B C a b d : ℕ} {e : EltTy} {o p q : ℕ}

theorem unit_idx3 (inb : ∀ j, (![o, p, q] : Fin 3 → ℕ) j + (⟨3, ![a, b, d]⟩ : Shape).size j ≤ (⟨3, ![A, B, C]⟩ : Shape).size j) (r : Fin a) (c : Fin b) (l : Fin d)
    (hr : o + r.val < A) (hc : p + c.val < B) (hl : q + l.val < C) :
    (Rect.unit (s := ⟨3, ![A, B, C]⟩) ![o, p, q] (⟨3, ![a, b, d]⟩ : Shape).size inb).toLoadRect.idx (ix3 r c l) = ix3 ⟨o + r.val, hr⟩ ⟨p + c.val, hc⟩ ⟨q + l.val, hl⟩ := by
  funext j
  apply Fin.ext
  fin_cases j
  · show o + 1 * r.val = o + r.val
    omega
  · show p + 1 * c.val = p + c.val
    omega
  · show q + 1 * l.val = q + l.val
    omega

theorem read3 (v : Memref sig .tc .vmem ⟨3, ![A, B, C]⟩ e) (h : v.IsWhole) (x : Vec Ideal ⟨3, ![A, B, C]⟩ e)
    (inb : ∀ j, (![o, p, q] : Fin 3 → ℕ) j + (⟨3, ![a, b, d]⟩ : Shape).size j ≤ (⟨3, ![A, B, C]⟩ : Shape).size j) (r : Fin a) (c : Fin b) (l : Fin d)
    (hr : o + r.val < A) (hc : p + c.val < B) (hl : q + l.val < C) :
    View.readAt (Elt Ideal) v.view (Rect.unit (s := ⟨3, ![A, B, C]⟩) ![o, p, q] (⟨3, ![a, b, d]⟩ : Shape).size inb).toLoadRect (h.unread x) (ix3 r c l)
      = x (ix3 ⟨o + r.val, hr⟩ ⟨p + c.val, hc⟩ ⟨q + l.val, hl⟩) := by
  rw [View.readAt_apply, h.read_unread, unit_idx3]

theorem hit3 (inb : ∀ j, (![o, p, q] : Fin 3 → ℕ) j + (⟨3, ![a, b, d]⟩ : Shape).size j ≤ (⟨3, ![A, B, C]⟩ : Shape).size j)
    (w : Vec Ideal ⟨3, ![a, b, d]⟩ e) (L : List (View.Piece (Elt Ideal) ⟨3, ![A, B, C]⟩ e)) (r' : Fin A) (c' : Fin B) (l' : Fin C) (r : Fin a) (c : Fin b) (l : Fin d)
    (hr : r'.val = o + r.val) (hc : c'.val = p + c.val) (hl : l'.val = q + l.val) :
    View.canon (⟨Rect.unit (s := ⟨3, ![A, B, C]⟩) ![o, p, q] (⟨3, ![a, b, d]⟩ : Shape).size inb, w⟩ :: L) (ix3 r' c' l') = w (ix3 r c l) := by
  have e1 : (ix3 r' c' l' : Shape.Idx ⟨3, ![A, B, C]⟩) = (Rect.unit (s := ⟨3, ![A, B, C]⟩) ![o, p, q] (⟨3, ![a, b, d]⟩ : Shape).size inb).emb (ix3 r c l) := by
    funext j
    apply Fin.ext
    fin_cases j
    · show r'.val = o + 1 * r.val
      omega
    · show c'.val = p + 1 * c.val
      omega
    · show l'.val = q + 1 * l.val
      omega
  rw [e1]
  exact View.canon_cons_emb _ _ _ _
end

section
variable (c : Dev nD) (i : grid0.Coords)
  (arg1 : Memref sig .tc .vmem S512x512 .f32) (harg1 : arg1.IsWhole)
  (arg2 : Memref sig .tc .vmem S16x512 .f32) (harg2 : arg2.IsWhole)
  (arg3 : Memref sig .tc .vmem S512x512 .bf16) (harg3 : arg3.IsWhole)
  (arg4 : Memref sig .tc .vmem S512x2048 .f32) (harg4 : arg4.IsWhole)
  (arg5 : Memref sig .tc .vmem S512x1024 .f32) (harg5 : arg5.IsWhole)
  (arg6 : Memref sig .tc .vmem S512x256 .f32) (harg6 : arg6.IsWhole)
  (arg7 : Memref sig .tc .vmem S4x128x128 .bf16) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S1024x2816 .bf16) (harg13 : arg13.IsWhole)
  (arg14 : Memref sig .tc .vmem S1024x2816 .bf16) (harg14 : arg14.IsWhole)
  (arg15 : Memref sig .tc .vmem S2816x1024 .bf16) (harg15 : arg15.IsWhole)
  (arg16 : Memref sig .tc .vmem S1x1024 .f32) (harg16 : arg16.IsWhole)
  (arg17 : Memref sig .tc .vmem S1024x1024 .bf16) (harg17 : arg17.IsWhole)
  (arg18 : Memref sig .tc .vmem S256x1024 .bf16) (harg18 : arg18.IsWhole)
  (arg19 : Memref sig .tc .vmem S1x1024 .f32) (harg19 : arg19.IsWhole)
  (arg20 : Memref sig .tc .vmem S512x1024 .f32) (harg20 : arg20.IsWhole)
  (arg21 : Memref sig .tc .vmem S536x512 .f32)
  (arg22 : Memref sig .tc .vmem S2x536x128 .f32)
  (x0 : Vec Ideal S512x512 .f32)
  (x1 : Vec Ideal S16x512 .f32)
  (x2 : Vec Ideal S512x512 .bf16)
  (x3 : Vec Ideal S512x2048 .f32)
  (x4 : Vec Ideal S512x1024 .f32)
  (x5 : Vec Ideal S512x256 .f32)
  (x6 : Vec Ideal S4x128x128 .bf16)
  (x7 : Vec Ideal S1x512 .f32)
  (x8 : Vec Ideal S512x1024 .bf16)
  (x9 : Vec Ideal S512x1024 .bf16)
  (x10 : Vec Ideal S1024x1024 .bf16)
  (x11 : Vec Ideal S1x1024 .f32)
  (x12 : Vec Ideal S1024x2816 .bf16)
  (x13 : Vec Ideal S1024x2816 .bf16)
  (x14 : Vec Ideal S2816x1024 .bf16)
  (x15 : Vec Ideal S1x1024 .f32)
  (x16 : Vec Ideal S1024x1024 .bf16)
  (x17 : Vec Ideal S256x1024 .bf16)
  (x18 : Vec Ideal S1x1024 .f32)

theorem r_apply (r k : Fin 512) : kernelRun0_A.sl.r (F := Ideal) c arg1 harg1 x0 (ix2 r k) = x0 (ix2 r k) := by
  unfold kernelRun0_A.sl.r
  rw [read2 arg1 harg1 x0 _ r k (by omega) (by omega)]
  simp only [Nat.zero_add]

theorem rows_apply (ρ : Fin 536) (k : Fin 512) (h : 8 ≤ ρ.val) : View.canon (kernelRun0_A.sl.HS0_3 (F := Ideal) c i arg1 harg1 arg2 harg2 x0 x1) (ix2 ρ k) = ubv i x0 x1 k ρ.val := by
  unfold kernelRun0_A.sl.HS0_3 ubv
  by_cases h1 : ρ.val < 24
  · rw [if_pos h1]
    refine (miss2 _ _ _ ρ k h1).trans ?_
    refine (hit2 _ _ _ ρ k ⟨(ρ.val - 8) % 16, by omega⟩ k (by dsimp only; omega) (by omega)).trans ?_
    rw [pay4_apply, read2 arg2 harg2 x1 _ _ k (by dsimp only; omega) (by omega)]
    simp only [Nat.zero_add]
  · rw [if_neg h1]
    refine (hit2 _ _ _ ρ k ⟨(ρ.val - 24) % 512, by omega⟩ k (by dsimp only; omega) (by omega)).trans ?_
    rw [pay5_apply, read2 arg1 harg1 x0 _ _ k (by dsimp only; omega) (by omega)]
    simp only [Nat.zero_add]

theorem v38_apply (q : Fin 528) (l : Fin 128) (h : 1 ≤ q.val) : kernelRun0_A.sl.v38 (F := Ideal) c i arg1 harg1 arg2 harg2 arg21 x0 x1 (ix2 q l) = ubv i x0 x1 ⟨l.val, by omega⟩ (8 + q.val) := by
  unfold kernelRun0_A.sl.v38
  rw [View.readCov_eq_canon']
  refine (congrArg _ (unit_idx2 _ q l (by omega) (by omega))).trans ?_
  rw [rows_apply _ _ _ _ _ _ _ _ _ _ (by dsimp only; omega)]
  simp only [Nat.zero_add]

theorem v39_apply (q : Fin 528) (l : Fin 128) (h : 1 ≤ q.val) : kernelRun0_A.sl.v39 (F := Ideal) c i arg1 harg1 arg2 harg2 arg21 x0 x1 (ix2 q l) = ubv i x0 x1 ⟨l.val, by omega⟩ (7 + q.val) := by
  unfold kernelRun0_A.sl.v39
  rw [View.readCov_eq_canon']
  refine (congrArg _ (unit_idx2 _ q l (by omega) (by omega))).trans ?_
  rw [rows_apply _ _ _ _ _ _ _ _ _ _ (by dsimp only; omega)]
  simp only [Nat.zero_add]

theorem pair_0 (q : Fin 528) (l : Fin 128) (h : 1 ≤ q.val) : kernelRun0_A.sl.v38 (F := Ideal) c i arg1 harg1 arg2 harg2 arg21 x0 x1 (ix2 q l) + kernelRun0_A.sl.v39 (F := Ideal) c i arg1 harg1 arg2 harg2 arg21 x0 x1 (ix2 q l) = w2 (ubv i x0 x1 ⟨l.val, by omega⟩) (8 + q.val) := by
  rw [v38_apply _ _ _ _ _ _ _ _ _ q l h, v39_apply _ _ _ _ _ _ _ _ _ q l h]
  unfold w2
  rw [show 8 + q.val - 1 = 7 + q.val by omega]

theorem v52_apply (q : Fin 528) (l : Fin 128) (h : 1 ≤ q.val) : kernelRun0_A.sl.v52 (F := Ideal) c i arg1 harg1 arg2 harg2 arg21 x0 x1 (ix2 q l) = ubv i x0 x1 ⟨128 + l.val, by omega⟩ (8 + q.val) := by
  unfold kernelRun0_A.sl.v52
  rw [View.readCov_eq_canon']
  refine (congrArg _ (unit_idx2 _ q l (by omega) (by omega))).trans ?_
  rw [rows_apply _ _ _ _ _ _ _ _ _ _ (by dsimp only; omega)]

theorem v53_apply (q : Fin 528) (l : Fin 128) (h : 1 ≤ q.val) : kernelRun0_A.sl.v53 (F := Ideal) c i arg1 harg1 arg2 harg2 arg21 x0 x1 (ix2 q l) = ubv i x0 x1 ⟨128 + l.val, by omega⟩ (7 + q.val) := by
  unfold kernelRun0_A.sl.v53
  rw [View.readCov_eq_canon']
  refine (congrArg _ (unit_idx2 _ q l (by omega) (by omega))).trans ?_
  rw [rows_apply _ _ _ _ _ _ _ _ _ _ (by dsimp only; omega)]

theorem pair_128 (q : Fin 528) (l : Fin 128) (h : 1 ≤ q.val) : kernelRun0_A.sl.v52 (F := Ideal) c i arg1 harg1 arg2 harg2 arg21 x0 x1 (ix2 q l) + kernelRun0_A.sl.v53 (F := Ideal) c i arg1 harg1 arg2 harg2 arg21 x0 x1 (ix2 q l) = w2 (ubv i x0 x1 ⟨128 + l.val, by omega⟩) (8 + q.val) := by
  rw [v52_apply _ _ _ _ _ _ _ _ _ q l h, v53_apply _ _ _ _ _ _ _ _ _ q l h]
  unfold w2
  rw [show 8 + q.val - 1 = 7 + q.val by omega]

theorem v72_apply (q : Fin 528) (l : Fin 128) (h : 1 ≤ q.val) : kernelRun0_A.sl.v72 (F := Ideal) c i arg1 harg1 arg2 harg2 arg21 x0 x1 (ix2 q l) = ubv i x0 x1 ⟨256 + l.val, by omega⟩ (8 + q.val) := by
  unfold kernelRun0_A.sl.v72
  rw [View.readCov_eq_canon']
  refine (congrArg _ (unit_idx2 _ q l (by omega) (by omega))).trans ?_
  rw [rows_apply _ _ _ _ _ _ _ _ _ _ (by dsimp only; omega)]

theorem v73_apply (q : Fin 528) (l : Fin 128) (h : 1 ≤ q.val) : kernelRun0_A.sl.v73 (F := Ideal) c i arg1 harg1 arg2 harg2 arg21 x0 x1 (ix2 q l) = ubv i x0 x1 ⟨256 + l.val, by omega⟩ (7 + q.val) := by
  unfold kernelRun0_A.sl.v73
  rw [View.readCov_eq_canon']
  refine (congrArg _ (unit_idx2 _ q l (by omega) (by omega))).trans ?_
  rw [rows_apply _ _ _ _ _ _ _ _ _ _ (by dsimp only; omega)]

theorem pair_256 (q : Fin 528) (l : Fin 128) (h : 1 ≤ q.val) : kernelRun0_A.sl.v72 (F := Ideal) c i arg1 harg1 arg2 harg2 arg21 x0 x1 (ix2 q l) + kernelRun0_A.sl.v73 (F := Ideal) c i arg1 harg1 arg2 harg2 arg21 x0 x1 (ix2 q l) = w2 (ubv i x0 x1 ⟨256 + l.val, by omega⟩) (8 + q.val) := by
  rw [v72_apply _ _ _ _ _ _ _ _ _ q l h, v73_apply _ _ _ _ _ _ _ _ _ q l h]
  unfold w2
  rw [show 8 + q.val - 1 = 7 + q.val by omega]

theorem v98_apply (q : Fin 528) (l : Fin 128) (h : 1 ≤ q.val) : kernelRun0_A.sl.v98 (F := Ideal) c i arg1 harg1 arg2 harg2 arg21 x0 x1 (ix2 q l) = ubv i x0 x1 ⟨384 + l.val, by omega⟩ (8 + q.val) := by
  unfold kernelRun0_A.sl.v98
  rw [View.readCov_eq_canon']
  refine (congrArg _ (unit_idx2 _ q l (by omega) (by omega))).trans ?_
  rw [rows_apply _ _ _ _ _ _ _ _ _ _ (by dsimp only; omega)]

theorem v99_apply (q : Fin 528) (l : Fin 128) (h : 1 ≤ q.val) : kernelRun0_A.sl.v99 (F := Ideal) c i arg1 harg1 arg2 harg2 arg21 x0 x1 (ix2 q l) = ubv i x0 x1 ⟨384 + l.val, by omega⟩ (7 + q.val) := by
  unfold kernelRun0_A.sl.v99
  rw [View.readCov_eq_canon']
  refine (congrArg _ (unit_idx2 _ q l (by omega) (by omega))).trans ?_
  rw [rows_apply _ _ _ _ _ _ _ _ _ _ (by dsimp only; omega)]

theorem pair_384 (q : Fin 528) (l : Fin 128) (h : 1 ≤ q.val) : kernelRun0_A.sl.v98 (F := Ideal) c i arg1 harg1 arg2 harg2 arg21 x0 x1 (ix2 q l) + kernelRun0_A.sl.v99 (F := Ideal) c i arg1 harg1 arg2 harg2 arg21 x0 x1 (ix2 q l) = w2 (ubv i x0 x1 ⟨384 + l.val, by omega⟩) (8 + q.val) := by
  rw [v98_apply _ _ _ _ _ _ _ _ _ q l h, v99_apply _ _ _ _ _ _ _ _ _ q l h]
  unfold w2
  rw [show 8 + q.val - 1 = 7 + q.val by omega]

theorem v58_apply (q : Fin 528) (l : Fin 128) (h : 3 ≤ q.val) : kernelRun0_A.sl.v58 (F := Ideal) c i arg1 harg1 arg2 harg2 arg21 arg22 x0 x1 (ix3 0 q l) = w2 (ubv i x0 x1 ⟨128 + l.val, by omega⟩) (6 + q.val) := by
  unfold kernelRun0_A.sl.v58
  rw [View.readCov_eq_canon']
  refine (congrArg _ (unit_idx3 _ 0 q l (by decide) (by omega) (by omega))).trans ?_
  unfold kernelRun0_A.sl.HS1_2
  refine (hit3 _ _ _ _ _ _ 0 ⟨6 + q.val - 8, by omega⟩ l (by decide) (by dsimp only; omega) rfl).trans ?_
  rw [pay9_apply]
  rw [pair_128 _ _ _ _ _ _ _ _ _ _ _ (by dsimp only; omega)]
  dsimp only
  rw [show 8 + (6 + q.val - 8) = 6 + q.val by omega]

theorem v78_apply (q : Fin 528) (l : Fin 128) (h : 3 ≤ q.val) : kernelRun0_A.sl.v78 (F := Ideal) c i arg1 harg1 arg2 harg2 arg21 arg22 x0 x1 (ix3 0 q l) = w2 (ubv i x0 x1 ⟨256 + l.val, by omega⟩) (6 + q.val) := by
  unfold kernelRun0_A.sl.v78
  rw [View.readCov_eq_canon']
  refine (congrArg _ (unit_idx3 _ 0 q l (by decide) (by omega) (by omega))).trans ?_
  unfold kernelRun0_A.sl.HS1_3
  refine (hit3 _ _ _ _ _ _ 0 ⟨6 + q.val - 8, by omega⟩ l (by decide) (by dsimp only; omega) rfl).trans ?_
  rw [pay14_apply]
  rw [pair_256 _ _ _ _ _ _ _ _ _ _ _ (by dsimp only; omega)]
  dsimp only
  rw [show 8 + (6 + q.val - 8) = 6 + q.val by omega]

theorem v84_apply (q : Fin 528) (l : Fin 128) (h : 7 ≤ q.val) : kernelRun0_A.sl.v84 (F := Ideal) c i arg1 harg1 arg2 harg2 arg21 arg22 x0 x1 (ix3 0 q l) = w4 (ubv i x0 x1 ⟨256 + l.val, by omega⟩) (4 + q.val) := by
  unfold kernelRun0_A.sl.v84
  rw [View.readCov_eq_canon']
  refine (congrArg _ (unit_idx3 _ 0 q l (by decide) (by omega) (by omega))).trans ?_
  unfold kernelRun0_A.sl.HS1_4
  refine (hit3 _ _ _ _ _ _ 0 ⟨4 + q.val - 8, by omega⟩ l (by decide) (by dsimp only; omega) rfl).trans ?_
  rw [pay16_apply]
  rw [pair_256 _ _ _ _ _ _ _ _ _ _ _ (by dsimp only; omega), v78_apply _ _ _ _ _ _ _ _ _ _ _ _ (by dsimp only; omega)]
  dsimp only
  unfold w4
  rw [show 8 + (4 + q.val - 8) = 4 + q.val by omega, show 6 + (4 + q.val - 8) = 4 + q.val - 2 by omega]

theorem r_7_apply (q : Fin 528) (l : Fin 128) (h : 1 ≤ q.val) : kernelRun0_A.sl.r_7 (F := Ideal) c i arg1 harg1 arg2 harg2 arg21 x0 x1 (ix2 q l) = w2 (ubv i x0 x1 ⟨384 + l.val, by omega⟩) (8 + q.val) := by
  unfold kernelRun0_A.sl.r_7
  rw [pay19_apply]
  exact pair_384 _ _ _ _ _ _ _ _ _ q l h

theorem v104_apply (q : Fin 528) (l : Fin 128) (h : 3 ≤ q.val) : kernelRun0_A.sl.v104 (F := Ideal) c i arg1 harg1 arg2 harg2 arg21 arg22 x0 x1 (ix3 0 q l) = w2 (ubv i x0 x1 ⟨384 + l.val, by omega⟩) (6 + q.val) := by
  unfold kernelRun0_A.sl.v104
  rw [View.readCov_eq_canon']
  refine (congrArg _ (unit_idx3 _ 0 q l (by decide) (by omega) (by omega))).trans ?_
  unfold kernelRun0_A.sl.HS1_5
  refine (hit3 _ _ _ _ _ _ 0 ⟨6 + q.val - 8, by omega⟩ l (by decide) (by dsimp only; omega) rfl).trans ?_
  rw [pay20_apply]
  rw [r_7_apply _ _ _ _ _ _ _ _ _ _ _ (by dsimp only; omega)]
  dsimp only
  rw [show 8 + (6 + q.val - 8) = 6 + q.val by omega]

theorem v110_apply (q : Fin 528) (l : Fin 128) (h : 7 ≤ q.val) : kernelRun0_A.sl.v110 (F := Ideal) c i arg1 harg1 arg2 harg2 arg21 arg22 x0 x1 (ix3 0 q l) = w4 (ubv i x0 x1 ⟨384 + l.val, by omega⟩) (4 + q.val) := by
  unfold kernelRun0_A.sl.v110
  rw [View.readCov_eq_canon']
  refine (congrArg _ (unit_idx3 _ 0 q l (by decide) (by omega) (by omega))).trans ?_
  unfold kernelRun0_A.sl.HS1_6
  refine (hit3 _ _ _ _ _ _ 0 ⟨4 + q.val - 8, by omega⟩ l (by decide) (by dsimp only; omega) rfl).trans ?_
  rw [pay22_apply]
  rw [r_7_apply _ _ _ _ _ _ _ _ _ _ _ (by dsimp only; omega), v104_apply _ _ _ _ _ _ _ _ _ _ _ _ (by dsimp only; omega)]
  dsimp only
  unfold w4
  rw [show 8 + (4 + q.val - 8) = 4 + q.val by omega, show 6 + (4 + q.val - 8) = 4 + q.val - 2 by omega]

theorem v116_apply (q : Fin 528) (l : Fin 128) (h : 15 ≤ q.val) : kernelRun0_A.sl.v116 (F := Ideal) c i arg1 harg1 arg2 harg2 arg21 arg22 x0 x1 (ix3 0 q l) = w8 (ubv i x0 x1 ⟨384 + l.val, by omega⟩) (0 + q.val) := by
  unfold kernelRun0_A.sl.v116
  rw [View.readCov_eq_canon']
  refine (congrArg _ (unit_idx3 _ 0 q l (by decide) (by omega) (by omega))).trans ?_
  unfold kernelRun0_A.sl.HS1_7
  refine (hit3 _ _ _ _ _ _ 0 ⟨0 + q.val - 8, by omega⟩ l (by decide) (by dsimp only; omega) rfl).trans ?_
  rw [pay24_apply]
  rw [r_7_apply _ _ _ _ _ _ _ _ _ _ _ (by dsimp only; omega), v104_apply _ _ _ _ _ _ _ _ _ _ _ _ (by dsimp only; omega), v110_apply _ _ _ _ _ _ _ _ _ _ _ _ (by dsimp only; omega)]
  dsimp only
  unfold w8 w4
  rw [show 8 + (0 + q.val - 8) = 0 + q.val by omega, show 6 + (0 + q.val - 8) = 0 + q.val - 2 by omega, show 4 + (0 + q.val - 8) = 0 + q.val - 4 by omega]

theorem v30_apply (r : Fin 512) : kernelRun0_A.sl.v30 (ix2 r 0) = BitVec.ofNat 32 r.val := by
  unfold kernelRun0_A.sl.v30
  pointwise

theorem r_2_apply (r : Fin 512) (l : Fin 128) : kernelRun0_A.sl.r_2 (F := Ideal) c i arg1 harg1 arg2 harg2 arg21 x0 x1 (ix2 r l)
    = Ideal.div (w2 (ubv i x0 x1 ⟨l.val, by omega⟩) (24 + r.val)) (cnt (BitVec.ofNat 32 (512 * (i 0).val % 8192)) (BitVec.ofNat 32 r.val) 2#32) - x0 (ix2 r ⟨l.val, by omega⟩) := by
  unfold kernelRun0_A.sl.r_2
  rw [pay7_apply, pair_0 _ _ _ _ _ _ _ _ _ _ _ (by dsimp only; omega), r_apply, v30_apply, word_begin]
  dsimp only
  rw [show 8 + (16 + r.val) = 24 + r.val by omega]

theorem r_3_apply (r : Fin 512) (l : Fin 128) : kernelRun0_A.sl.r_3 (F := Ideal) c i arg1 harg1 arg2 harg2 arg21 arg22 x0 x1 (ix2 r l)
    = Ideal.div (w4 (ubv i x0 x1 ⟨128 + l.val, by omega⟩) (24 + r.val)) (cnt (BitVec.ofNat 32 (512 * (i 0).val % 8192)) (BitVec.ofNat 32 r.val) 4#32) - x0 (ix2 r ⟨128 + l.val, by omega⟩) := by
  unfold kernelRun0_A.sl.r_3
  rw [pay10_apply, pair_128 _ _ _ _ _ _ _ _ _ _ _ (by dsimp only; omega), v58_apply _ _ _ _ _ _ _ _ _ _ _ _ (by dsimp only; omega), r_apply, v30_apply, word_begin]
  dsimp only
  unfold w4
  rw [show 8 + (16 + r.val) = 24 + r.val by omega, show 6 + (16 + r.val) = 24 + r.val - 2 by omega]

theorem r_5_apply (r : Fin 512) (l : Fin 128) : kernelRun0_A.sl.r_5 (F := Ideal) c i arg1 harg1 arg2 harg2 arg21 arg22 x0 x1 (ix2 r l)
    = Ideal.div (w8 (ubv i x0 x1 ⟨256 + l.val, by omega⟩) (24 + r.val)) (cnt (BitVec.ofNat 32 (512 * (i 0).val % 8192)) (BitVec.ofNat 32 r.val) 8#32) - x0 (ix2 r ⟨256 + l.val, by omega⟩) := by
  unfold kernelRun0_A.sl.r_5
  unfold kernelRun0_A.sl.r_4
  rw [pay17_apply, pair_256 _ _ _ _ _ _ _ _ _ _ _ (by dsimp only; omega), v78_apply _ _ _ _ _ _ _ _ _ _ _ _ (by dsimp only; omega), v84_apply _ _ _ _ _ _ _ _ _ _ _ _ (by dsimp only; omega), r_apply, v30_apply, word_begin]
  dsimp only
  unfold w8 w4
  rw [show 8 + (16 + r.val) = 24 + r.val by omega, show 6 + (16 + r.val) = 24 + r.val - 2 by omega, show 4 + (16 + r.val) = 24 + r.val - 4 by omega]

theorem r_8_apply (r : Fin 512) (l : Fin 128) : kernelRun0_A.sl.r_8 (F := Ideal) c i arg1 harg1 arg2 harg2 arg21 arg22 x0 x1 (ix2 r l)
    = Ideal.div (w16 (ubv i x0 x1 ⟨384 + l.val, by omega⟩) (24 + r.val)) (cnt (BitVec.ofNat 32 (512 * (i 0).val % 8192)) (BitVec.ofNat 32 r.val) 16#32) - x0 (ix2 r ⟨384 + l.val, by omega⟩) := by
  unfold kernelRun0_A.sl.r_8
  unfold kernelRun0_A.sl.r_6 kernelRun0_A.sl.r_1
  rw [pay25_apply, r_7_apply _ _ _ _ _ _ _ _ _ _ _ (by dsimp only; omega), v104_apply _ _ _ _ _ _ _ _ _ _ _ _ (by dsimp only; omega), v110_apply _ _ _ _ _ _ _ _ _ _ _ _ (by dsimp only; omega), v116_apply _ _ _ _ _ _ _ _ _ _ _ _ (by dsimp only; omega), r_apply, v30_apply, word_begin]
  dsimp only
  unfold w16 w8 w4
  rw [show 8 + (16 + r.val) = 24 + r.val by omega, show 6 + (16 + r.val) = 24 + r.val - 2 by omega, show 4 + (16 + r.val) = 24 + r.val - 4 by omega, show 0 + (16 + r.val) = 24 + r.val - 8 by omega]

end

end Cert.Proof.P2

end
-- ==== Proof.P2.Pay.lean ====
module

public import proofs.«01_k».proof.Proof.Gen.Kernel2Ideal.Skeleton
public import proofs.«01_k».proof.Proof.P2.Row
public import Idealize.ShloMosaic.Lib.Pointwise
public import Idealize.ShloMosaic.Lib.WordCmp

/-! The expressions of the second call's body, element by element. -/

@[expose] public section

set_option maxRecDepth 16384

noncomputable section

namespace Cert.Proof.P2

open Cert.Kernel2Ideal Cert.Kernel2Ideal.Gen Idealize.ShloMosaic Idealize.ShloMosaic.TcCoe

theorem pay31_apply (A : FVec Ideal S256x512 .bf16) (g0 : Vec Ideal S256x1024 .f32) (wa : Vec Ideal S512x1024 .bf16) (g1 : Vec Ideal S256x1024 .f32)
    (y : Vec Ideal S256x512 .bf16) (wb : Vec Ideal S512x1024 .bf16) (r : Fin 256) (c : Fin 1024) :
    k0_pay31 A g0 wa g1 y wb (ix2 r c)
      = Ideal.logistic (g0 (ix2 r c)) * (∑ k : Fin 512, A (ix2 r k) * wa (ix2 k c)) + Ideal.logistic (g1 (ix2 r c)) * (∑ k : Fin 512, y (ix2 r k) * wb (ix2 k c)) := by
  unfold k0_pay31
  pointwise

theorem pay32_apply (A : FVec Ideal S256x512 .bf16) (g0 : Vec Ideal S256x1024 .f32) (wa : Vec Ideal S512x1024 .bf16) (g1 : Vec Ideal S256x1024 .f32)
    (y : Vec Ideal S256x512 .bf16) (wb : Vec Ideal S512x1024 .bf16) (r : Fin 256) (c : Fin 1024) :
    k0_pay32 A g0 wa g1 y wb (ix2 r c)
      = Ideal.logistic (g0 (ix2 r c)) * (∑ k : Fin 512, A (ix2 r k) * wa (ix2 k c)) + Ideal.logistic (g1 (ix2 r c)) * (∑ k : Fin 512, y (ix2 r k) * wb (ix2 k c)) := by
  unfold k0_pay32
  pointwise

theorem pay33_apply (X : Vec Ideal S256x1024 .f32) (r : Fin 256) (c : Fin 1024) : k0_pay33 X (ix2 r c) = X (ix2 r c) := by
  unfold k0_pay33
  pointwise

theorem pay34_apply (M : FVec Ideal S256x1024 .bf16) (X : FVec Ideal S256x1024 .f32) (w : Vec Ideal S1024x1024 .bf16) (r : Fin 256) (c : Fin 1024) :
    k0_pay34 M X w (ix2 r c) = X (ix2 r c) + ∑ k : Fin 1024, M (ix2 r k) * w (ix2 k c) := by
  unfold k0_pay34
  pointwise

theorem pay35_apply (M : FVec Ideal S256x1024 .bf16) (X : Vec Ideal S256x1024 .f32) (w : Vec Ideal S1024x1024 .bf16) (r : Fin 256) (c : Fin 1024) :
    k0_pay35 M X w (ix2 r c) = X (ix2 r c) + ∑ k : Fin 1024, M (ix2 r k) * w (ix2 k c) := by
  unfold k0_pay35
  pointwise

theorem pay36_apply (M : FVec Ideal S256x1024 .bf16) (X : FVec Ideal S256x1024 .f32) (w : Vec Ideal S1024x1024 .bf16) (g : Vec Ideal S1x1024 .f32) (r : Fin 256) (c : Fin 1024) :
    k0_pay36 M X w g (ix2 r c) = norm (fun k => k0_pay34 M X w (ix2 r k)) (fun k => g (ix2 0 k)) c := by
  unfold k0_pay36 norm
  generalize k0_pay34 M X w = Y
  pointwise

theorem pay37_apply (M : FVec Ideal S256x1024 .bf16) (X : Vec Ideal S256x1024 .f32) (w : Vec Ideal S1024x1024 .bf16) (g : Vec Ideal S1x1024 .f32) (r : Fin 256) (c : Fin 1024) :
    k0_pay37 M X w g (ix2 r c) = norm (fun k => k0_pay35 M X w (ix2 r k)) (fun k => g (ix2 0 k)) c := by
  unfold k0_pay37 norm
  generalize k0_pay35 M X w = Y
  pointwise

theorem pay38_apply (w : Vec Ideal S1024x1536 .bf16) (k : Fin 1024) (f : Fin 1536) : k0_pay38 w (ix2 k f) = w (ix2 k f) := by
  unfold k0_pay38
  pointwise

theorem pay39_apply (X : FVec Ideal S256x1024 .f32) (H : FVec Ideal S256x1024 .bf16) (wg : FVec Ideal S1024x1536 .bf16) (wu : Vec Ideal S1024x1536 .bf16)
    (wd : Vec Ideal S1536x1024 .bf16) (r : Fin 256) (c : Fin 1024) :
    k0_pay39 X H wg wu wd (ix2 r c) = X (ix2 r c) + ∑ f : Fin 1536,
      ((∑ k : Fin 1024, H (ix2 r k) * wg (ix2 k f)) * Ideal.logistic (∑ k : Fin 1024, H (ix2 r k) * wg (ix2 k f)) * (∑ k : Fin 1024, H (ix2 r k) * wu (ix2 k f)))
        * wd (ix2 f c) := by
  unfold k0_pay39
  pointwise

theorem pay40_apply (X : FVec Ideal S256x1024 .f32) (H : FVec Ideal S256x1024 .bf16) (wg : Vec Ideal S1024x1536 .bf16) (wu : Vec Ideal S1024x1536 .bf16)
    (wd : Vec Ideal S1536x1024 .bf16) (r : Fin 256) (c : Fin 1024) :
    k0_pay40 X H wg wu wd (ix2 r c) = X (ix2 r c) + ∑ f : Fin 1536,
      ((∑ k : Fin 1024, H (ix2 r k) * wg (ix2 k f)) * Ideal.logistic (∑ k : Fin 1024, H (ix2 r k) * wg (ix2 k f)) * (∑ k : Fin 1024, H (ix2 r k) * wu (ix2 k f)))
        * wd (ix2 f c) := by
  unfold k0_pay40
  pointwise

theorem pay41_apply (H : FVec Ideal S256x1024 .bf16) (wg wu : Vec Ideal S1024x1280 .bf16) (r : Fin 256) (f : Fin 1280) :
    k0_pay41 H wg wu (ix2 r f)
      = (∑ k : Fin 1024, H (ix2 r k) * wg (ix2 k f)) * Ideal.logistic (∑ k : Fin 1024, H (ix2 r k) * wg (ix2 k f)) * (∑ k : Fin 1024, H (ix2 r k) * wu (ix2 k f)) := by
  unfold k0_pay41
  pointwise

theorem pay42_apply (X : FVec Ideal S256x1024 .f32) (A : FVec Ideal S256x1280 .bf16) (wd : Vec Ideal S1280x1024 .bf16) (r : Fin 256) (c : Fin 1024) :
    k0_pay42 X A wd (ix2 r c) = X (ix2 r c) + ∑ f : Fin 1280, A (ix2 r f) * wd (ix2 f c) := by
  unfold k0_pay42
  pointwise

theorem pay43_apply (H : FVec Ideal S256x1024 .bf16) (X : FVec Ideal S256x1024 .f32) (wg wu : Vec Ideal S1024x1280 .bf16)
    (wd : Vec Ideal S1280x1024 .bf16) (r : Fin 256) (c : Fin 1024) :
    k0_pay43 H X wg wu wd (ix2 r c) = X (ix2 r c) + ∑ f : Fin 1280,
      ((∑ k : Fin 1024, H (ix2 r k) * wg (ix2 k f)) * Ideal.logistic (∑ k : Fin 1024, H (ix2 r k) * wg (ix2 k f)) * (∑ k : Fin 1024, H (ix2 r k) * wu (ix2 k f)))
        * wd (ix2 f c) := by
  unfold k0_pay43
  pointwise

theorem pay44_apply (X : FVec Ideal S256x1024 .f32) (A : FVec Ideal S256x1280 .bf16) (wd : Vec Ideal S1280x1024 .bf16) (g : Vec Ideal S1x1024 .f32) (r : Fin 256) (c : Fin 1024) :
    k0_pay44 X A wd g (ix2 r c) = norm (fun k => k0_pay42 X A wd (ix2 r k)) (fun k => g (ix2 0 k)) c := by
  unfold k0_pay44 norm
  generalize k0_pay42 X A wd = Y
  pointwise

theorem pay45_apply (g : Vec Ideal S1x1024 .f32) (c : Fin 1024) : k0_pay45 g (ix2 0 c) = g (ix2 0 c) := by
  unfold k0_pay45
  pointwise

theorem pay46_apply (H : FVec Ideal S256x1024 .bf16) (X : FVec Ideal S256x1024 .f32) (wg wu : Vec Ideal S1024x1280 .bf16)
    (wd : Vec Ideal S1280x1024 .bf16) (r : Fin 256) :
    k0_pay46 H X wg wu wd (ix2 r 0) = Ideal.div (∑ k : Fin 1024, k0_pay43 H X wg wu wd (ix2 r k) * k0_pay43 H X wg wu wd (ix2 r k)) (Ideal.ofBits .f32 0x44800000#32) := by
  unfold k0_pay46
  generalize k0_pay43 H X wg wu wd = Y
  pointwise

theorem pay48_apply (X : FVec Ideal S256x1024 .f32) (g : FVec Ideal S1x1024 .f32) (s : FVec Ideal S256x1 .f32) (e : EReal) (w : Vec Ideal S1024x1024 .bf16)
    (r : Fin 256) (c : Fin 1024) :
    k0_pay48 X g s e w (ix2 r c) = Ideal.logistic (∑ k : Fin 1024, (X (ix2 r k) * Ideal.rsqrt (s (ix2 r 0) + e) * g (ix2 0 k)) * w (ix2 k c)) := by
  unfold k0_pay48
  pointwise

theorem pay47_apply (X : FVec Ideal S256x1024 .f32) (H : FVec Ideal S256x1024 .bf16) (w : Vec Ideal S1024x1024 .bf16) (p : Vec Ideal S256x256 .f32)
    (v : Vec Ideal S256x1024 .bf16) (g : Vec Ideal S1x1024 .f32) (r : Fin 256) (c : Fin 1024) :
    k0_pay47 X H w p v g (ix2 r c) = norm (fun c => X (ix2 r c) + Ideal.logistic (∑ k : Fin 1024, H (ix2 r k) * w (ix2 k c)) * (∑ k : Fin 256, p (ix2 r k) * v (ix2 k c)))
      (fun k => g (ix2 0 k)) c := by
  unfold k0_pay47 norm
  pointwise

theorem pay1_apply (X : FVec Ideal S256x1024 .f32) (L : FVec Ideal S256x1024 .f32) (p : Vec Ideal S256x256 .f32)
    (v : Vec Ideal S256x1024 .bf16) (g : Vec Ideal S1x1024 .f32) (r : Fin 256) (c : Fin 1024) :
    k0_pay1 X L p v g (ix2 r c) = norm (fun c => X (ix2 r c) + L (ix2 r c) * (∑ k : Fin 256, p (ix2 r k) * v (ix2 k c)))
      (fun k => g (ix2 0 k)) c := by
  unfold k0_pay1 norm
  pointwise

end Cert.Proof.P2

end
-- ==== Proof.P2.Chain.lean ====
module

public import proofs.«01_k».proof.Proof.P2.PoolW
public import proofs.«01_k».proof.Proof.P2.Pay

/-!
What the second call's body computes, step by step: each half of a tile's rows is the
row of `Row.lean` at the tile's inputs.
-/

@[expose] public section

set_option maxRecDepth 16384

noncomputable section

namespace Cert.Proof.P2

open Cert.Kernel2Ideal Cert.Kernel2Ideal.Gen Idealize.ShloMosaic Idealize.ShloMosaic.TcCoe

/-- The number of terms of the window of a column, as a word. -/
def wof (g : Fin 4) : BitVec 32 := ![2#32, 4#32, 8#32, 16#32] g

/-- The sum over the window of a column. -/
def wsum (g : Fin 4) : (ℕ → EReal) → ℕ → EReal := ![w2, w4, w8, w16] g

/-- The pooled value of a row of a tile at a column. -/
def plv (i : grid0.Coords) (x0 : Vec Ideal S512x512 .f32) (x1 : Vec Ideal S16x512 .f32) (r k : Fin 512) : EReal :=
  Ideal.div (wsum ⟨k.val / 128, by omega⟩ (ubv i x0 x1 k) (24 + r.val))
    (cnt (BitVec.ofNat 32 (512 * (i 0).val % 8192)) (BitVec.ofNat 32 r.val) (wof ⟨k.val / 128, by omega⟩)) - x0 (ix2 r k)

/-- The weights of the call, of the blocks that a grid point finds. -/
def wts (x6 : Vec Ideal S4x128x128 .bf16) (x7 : Vec Ideal S1x512 .f32) (x8 x9 : Vec Ideal S512x1024 .bf16) (x10 : Vec Ideal S1024x1024 .bf16) (x11 : Vec Ideal S1x1024 .f32)
    (x12 x13 : Vec Ideal S1024x2816 .bf16) (x14 : Vec Ideal S2816x1024 .bf16) (x15 : Vec Ideal S1x1024 .f32) (x16 : Vec Ideal S1024x1024 .bf16) (x17 : Vec Ideal S256x1024 .bf16)
    (x18 : Vec Ideal S1x1024 .f32) : Wts where
  pool g j l := x6 (ix3 g j l)
  scale k := x7 (ix2 0 k)
  a k c := x8 (ix2 k c)
  b k c := x9 (ix2 k c)
  out k c := x10 (ix2 k c)
  nffn k := x11 (ix2 0 k)
  gate k f := x12 (ix2 k f)
  up k f := x13 (ix2 k f)
  down f c := x14 (ix2 f c)
  nple k := x15 (ix2 0 k)
  pgate k c := x16 (ix2 k c)
  pproj k c := x17 (ix2 k c)
  nfin k := x18 (ix2 0 k)

/-- The inputs of a row of a tile. -/
def inp (i : grid0.Coords) (x0 : Vec Ideal S512x512 .f32) (x1 : Vec Ideal S16x512 .f32) (x2 : Vec Ideal S512x512 .bf16) (x3 : Vec Ideal S512x2048 .f32) (x4 : Vec Ideal S512x1024 .f32)
    (x5 : Vec Ideal S512x256 .f32) (r : Fin 512) : Row where
  pl k := plv i x0 x1 r k
  yb k := x2 (ix2 r k)
  g c := x3 (ix2 r c)
  x c := x4 (ix2 r c)
  p k := x5 (ix2 r k)

section
variable (c : Dev nD) (i : grid0.Coords)
  (arg1 : Memref sig .tc .vmem S512x512 .f32) (harg1 : arg1.IsWhole)
  (arg2 : Memref sig .tc .vmem S16x512 .f32) (harg2 : arg2.IsWhole)
  (arg3 : Memref sig .tc .vmem S512x512 .bf16) (harg3 : arg3.IsWhole)
  (arg4 : Memref sig .tc .vmem S512x2048 .f32) (harg4 : arg4.IsWhole)
  (arg5 : Memref sig .tc .vmem S512x1024 .f32) (harg5 : arg5.IsWhole)
  (arg6 : Memref sig .tc .vmem S512x256 .f32) (harg6 : arg6.IsWhole)
  (arg7 : Memref sig .tc .vmem S4x128x128 .bf16) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S1024x2816 .bf16) (harg13 : arg13.IsWhole)
  (arg14 : Memref sig .tc .vmem S1024x2816 .bf16) (harg14 : arg14.IsWhole)
  (arg15 : Memref sig .tc .vmem S2816x1024 .bf16) (harg15 : arg15.IsWhole)
  (arg16 : Memref sig .tc .vmem S1x1024 .f32) (harg16 : arg16.IsWhole)
  (arg17 : Memref sig .tc .vmem S1024x1024 .bf16) (harg17 : arg17.IsWhole)
  (arg18 : Memref sig .tc .vmem S256x1024 .bf16) (harg18 : arg18.IsWhole)
  (arg19 : Memref sig .tc .vmem S1x1024 .f32) (harg19 : arg19.IsWhole)
  (arg20 : Memref sig .tc .vmem S512x1024 .f32) (harg20 : arg20.IsWhole)
  (arg21 : Memref sig .tc .vmem S536x512 .f32)
  (arg22 : Memref sig .tc .vmem S2x536x128 .f32)
  (x0 : Vec Ideal S512x512 .f32)
  (x1 : Vec Ideal S16x512 .f32)
  (x2 : Vec Ideal S512x512 .bf16)
  (x3 : Vec Ideal S512x2048 .f32)
  (x4 : Vec Ideal S512x1024 .f32)
  (x5 : Vec Ideal S512x256 .f32)
  (x6 : Vec Ideal S4x128x128 .bf16)
  (x7 : Vec Ideal S1x512 .f32)
  (x8 : Vec Ideal S512x1024 .bf16)
  (x9 : Vec Ideal S512x1024 .bf16)
  (x10 : Vec Ideal S1024x1024 .bf16)
  (x11 : Vec Ideal S1x1024 .f32)
  (x12 : Vec Ideal S1024x2816 .bf16)
  (x13 : Vec Ideal S1024x2816 .bf16)
  (x14 : Vec Ideal S2816x1024 .bf16)
  (x15 : Vec Ideal S1x1024 .f32)
  (x16 : Vec Ideal S1024x1024 .bf16)
  (x17 : Vec Ideal S256x1024 .bf16)
  (x18 : Vec Ideal S1x1024 .f32)

theorem pooled (g : Fin 4) (r : Fin 512) (l : Fin 128) :
    (![kernelRun0_A.sl.r_2 (F := Ideal) c i arg1 harg1 arg2 harg2 arg21 x0 x1, kernelRun0_A.sl.r_3 (F := Ideal) c i arg1 harg1 arg2 harg2 arg21 arg22 x0 x1, kernelRun0_A.sl.r_5 (F := Ideal) c i arg1 harg1 arg2 harg2 arg21 arg22 x0 x1, kernelRun0_A.sl.r_8 (F := Ideal) c i arg1 harg1 arg2 harg2 arg21 arg22 x0 x1] g) (ix2 r l) = plv i x0 x1 r ⟨128 * g.val + l.val, by omega⟩ := by
  unfold plv wsum wof
  fin_cases g
  · refine (r_2_apply c i arg1 harg1 arg2 harg2 arg21 x0 x1 r l).trans ?_
    have e2 : (⟨128 * (0 : Fin 4).val + l.val, by have : (0 : Fin 4).val = 0 := rfl; omega⟩ : Fin 512) = ⟨l.val, by omega⟩ := by apply Fin.ext; first | rfl | (show 128 * 0 + l.val = _; dsimp only; omega)
    show _ = Ideal.div (![w2, w4, w8, w16] ⟨(128 * (0 : Fin 4).val + l.val) / 128, _⟩ (ubv i x0 x1 ⟨128 * (0 : Fin 4).val + l.val, _⟩) (24 + r.val)) (cnt _ _ (![2#32, 4#32, 8#32, 16#32] ⟨(128 * (0 : Fin 4).val + l.val) / 128, _⟩)) - x0 (ix2 r ⟨128 * (0 : Fin 4).val + l.val, _⟩)
    rw [e2]
    have e3 : (⟨(128 * (0 : Fin 4).val + l.val) / 128, by have : (0 : Fin 4).val = 0 := rfl; omega⟩ : Fin 4) = 0 := by apply Fin.ext; show (128 * 0 + l.val) / 128 = 0; omega
    rw [e3]
    rfl
  · refine (r_3_apply c i arg1 harg1 arg2 harg2 arg21 arg22 x0 x1 r l).trans ?_
    have e2 : (⟨128 * (1 : Fin 4).val + l.val, by have : (1 : Fin 4).val = 1 := rfl; omega⟩ : Fin 512) = ⟨128 + l.val, by omega⟩ := by apply Fin.ext; first | rfl | (show 128 * 1 + l.val = _; dsimp only; omega)
    show _ = Ideal.div (![w2, w4, w8, w16] ⟨(128 * (1 : Fin 4).val + l.val) / 128, _⟩ (ubv i x0 x1 ⟨128 * (1 : Fin 4).val + l.val, _⟩) (24 + r.val)) (cnt _ _ (![2#32, 4#32, 8#32, 16#32] ⟨(128 * (1 : Fin 4).val + l.val) / 128, _⟩)) - x0 (ix2 r ⟨128 * (1 : Fin 4).val + l.val, _⟩)
    rw [e2]
    have e3 : (⟨(128 * (1 : Fin 4).val + l.val) / 128, by have : (1 : Fin 4).val = 1 := rfl; omega⟩ : Fin 4) = 1 := by apply Fin.ext; show (128 * 1 + l.val) / 128 = 1; omega
    rw [e3]
    rfl
  · refine (r_5_apply c i arg1 harg1 arg2 harg2 arg21 arg22 x0 x1 r l).trans ?_
    have e2 : (⟨128 * (2 : Fin 4).val + l.val, by have : (2 : Fin 4).val = 2 := rfl; omega⟩ : Fin 512) = ⟨256 + l.val, by omega⟩ := by apply Fin.ext; first | rfl | (show 128 * 2 + l.val = _; dsimp only; omega)
    show _ = Ideal.div (![w2, w4, w8, w16] ⟨(128 * (2 : Fin 4).val + l.val) / 128, _⟩ (ubv i x0 x1 ⟨128 * (2 : Fin 4).val + l.val, _⟩) (24 + r.val)) (cnt _ _ (![2#32, 4#32, 8#32, 16#32] ⟨(128 * (2 : Fin 4).val + l.val) / 128, _⟩)) - x0 (ix2 r ⟨128 * (2 : Fin 4).val + l.val, _⟩)
    rw [e2]
    have e3 : (⟨(128 * (2 : Fin 4).val + l.val) / 128, by have : (2 : Fin 4).val = 2 := rfl; omega⟩ : Fin 4) = 2 := by apply Fin.ext; show (128 * 2 + l.val) / 128 = 2; omega
    rw [e3]
    rfl
  · refine (r_8_apply c i arg1 harg1 arg2 harg2 arg21 arg22 x0 x1 r l).trans ?_
    have e2 : (⟨128 * (3 : Fin 4).val + l.val, by have : (3 : Fin 4).val = 3 := rfl; omega⟩ : Fin 512) = ⟨384 + l.val, by omega⟩ := by apply Fin.ext; first | rfl | (show 128 * 3 + l.val = _; dsimp only; omega)
    show _ = Ideal.div (![w2, w4, w8, w16] ⟨(128 * (3 : Fin 4).val + l.val) / 128, _⟩ (ubv i x0 x1 ⟨128 * (3 : Fin 4).val + l.val, _⟩) (24 + r.val)) (cnt _ _ (![2#32, 4#32, 8#32, 16#32] ⟨(128 * (3 : Fin 4).val + l.val) / 128, _⟩)) - x0 (ix2 r ⟨128 * (3 : Fin 4).val + l.val, _⟩)
    rw [e2]
    have e3 : (⟨(128 * (3 : Fin 4).val + l.val) / 128, by have : (3 : Fin 4).val = 3 := rfl; omega⟩ : Fin 4) = 3 := by apply Fin.ext; show (128 * 3 + l.val) / 128 = 3; omega
    rw [e3]
    rfl

theorem r_12_apply (r : Fin 256) (k : Fin 512) : kernelRun0_A.sl.r_12 (F := Ideal) c i arg1 harg1 arg2 harg2 arg7 harg7 arg8 harg8 arg21 arg22 x0 x1 x6 x7 (ix2 r k) = ya (wts x6 x7 x8 x9 x10 x11 x12 x13 x14 x15 x16 x17 x18) (inp i x0 x1 x2 x3 x4 x5 ⟨r.val, by omega⟩) k := by
  have ek : k = ⟨128 * (k.val / 128) + k.val % 128, by omega⟩ := Fin.ext (by dsimp only; omega)
  refine (congrArg (fun z => kernelRun0_A.sl.r_12 (F := Ideal) c i arg1 harg1 arg2 harg2 arg7 harg7 arg8 harg8 arg21 arg22 x0 x1 x6 x7 (ix2 r z)) ek).trans ?_
  unfold kernelRun0_A.sl.r_12 kernelRun0_A.sl.r_9 kernelRun0_A.sl.r_10 kernelRun0_A.sl.r_11
  refine (pay29_apply _ _ _ _ _ _ _ _ _ r ⟨k.val / 128, by omega⟩ ⟨k.val % 128, by omega⟩).trans ?_
  unfold ya
  refine congrArg₂ (· * ·) (Finset.sum_congr rfl fun j _ => congrArg₂ (· * ·) ?_ ?_) ?_
  · exact pooled c i arg1 harg1 arg2 harg2 arg21 arg22 x0 x1 ⟨k.val / 128, by omega⟩ ⟨r.val, by omega⟩ j
  · generalize (⟨k.val / 128, by omega⟩ : Fin 4) = g
    fin_cases g
    all_goals exact (read3 arg7 harg7 x6 _ 0 j _ (by decide) (by omega) (by omega)).trans (by simp only [Nat.zero_add, Fin.eta]; rfl)
  · refine (read2 arg8 harg8 x7 _ 0 _ (by decide) (by dsimp only; omega)).trans ?_
    simp only [Nat.zero_add]
    rw [← ek]
    rfl

theorem r_13_apply (r : Fin 256) (k : Fin 512) : kernelRun0_A.sl.r_13 (F := Ideal) c i arg1 harg1 arg2 harg2 arg7 harg7 arg8 harg8 arg21 arg22 x0 x1 x6 x7 (ix2 r k) = ya (wts x6 x7 x8 x9 x10 x11 x12 x13 x14 x15 x16 x17 x18) (inp i x0 x1 x2 x3 x4 x5 ⟨256 + r.val, by omega⟩) k := by
  have ek : k = ⟨128 * (k.val / 128) + k.val % 128, by omega⟩ := Fin.ext (by dsimp only; omega)
  refine (congrArg (fun z => kernelRun0_A.sl.r_13 (F := Ideal) c i arg1 harg1 arg2 harg2 arg7 harg7 arg8 harg8 arg21 arg22 x0 x1 x6 x7 (ix2 r z)) ek).trans ?_
  unfold kernelRun0_A.sl.r_13
  refine (pay30_apply _ _ _ _ _ _ _ _ _ r ⟨k.val / 128, by omega⟩ ⟨k.val % 128, by omega⟩).trans ?_
  unfold ya
  refine congrArg₂ (· * ·) (Finset.sum_congr rfl fun j _ => congrArg₂ (· * ·) ?_ ?_) ?_
  · exact pooled c i arg1 harg1 arg2 harg2 arg21 arg22 x0 x1 ⟨k.val / 128, by omega⟩ ⟨256 + r.val, by omega⟩ j
  · generalize (⟨k.val / 128, by omega⟩ : Fin 4) = g
    fin_cases g
    all_goals exact (read3 arg7 harg7 x6 _ 0 j _ (by decide) (by omega) (by omega)).trans (by simp only [Nat.zero_add, Fin.eta]; rfl)
  · refine (read2 arg8 harg8 x7 _ 0 _ (by decide) (by dsimp only; omega)).trans ?_
    simp only [Nat.zero_add]
    rw [← ek]
    rfl

theorem r_14_apply (r : Fin 256) (c' : Fin 1024) : kernelRun0_A.sl.r_14 (F := Ideal) c i arg1 harg1 arg2 harg2 arg3 harg3 arg4 harg4 arg7 harg7 arg8 harg8 arg9 harg9 arg10 harg10 arg21 arg22 x0 x1 x2 x3 x6 x7 x8 x9 (ix2 r c') = mg (wts x6 x7 x8 x9 x10 x11 x12 x13 x14 x15 x16 x17 x18) (inp i x0 x1 x2 x3 x4 x5 ⟨r.val, by omega⟩) c' := by
  unfold kernelRun0_A.sl.r_14 mg
  rw [pay31_apply, read2 arg4 harg4 x3 _ r c' (by omega) (by omega), read2 arg4 harg4 x3 _ r c' (by omega) (by omega)]
  refine congrArg₂ (· + ·) (congrArg₂ (· * ·) (congrArg _ ?_) (Finset.sum_congr rfl fun k _ => congrArg₂ (· * ·) ?_ ?_)) (congrArg₂ (· * ·) (congrArg _ ?_) (Finset.sum_congr rfl fun k _ => congrArg₂ (· * ·) ?_ ?_))
  · first | rfl | (simp only [Nat.zero_add]; rfl)
  · exact r_12_apply c i arg1 harg1 arg2 harg2 arg7 harg7 arg8 harg8 arg21 arg22 x0 x1 x2 x3 x4 x5 x6 x7 x8 x9 x10 x11 x12 x13 x14 x15 x16 x17 x18 r k
  · rw [read2 arg9 harg9 x8 _ k c' (by omega) (by omega)]; simp only [Nat.zero_add, Fin.eta]; rfl
  · first | rfl | (simp only [Nat.zero_add]; rfl)
  · rw [read2 arg3 harg3 x2 _ r k (by omega) (by omega)]; simp only [Nat.zero_add, Fin.eta]; rfl
  · rw [read2 arg10 harg10 x9 _ k c' (by omega) (by omega)]; simp only [Nat.zero_add, Fin.eta]; rfl

theorem r_17_apply (r : Fin 256) (c' : Fin 1024) : kernelRun0_A.sl.r_17 (F := Ideal) c i arg1 harg1 arg2 harg2 arg3 harg3 arg4 harg4 arg5 harg5 arg7 harg7 arg8 harg8 arg9 harg9 arg10 harg10 arg11 harg11 arg21 arg22 x0 x1 x2 x3 x4 x6 x7 x8 x9 x10 (ix2 r c') = y1 (wts x6 x7 x8 x9 x10 x11 x12 x13 x14 x15 x16 x17 x18) (inp i x0 x1 x2 x3 x4 x5 ⟨r.val, by omega⟩) c' := by
  unfold kernelRun0_A.sl.r_17 kernelRun0_A.sl.r_16 y1
  rw [pay34_apply, pay33_apply, read2 arg5 harg5 x4 _ r c' (by omega) (by omega)]
  refine congrArg₂ (· + ·) ?_ (Finset.sum_congr rfl fun k _ => congrArg₂ (· * ·) ?_ ?_)
  · simp only [Nat.zero_add, Fin.eta]; rfl
  · exact r_14_apply c i arg1 harg1 arg2 harg2 arg3 harg3 arg4 harg4 arg7 harg7 arg8 harg8 arg9 harg9 arg10 harg10 arg21 arg22 x0 x1 x2 x3 x4 x5 x6 x7 x8 x9 x10 x11 x12 x13 x14 x15 x16 x17 x18 r k
  · rw [read2 arg11 harg11 x10 _ k c' (by omega) (by omega)]; simp only [Nat.zero_add, Fin.eta]; rfl

theorem r_19_apply (r : Fin 256) (c' : Fin 1024) : kernelRun0_A.sl.r_19 (F := Ideal) c i arg1 harg1 arg2 harg2 arg3 harg3 arg4 harg4 arg5 harg5 arg7 harg7 arg8 harg8 arg9 harg9 arg10 harg10 arg11 harg11 arg12 harg12 arg21 arg22 x0 x1 x2 x3 x4 x6 x7 x8 x9 x10 x11 (ix2 r c') = h1 (wts x6 x7 x8 x9 x10 x11 x12 x13 x14 x15 x16 x17 x18) (inp i x0 x1 x2 x3 x4 x5 ⟨r.val, by omega⟩) c' := by
  unfold kernelRun0_A.sl.r_19 h1
  rw [pay36_apply]
  refine congrFun (congrArg₂ norm (funext fun k => ?_) (funext fun k => ?_)) c'
  · exact r_17_apply c i arg1 harg1 arg2 harg2 arg3 harg3 arg4 harg4 arg5 harg5 arg7 harg7 arg8 harg8 arg9 harg9 arg10 harg10 arg11 harg11 arg21 arg22 x0 x1 x2 x3 x4 x5 x6 x7 x8 x9 x10 x11 x12 x13 x14 x15 x16 x17 x18 r k
  · rw [read2 arg12 harg12 x11 _ 0 k (by decide) (by omega)]; simp only [Nat.zero_add, Fin.eta]; rfl

theorem r_22_apply (r : Fin 256) (c' : Fin 1024) : kernelRun0_A.sl.r_22 (F := Ideal) c i arg1 harg1 arg2 harg2 arg3 harg3 arg4 harg4 arg5 harg5 arg7 harg7 arg8 harg8 arg9 harg9 arg10 harg10 arg11 harg11 arg12 harg12 arg13 harg13 arg14 harg14 arg15 harg15 arg21 arg22 x0 x1 x2 x3 x4 x6 x7 x8 x9 x10 x11 x12 x13 x14 (ix2 r c')
    = y1 (wts x6 x7 x8 x9 x10 x11 x12 x13 x14 x15 x16 x17 x18) (inp i x0 x1 x2 x3 x4 x5 ⟨r.val, by omega⟩) c' + ∑ f : Fin 1536, act (wts x6 x7 x8 x9 x10 x11 x12 x13 x14 x15 x16 x17 x18) (h1 (wts x6 x7 x8 x9 x10 x11 x12 x13 x14 x15 x16 x17 x18) (inp i x0 x1 x2 x3 x4 x5 ⟨r.val, by omega⟩)) ⟨f.val, by omega⟩ * (wts x6 x7 x8 x9 x10 x11 x12 x13 x14 x15 x16 x17 x18).down ⟨f.val, by omega⟩ c' := by
  have eg : ∀ f, ∑ k : Fin 1024, kernelRun0_A.sl.r_19 (F := Ideal) c i arg1 harg1 arg2 harg2 arg3 harg3 arg4 harg4 arg5 harg5 arg7 harg7 arg8 harg8 arg9 harg9 arg10 harg10 arg11 harg11 arg12 harg12 arg21 arg22 x0 x1 x2 x3 x4 x6 x7 x8 x9 x10 x11 (ix2 r k) * (k0_pay38 (View.readAt (Elt Ideal) arg13.view (Rect.unit (s := S1024x2816) ![0, 0] S1024x1536.size inb_S1024x2816_S1024x1536_0_0).toLoadRect (harg13.unread x12))) (ix2 k f) = ∑ k, h1 (wts x6 x7 x8 x9 x10 x11 x12 x13 x14 x15 x16 x17 x18) (inp i x0 x1 x2 x3 x4 x5 ⟨r.val, by omega⟩) k * (wts x6 x7 x8 x9 x10 x11 x12 x13 x14 x15 x16 x17 x18).gate k ⟨f.val, by omega⟩ := fun f => Finset.sum_congr rfl fun k _ => by
    rw [r_19_apply c i arg1 harg1 arg2 harg2 arg3 harg3 arg4 harg4 arg5 harg5 arg7 harg7 arg8 harg8 arg9 harg9 arg10 harg10 arg11 harg11 arg12 harg12 arg21 arg22 x0 x1 x2 x3 x4 x5 x6 x7 x8 x9 x10 x11 x12 x13 x14 x15 x16 x17 x18 r k, pay38_apply, read2 arg13 harg13 x12 _ k f (by omega) (by omega)]
    simp only [Nat.zero_add, Fin.eta]
    rfl
  have eu : ∀ f, ∑ k : Fin 1024, kernelRun0_A.sl.r_19 (F := Ideal) c i arg1 harg1 arg2 harg2 arg3 harg3 arg4 harg4 arg5 harg5 arg7 harg7 arg8 harg8 arg9 harg9 arg10 harg10 arg11 harg11 arg12 harg12 arg21 arg22 x0 x1 x2 x3 x4 x6 x7 x8 x9 x10 x11 (ix2 r k) * (View.readAt (Elt Ideal) arg14.view (Rect.unit (s := S1024x2816) ![0, 0] S1024x1536.size inb_S1024x2816_S1024x1536_0_0).toLoadRect (harg14.unread x13)) (ix2 k f) = ∑ k, h1 (wts x6 x7 x8 x9 x10 x11 x12 x13 x14 x15 x16 x17 x18) (inp i x0 x1 x2 x3 x4 x5 ⟨r.val, by omega⟩) k * (wts x6 x7 x8 x9 x10 x11 x12 x13 x14 x15 x16 x17 x18).up k ⟨f.val, by omega⟩ := fun f => Finset.sum_congr rfl fun k _ => by
    rw [r_19_apply c i arg1 harg1 arg2 harg2 arg3 harg3 arg4 harg4 arg5 harg5 arg7 harg7 arg8 harg8 arg9 harg9 arg10 harg10 arg11 harg11 arg12 harg12 arg21 arg22 x0 x1 x2 x3 x4 x5 x6 x7 x8 x9 x10 x11 x12 x13 x14 x15 x16 x17 x18 r k, read2 arg14 harg14 x13 _ k f (by omega) (by omega)]
    simp only [Nat.zero_add, Fin.eta]
    rfl
  unfold kernelRun0_A.sl.r_22 kernelRun0_A.sl.r_21 act
  rw [pay39_apply]
  refine congrArg₂ (· + ·) (r_17_apply c i arg1 harg1 arg2 harg2 arg3 harg3 arg4 harg4 arg5 harg5 arg7 harg7 arg8 harg8 arg9 harg9 arg10 harg10 arg11 harg11 arg21 arg22 x0 x1 x2 x3 x4 x5 x6 x7 x8 x9 x10 x11 x12 x13 x14 x15 x16 x17 x18 r c') (Finset.sum_congr rfl fun f _ => congrArg₂ (· * ·) ?_ ?_)
  · rw [eg f, eu f]
  · rw [read2 arg15 harg15 x14 _ f c' (by omega) (by omega)]; simp only [Nat.zero_add, Fin.eta]; rfl

theorem r_24_apply (r : Fin 256) (f : Fin 1280) : kernelRun0_A.sl.r_24 (F := Ideal) c i arg1 harg1 arg2 harg2 arg3 harg3 arg4 harg4 arg5 harg5 arg7 harg7 arg8 harg8 arg9 harg9 arg10 harg10 arg11 harg11 arg12 harg12 arg13 harg13 arg14 harg14 arg21 arg22 x0 x1 x2 x3 x4 x6 x7 x8 x9 x10 x11 x12 x13 (ix2 r f) = act (wts x6 x7 x8 x9 x10 x11 x12 x13 x14 x15 x16 x17 x18) (h1 (wts x6 x7 x8 x9 x10 x11 x12 x13 x14 x15 x16 x17 x18) (inp i x0 x1 x2 x3 x4 x5 ⟨r.val, by omega⟩)) ⟨1536 + f.val, by omega⟩ := by
  have eg : ∀ f, ∑ k : Fin 1024, kernelRun0_A.sl.r_19 (F := Ideal) c i arg1 harg1 arg2 harg2 arg3 harg3 arg4 harg4 arg5 harg5 arg7 harg7 arg8 harg8 arg9 harg9 arg10 harg10 arg11 harg11 arg12 harg12 arg21 arg22 x0 x1 x2 x3 x4 x6 x7 x8 x9 x10 x11 (ix2 r k) * (View.readAt (Elt Ideal) arg13.view (Rect.unit (s := S1024x2816) ![0, 1536] S1024x1280.size inb_S1024x2816_S1024x1280_0_1536).toLoadRect (harg13.unread x12)) (ix2 k f) = ∑ k, h1 (wts x6 x7 x8 x9 x10 x11 x12 x13 x14 x15 x16 x17 x18) (inp i x0 x1 x2 x3 x4 x5 ⟨r.val, by omega⟩) k * (wts x6 x7 x8 x9 x10 x11 x12 x13 x14 x15 x16 x17 x18).gate k ⟨1536 + f.val, by omega⟩ := fun f => Finset.sum_congr rfl fun k _ => by
    rw [r_19_apply c i arg1 harg1 arg2 harg2 arg3 harg3 arg4 harg4 arg5 harg5 arg7 harg7 arg8 harg8 arg9 harg9 arg10 harg10 arg11 harg11 arg12 harg12 arg21 arg22 x0 x1 x2 x3 x4 x5 x6 x7 x8 x9 x10 x11 x12 x13 x14 x15 x16 x17 x18 r k, read2 arg13 harg13 x12 _ k f (by omega) (by omega)]
    simp only [Nat.zero_add, Fin.eta]
    rfl
  have eu : ∀ f, ∑ k : Fin 1024, kernelRun0_A.sl.r_19 (F := Ideal) c i arg1 harg1 arg2 harg2 arg3 harg3 arg4 harg4 arg5 harg5 arg7 harg7 arg8 harg8 arg9 harg9 arg10 harg10 arg11 harg11 arg12 harg12 arg21 arg22 x0 x1 x2 x3 x4 x6 x7 x8 x9 x10 x11 (ix2 r k) * (View.readAt (Elt Ideal) arg14.view (Rect.unit (s := S1024x2816) ![0, 1536] S1024x1280.size inb_S1024x2816_S1024x1280_0_1536).toLoadRect (harg14.unread x13)) (ix2 k f) = ∑ k, h1 (wts x6 x7 x8 x9 x10 x11 x12 x13 x14 x15 x16 x17 x18) (inp i x0 x1 x2 x3 x4 x5 ⟨r.val, by omega⟩) k * (wts x6 x7 x8 x9 x10 x11 x12 x13 x14 x15 x16 x17 x18).up k ⟨1536 + f.val, by omega⟩ := fun f => Finset.sum_congr rfl fun k _ => by
    rw [r_19_apply c i arg1 harg1 arg2 harg2 arg3 harg3 arg4 harg4 arg5 harg5 arg7 harg7 arg8 harg8 arg9 harg9 arg10 harg10 arg11 harg11 arg12 harg12 arg21 arg22 x0 x1 x2 x3 x4 x5 x6 x7 x8 x9 x10 x11 x12 x13 x14 x15 x16 x17 x18 r k, read2 arg14 harg14 x13 _ k f (by omega) (by omega)]
    simp only [Nat.zero_add, Fin.eta]
    rfl
  unfold kernelRun0_A.sl.r_24 act
  rw [pay41_apply, eg f, eu f]

theorem r_25_apply (r : Fin 256) (c' : Fin 1024) : kernelRun0_A.sl.r_25 (F := Ideal) c i arg1 harg1 arg2 harg2 arg3 harg3 arg4 harg4 arg5 harg5 arg7 harg7 arg8 harg8 arg9 harg9 arg10 harg10 arg11 harg11 arg12 harg12 arg13 harg13 arg14 harg14 arg15 harg15 arg21 arg22 x0 x1 x2 x3 x4 x6 x7 x8 x9 x10 x11 x12 x13 x14 (ix2 r c') = y2 (wts x6 x7 x8 x9 x10 x11 x12 x13 x14 x15 x16 x17 x18) (inp i x0 x1 x2 x3 x4 x5 ⟨r.val, by omega⟩) c' := by
  unfold kernelRun0_A.sl.r_25
  rw [pay42_apply, ← y2_parts]
  refine congrArg₂ (· + ·) (r_22_apply c i arg1 harg1 arg2 harg2 arg3 harg3 arg4 harg4 arg5 harg5 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14 x15 x16 x17 x18 r c') (Finset.sum_congr rfl fun f _ => congrArg₂ (· * ·) (r_24_apply c i arg1 harg1 arg2 harg2 arg3 harg3 arg4 harg4 arg5 harg5 arg7 harg7 arg8 harg8 arg9 harg9 arg10 harg10 arg11 harg11 arg12 harg12 arg13 harg13 arg14 harg14 arg21 arg22 x0 x1 x2 x3 x4 x5 x6 x7 x8 x9 x10 x11 x12 x13 x14 x15 x16 x17 x18 r f) ?_)
  rw [read2 arg15 harg15 x14 _ f c' (by omega) (by omega)]; simp only [Nat.zero_add, Fin.eta]; rfl

theorem r_27_apply (r : Fin 256) (c' : Fin 1024) : kernelRun0_A.sl.r_27 (F := Ideal) c i arg1 harg1 arg2 harg2 arg3 harg3 arg4 harg4 arg5 harg5 arg7 harg7 arg8 harg8 arg9 harg9 arg10 harg10 arg11 harg11 arg12 harg12 arg13 harg13 arg14 harg14 arg15 harg15 arg16 harg16 arg21 arg22 x0 x1 x2 x3 x4 x6 x7 x8 x9 x10 x11 x12 x13 x14 x15 (ix2 r c') = norm (y2 (wts x6 x7 x8 x9 x10 x11 x12 x13 x14 x15 x16 x17 x18) (inp i x0 x1 x2 x3 x4 x5 ⟨r.val, by omega⟩)) (wts x6 x7 x8 x9 x10 x11 x12 x13 x14 x15 x16 x17 x18).nple c' := by
  unfold kernelRun0_A.sl.r_27
  rw [pay44_apply]
  refine congrFun (congrArg₂ norm (funext fun k => ?_) (funext fun k => ?_)) c'
  · exact r_25_apply c i arg1 harg1 arg2 harg2 arg3 harg3 arg4 harg4 arg5 harg5 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14 x15 x16 x17 x18 r k
  · rw [read2 arg16 harg16 x15 _ 0 k (by decide) (by omega)]; simp only [Nat.zero_add, Fin.eta]; rfl

theorem r_15_apply (r : Fin 256) (c' : Fin 1024) : kernelRun0_A.sl.r_15 (F := Ideal) c i arg1 harg1 arg2 harg2 arg3 harg3 arg4 harg4 arg7 harg7 arg8 harg8 arg9 harg9 arg10 harg10 arg21 arg22 x0 x1 x2 x3 x6 x7 x8 x9 (ix2 r c') = mg (wts x6 x7 x8 x9 x10 x11 x12 x13 x14 x15 x16 x17 x18) (inp i x0 x1 x2 x3 x4 x5 ⟨256 + r.val, by omega⟩) c' := by
  unfold kernelRun0_A.sl.r_15 mg
  rw [pay32_apply, read2 arg4 harg4 x3 _ r c' (by omega) (by omega), read2 arg4 harg4 x3 _ r c' (by omega) (by omega)]
  refine congrArg₂ (· + ·) (congrArg₂ (· * ·) (congrArg _ ?_) (Finset.sum_congr rfl fun k _ => congrArg₂ (· * ·) ?_ ?_)) (congrArg₂ (· * ·) (congrArg _ ?_) (Finset.sum_congr rfl fun k _ => congrArg₂ (· * ·) ?_ ?_))
  · first | rfl | (simp only [Nat.zero_add]; rfl)
  · exact r_13_apply c i arg1 harg1 arg2 harg2 arg7 harg7 arg8 harg8 arg21 arg22 x0 x1 x2 x3 x4 x5 x6 x7 x8 x9 x10 x11 x12 x13 x14 x15 x16 x17 x18 r k
  · rw [read2 arg9 harg9 x8 _ k c' (by omega) (by omega)]; simp only [Nat.zero_add, Fin.eta]; rfl
  · first | rfl | (simp only [Nat.zero_add]; rfl)
  · rw [read2 arg3 harg3 x2 _ r k (by omega) (by omega)]; simp only [Nat.zero_add, Fin.eta]; rfl
  · rw [read2 arg10 harg10 x9 _ k c' (by omega) (by omega)]; simp only [Nat.zero_add, Fin.eta]; rfl

theorem r_18_apply (r : Fin 256) (c' : Fin 1024) : kernelRun0_A.sl.r_18 (F := Ideal) c i arg1 harg1 arg2 harg2 arg3 harg3 arg4 harg4 arg5 harg5 arg7 harg7 arg8 harg8 arg9 harg9 arg10 harg10 arg11 harg11 arg21 arg22 x0 x1 x2 x3 x4 x6 x7 x8 x9 x10 (ix2 r c') = y1 (wts x6 x7 x8 x9 x10 x11 x12 x13 x14 x15 x16 x17 x18) (inp i x0 x1 x2 x3 x4 x5 ⟨256 + r.val, by omega⟩) c' := by
  unfold kernelRun0_A.sl.r_18 y1
  rw [pay35_apply, read2 arg5 harg5 x4 _ r c' (by omega) (by omega)]
  refine congrArg₂ (· + ·) ?_ (Finset.sum_congr rfl fun k _ => congrArg₂ (· * ·) ?_ ?_)
  · simp only [Nat.zero_add, Fin.eta]; rfl
  · exact r_15_apply c i arg1 harg1 arg2 harg2 arg3 harg3 arg4 harg4 arg7 harg7 arg8 harg8 arg9 harg9 arg10 harg10 arg21 arg22 x0 x1 x2 x3 x4 x5 x6 x7 x8 x9 x10 x11 x12 x13 x14 x15 x16 x17 x18 r k
  · rw [read2 arg11 harg11 x10 _ k c' (by omega) (by omega)]; simp only [Nat.zero_add, Fin.eta]; rfl

theorem r_20_apply (r : Fin 256) (c' : Fin 1024) : kernelRun0_A.sl.r_20 (F := Ideal) c i arg1 harg1 arg2 harg2 arg3 harg3 arg4 harg4 arg5 harg5 arg7 harg7 arg8 harg8 arg9 harg9 arg10 harg10 arg11 harg11 arg12 harg12 arg21 arg22 x0 x1 x2 x3 x4 x6 x7 x8 x9 x10 x11 (ix2 r c') = h1 (wts x6 x7 x8 x9 x10 x11 x12 x13 x14 x15 x16 x17 x18) (inp i x0 x1 x2 x3 x4 x5 ⟨256 + r.val, by omega⟩) c' := by
  unfold kernelRun0_A.sl.r_20 h1
  rw [pay37_apply]
  refine congrFun (congrArg₂ norm (funext fun k => ?_) (funext fun k => ?_)) c'
  · exact r_18_apply c i arg1 harg1 arg2 harg2 arg3 harg3 arg4 harg4 arg5 harg5 arg7 harg7 arg8 harg8 arg9 harg9 arg10 harg10 arg11 harg11 arg21 arg22 x0 x1 x2 x3 x4 x5 x6 x7 x8 x9 x10 x11 x12 x13 x14 x15 x16 x17 x18 r k
  · rw [read2 arg12 harg12 x11 _ 0 k (by decide) (by omega)]; simp only [Nat.zero_add, Fin.eta]; rfl

theorem r_23_apply (r : Fin 256) (c' : Fin 1024) : kernelRun0_A.sl.r_23 (F := Ideal) c i arg1 harg1 arg2 harg2 arg3 harg3 arg4 harg4 arg5 harg5 arg7 harg7 arg8 harg8 arg9 harg9 arg10 harg10 arg11 harg11 arg12 harg12 arg13 harg13 arg14 harg14 arg15 harg15 arg21 arg22 x0 x1 x2 x3 x4 x6 x7 x8 x9 x10 x11 x12 x13 x14 (ix2 r c')
    = y1 (wts x6 x7 x8 x9 x10 x11 x12 x13 x14 x15 x16 x17 x18) (inp i x0 x1 x2 x3 x4 x5 ⟨256 + r.val, by omega⟩) c' + ∑ f : Fin 1536, act (wts x6 x7 x8 x9 x10 x11 x12 x13 x14 x15 x16 x17 x18) (h1 (wts x6 x7 x8 x9 x10 x11 x12 x13 x14 x15 x16 x17 x18) (inp i x0 x1 x2 x3 x4 x5 ⟨256 + r.val, by omega⟩)) ⟨f.val, by omega⟩ * (wts x6 x7 x8 x9 x10 x11 x12 x13 x14 x15 x16 x17 x18).down ⟨f.val, by omega⟩ c' := by
  have eg : ∀ f, ∑ k : Fin 1024, kernelRun0_A.sl.r_20 (F := Ideal) c i arg1 harg1 arg2 harg2 arg3 harg3 arg4 harg4 arg5 harg5 arg7 harg7 arg8 harg8 arg9 harg9 arg10 harg10 arg11 harg11 arg12 harg12 arg21 arg22 x0 x1 x2 x3 x4 x6 x7 x8 x9 x10 x11 (ix2 r k) * (View.readAt (Elt Ideal) arg13.view (Rect.unit (s := S1024x2816) ![0, 0] S1024x1536.size inb_S1024x2816_S1024x1536_0_0).toLoadRect (harg13.unread x12)) (ix2 k f) = ∑ k, h1 (wts x6 x7 x8 x9 x10 x11 x12 x13 x14 x15 x16 x17 x18) (inp i x0 x1 x2 x3 x4 x5 ⟨256 + r.val, by omega⟩) k * (wts x6 x7 x8 x9 x10 x11 x12 x13 x14 x15 x16 x17 x18).gate k ⟨f.val, by omega⟩ := fun f => Finset.sum_congr rfl fun k _ => by
    rw [r_20_apply c i arg1 harg1 arg2 harg2 arg3 harg3 arg4 harg4 arg5 harg5 arg7 harg7 arg8 harg8 arg9 harg9 arg10 harg10 arg11 harg11 arg12 harg12 arg21 arg22 x0 x1 x2 x3 x4 x5 x6 x7 x8 x9 x10 x11 x12 x13 x14 x15 x16 x17 x18 r k, read2 arg13 harg13 x12 _ k f (by omega) (by omega)]
    simp only [Nat.zero_add, Fin.eta]
    rfl
  have eu : ∀ f, ∑ k : Fin 1024, kernelRun0_A.sl.r_20 (F := Ideal) c i arg1 harg1 arg2 harg2 arg3 harg3 arg4 harg4 arg5 harg5 arg7 harg7 arg8 harg8 arg9 harg9 arg10 harg10 arg11 harg11 arg12 harg12 arg21 arg22 x0 x1 x2 x3 x4 x6 x7 x8 x9 x10 x11 (ix2 r k) * (View.readAt (Elt Ideal) arg14.view (Rect.unit (s := S1024x2816) ![0, 0] S1024x1536.size inb_S1024x2816_S1024x1536_0_0).toLoadRect (harg14.unread x13)) (ix2 k f) = ∑ k, h1 (wts x6 x7 x8 x9 x10 x11 x12 x13 x14 x15 x16 x17 x18) (inp i x0 x1 x2 x3 x4 x5 ⟨256 + r.val, by omega⟩) k * (wts x6 x7 x8 x9 x10 x11 x12 x13 x14 x15 x16 x17 x18).up k ⟨f.val, by omega⟩ := fun f => Finset.sum_congr rfl fun k _ => by
    rw [r_20_apply c i arg1 harg1 arg2 harg2 arg3 harg3 arg4 harg4 arg5 harg5 arg7 harg7 arg8 harg8 arg9 harg9 arg10 harg10 arg11 harg11 arg12 harg12 arg21 arg22 x0 x1 x2 x3 x4 x5 x6 x7 x8 x9 x10 x11 x12 x13 x14 x15 x16 x17 x18 r k, read2 arg14 harg14 x13 _ k f (by omega) (by omega)]
    simp only [Nat.zero_add, Fin.eta]
    rfl
  unfold kernelRun0_A.sl.r_23 act
  rw [pay40_apply]
  refine congrArg₂ (· + ·) (r_18_apply c i arg1 harg1 arg2 harg2 arg3 harg3 arg4 harg4 arg5 harg5 arg7 harg7 arg8 harg8 arg9 harg9 arg10 harg10 arg11 harg11 arg21 arg22 x0 x1 x2 x3 x4 x5 x6 x7 x8 x9 x10 x11 x12 x13 x14 x15 x16 x17 x18 r c') (Finset.sum_congr rfl fun f _ => congrArg₂ (· * ·) ?_ ?_)
  · rw [eg f, eu f]
  · rw [read2 arg15 harg15 x14 _ f c' (by omega) (by omega)]; simp only [Nat.zero_add, Fin.eta]; rfl

theorem r_26_apply (r : Fin 256) (c' : Fin 1024) : kernelRun0_A.sl.r_26 (F := Ideal) c i arg1 harg1 arg2 harg2 arg3 harg3 arg4 harg4 arg5 harg5 arg7 harg7 arg8 harg8 arg9 harg9 arg10 harg10 arg11 harg11 arg12 harg12 arg13 harg13 arg14 harg14 arg15 harg15 arg21 arg22 x0 x1 x2 x3 x4 x6 x7 x8 x9 x10 x11 x12 x13 x14 (ix2 r c') = y2 (wts x6 x7 x8 x9 x10 x11 x12 x13 x14 x15 x16 x17 x18) (inp i x0 x1 x2 x3 x4 x5 ⟨256 + r.val, by omega⟩) c' := by
  have eg : ∀ f, ∑ k : Fin 1024, kernelRun0_A.sl.r_20 (F := Ideal) c i arg1 harg1 arg2 harg2 arg3 harg3 arg4 harg4 arg5 harg5 arg7 harg7 arg8 harg8 arg9 harg9 arg10 harg10 arg11 harg11 arg12 harg12 arg21 arg22 x0 x1 x2 x3 x4 x6 x7 x8 x9 x10 x11 (ix2 r k) * (View.readAt (Elt Ideal) arg13.view (Rect.unit (s := S1024x2816) ![0, 1536] S1024x1280.size inb_S1024x2816_S1024x1280_0_1536).toLoadRect (harg13.unread x12)) (ix2 k f) = ∑ k, h1 (wts x6 x7 x8 x9 x10 x11 x12 x13 x14 x15 x16 x17 x18) (inp i x0 x1 x2 x3 x4 x5 ⟨256 + r.val, by omega⟩) k * (wts x6 x7 x8 x9 x10 x11 x12 x13 x14 x15 x16 x17 x18).gate k ⟨1536 + f.val, by omega⟩ := fun f => Finset.sum_congr rfl fun k _ => by
    rw [r_20_apply c i arg1 harg1 arg2 harg2 arg3 harg3 arg4 harg4 arg5 harg5 arg7 harg7 arg8 harg8 arg9 harg9 arg10 harg10 arg11 harg11 arg12 harg12 arg21 arg22 x0 x1 x2 x3 x4 x5 x6 x7 x8 x9 x10 x11 x12 x13 x14 x15 x16 x17 x18 r k, read2 arg13 harg13 x12 _ k f (by omega) (by omega)]
    simp only [Nat.zero_add, Fin.eta]
    rfl
  have eu : ∀ f, ∑ k : Fin 1024, kernelRun0_A.sl.r_20 (F := Ideal) c i arg1 harg1 arg2 harg2 arg3 harg3 arg4 harg4 arg5 harg5 arg7 harg7 arg8 harg8 arg9 harg9 arg10 harg10 arg11 harg11 arg12 harg12 arg21 arg22 x0 x1 x2 x3 x4 x6 x7 x8 x9 x10 x11 (ix2 r k) * (View.readAt (Elt Ideal) arg14.view (Rect.unit (s := S1024x2816) ![0, 1536] S1024x1280.size inb_S1024x2816_S1024x1280_0_1536).toLoadRect (harg14.unread x13)) (ix2 k f) = ∑ k, h1 (wts x6 x7 x8 x9 x10 x11 x12 x13 x14 x15 x16 x17 x18) (inp i x0 x1 x2 x3 x4 x5 ⟨256 + r.val, by omega⟩) k * (wts x6 x7 x8 x9 x10 x11 x12 x13 x14 x15 x16 x17 x18).up k ⟨1536 + f.val, by omega⟩ := fun f => Finset.sum_congr rfl fun k _ => by
    rw [r_20_apply c i arg1 harg1 arg2 harg2 arg3 harg3 arg4 harg4 arg5 harg5 arg7 harg7 arg8 harg8 arg9 harg9 arg10 harg10 arg11 harg11 arg12 harg12 arg21 arg22 x0 x1 x2 x3 x4 x5 x6 x7 x8 x9 x10 x11 x12 x13 x14 x15 x16 x17 x18 r k, read2 arg14 harg14 x13 _ k f (by omega) (by omega)]
    simp only [Nat.zero_add, Fin.eta]
    rfl
  unfold kernelRun0_A.sl.r_26
  rw [pay43_apply, ← y2_parts]
  unfold act
  refine congrArg₂ (· + ·) ((r_23_apply c i arg1 harg1 arg2 harg2 arg3 harg3 arg4 harg4 arg5 harg5 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14 x15 x16 x17 x18 r c').trans rfl) (Finset.sum_congr rfl fun f _ => congrArg₂ (· * ·) ?_ ?_)
  · rw [eg f, eu f]
  · rw [read2 arg15 harg15 x14 _ f c' (by omega) (by omega)]; simp only [Nat.zero_add, Fin.eta]; rfl

theorem r_30_apply (r : Fin 256) (c' : Fin 1024) : kernelRun0_A.sl.r_30 (F := Ideal) c i arg1 harg1 arg2 harg2 arg3 harg3 arg4 harg4 arg5 harg5 arg7 harg7 arg8 harg8 arg9 harg9 arg10 harg10 arg11 harg11 arg12 harg12 arg13 harg13 arg14 harg14 arg15 harg15 arg16 harg16 arg17 harg17 arg21 arg22 x0 x1 x2 x3 x4 x6 x7 x8 x9 x10 x11 x12 x13 x14 x15 x16 (ix2 r c') = Ideal.logistic (∑ k, norm (y2 (wts x6 x7 x8 x9 x10 x11 x12 x13 x14 x15 x16 x17 x18) (inp i x0 x1 x2 x3 x4 x5 ⟨256 + r.val, by omega⟩)) (wts x6 x7 x8 x9 x10 x11 x12 x13 x14 x15 x16 x17 x18).nple k * (wts x6 x7 x8 x9 x10 x11 x12 x13 x14 x15 x16 x17 x18).pgate k c') := by
  have e : ∀ k, kernelRun0_A.sl.r_26 (F := Ideal) c i arg1 harg1 arg2 harg2 arg3 harg3 arg4 harg4 arg5 harg5 arg7 harg7 arg8 harg8 arg9 harg9 arg10 harg10 arg11 harg11 arg12 harg12 arg13 harg13 arg14 harg14 arg15 harg15 arg21 arg22 x0 x1 x2 x3 x4 x6 x7 x8 x9 x10 x11 x12 x13 x14 (ix2 r k) = y2 (wts x6 x7 x8 x9 x10 x11 x12 x13 x14 x15 x16 x17 x18) (inp i x0 x1 x2 x3 x4 x5 ⟨256 + r.val, by omega⟩) k := r_26_apply c i arg1 harg1 arg2 harg2 arg3 harg3 arg4 harg4 arg5 harg5 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14 x15 x16 x17 x18 r
  unfold kernelRun0_A.sl.r_30 kernelRun0_A.sl.r_28 kernelRun0_A.sl.r_29 kernelRun0_A.sl.cst_186 norm
  rw [pay48_apply, pay46_apply]
  refine congrArg _ (Finset.sum_congr rfl fun k _ => congrArg₂ (· * ·) (congrArg₂ (· * ·) (congrArg₂ (· * ·) (e k) (congrArg _ (congrArg₂ (· + ·) (congrArg₂ Ideal.div (Finset.sum_congr rfl fun j _ => congrArg₂ (· * ·) (e j) (e j)) rfl) rfl))) ?_) ?_)
  · rw [pay45_apply, read2 arg16 harg16 x15 _ 0 k (by decide) (by omega)]; simp only [Nat.zero_add, Fin.eta]; rfl
  · rw [read2 arg17 harg17 x16 _ k c' (by omega) (by omega)]; simp only [Nat.zero_add, Fin.eta]; rfl

end

end Cert.Proof.P2

end
-- ==== Proof.P2.Out.lean ====
module

public import proofs.«01_k».proof.Proof.P2.Chain

/-!
What the second call's body leaves in a tile of its output: the two halves of the
tile's rows, each the row of `Row.lean` at the tile's inputs.
-/

@[expose] public section

set_option maxRecDepth 16384

noncomputable section

namespace Cert.Proof.P2

open Cert.Kernel2Ideal Cert.Kernel2Ideal.Gen Idealize.ShloMosaic Idealize.ShloMosaic.TcCoe

section
variable (c : Dev nD) (i : grid0.Coords)
  (arg1 : Memref sig .tc .vmem S512x512 .f32) (harg1 : arg1.IsWhole)
  (arg2 : Memref sig .tc .vmem S16x512 .f32) (harg2 : arg2.IsWhole)
  (arg3 : Memref sig .tc .vmem S512x512 .bf16) (harg3 : arg3.IsWhole)
  (arg4 : Memref sig .tc .vmem S512x2048 .f32) (harg4 : arg4.IsWhole)
  (arg5 : Memref sig .tc .vmem S512x1024 .f32) (harg5 : arg5.IsWhole)
  (arg6 : Memref sig .tc .vmem S512x256 .f32) (harg6 : arg6.IsWhole)
  (arg7 : Memref sig .tc .vmem S4x128x128 .bf16) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1x1024 .f32) (harg12 : arg12.IsWhole)
  (arg13 : Memref sig .tc .vmem S1024x2816 .bf16) (harg13 : arg13.IsWhole)
  (arg14 : Memref sig .tc .vmem S1024x2816 .bf16) (harg14 : arg14.IsWhole)
  (arg15 : Memref sig .tc .vmem S2816x1024 .bf16) (harg15 : arg15.IsWhole)
  (arg16 : Memref sig .tc .vmem S1x1024 .f32) (harg16 : arg16.IsWhole)
  (arg17 : Memref sig .tc .vmem S1024x1024 .bf16) (harg17 : arg17.IsWhole)
  (arg18 : Memref sig .tc .vmem S256x1024 .bf16) (harg18 : arg18.IsWhole)
  (arg19 : Memref sig .tc .vmem S1x1024 .f32) (harg19 : arg19.IsWhole)
  (arg20 : Memref sig .tc .vmem S512x1024 .f32) (harg20 : arg20.IsWhole)
  (arg21 : Memref sig .tc .vmem S536x512 .f32) (harg21 : arg21.IsWhole)
  (arg22 : Memref sig .tc .vmem S2x536x128 .f32) (harg22 : arg22.IsWhole)
  (x0 : Vec Ideal S512x512 .f32)
  (x1 : Vec Ideal S16x512 .f32)
  (x2 : Vec Ideal S512x512 .bf16)
  (x3 : Vec Ideal S512x2048 .f32)
  (x4 : Vec Ideal S512x1024 .f32)
  (x5 : Vec Ideal S512x256 .f32)
  (x6 : Vec Ideal S4x128x128 .bf16)
  (x7 : Vec Ideal S1x512 .f32)
  (x8 : Vec Ideal S512x1024 .bf16)
  (x9 : Vec Ideal S512x1024 .bf16)
  (x10 : Vec Ideal S1024x1024 .bf16)
  (x11 : Vec Ideal S1x1024 .f32)
  (x12 : Vec Ideal S1024x2816 .bf16)
  (x13 : Vec Ideal S1024x2816 .bf16)
  (x14 : Vec Ideal S2816x1024 .bf16)
  (x15 : Vec Ideal S1x1024 .f32)
  (x16 : Vec Ideal S1024x1024 .bf16)
  (x17 : Vec Ideal S256x1024 .bf16)
  (x18 : Vec Ideal S1x1024 .f32)

theorem out_apply (r : Fin 512) (c' : Fin 1024) : out0_A_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 x0 x1 x2 x3 x4 x5 x6 x7 x8 x9 x10 x11 x12 x13 x14 x15 x16 x17 x18 (ix2 r c') = res (wts x6 x7 x8 x9 x10 x11 x12 x13 x14 x15 x16 x17 x18) (inp i x0 x1 x2 x3 x4 x5 r) c' := by
  unfold out0_A_19
  rw [View.read_writes_junk_eq_canon]
  unfold kernelRun0_A
  dsimp only
  unfold res
  have hr := r.isLt
  by_cases h : r.val < 256
  · refine (miss2 (o := 256) (p := 0) (a := 256) (b := 1024) _ _ _ r c' h).trans ((hit2 (o := 0) (p := 0) (a := 256) (b := 1024) _ _ _ r c' ⟨r.val, h⟩ c' (by simp only; omega) (by omega)).trans ?_)
    rw [pay47_apply]
    refine congrFun (congrArg₂ norm (funext fun k => ?_) (funext fun k => ?_)) c'
    · refine congrArg₂ (· + ·) (r_25_apply c i arg1 harg1 arg2 harg2 arg3 harg3 arg4 harg4 arg5 harg5 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14 x15 x16 x17 x18 ⟨r.val, h⟩ k) (congrArg₂ (· * ·) (congrArg _ (Finset.sum_congr rfl fun j _ => congrArg₂ (· * ·) (r_27_apply c i arg1 harg1 arg2 harg2 arg3 harg3 arg4 harg4 arg5 harg5 arg7 harg7 arg8 harg8 arg9 harg9 arg10 harg10 arg11 harg11 arg12 harg12 arg13 harg13 arg14 harg14 arg15 harg15 arg16 harg16 arg21 arg22 x0 x1 x2 x3 x4 x5 x6 x7 x8 x9 x10 x11 x12 x13 x14 x15 x16 x17 x18 ⟨r.val, h⟩ j) ?_)) (Finset.sum_congr rfl fun j _ => congrArg₂ (· * ·) ?_ ?_))
      · rw [read2 arg17 harg17 x16 _ j k (by omega) (by omega)]; simp only [Nat.zero_add, Fin.eta]; rfl
      · rw [read2 arg6 harg6 x5 _ ⟨r.val, h⟩ j (by simp only; omega) (by omega)]; simp only [Nat.zero_add, Fin.eta]; rfl
      · rw [read2 arg18 harg18 x17 _ j k (by omega) (by omega)]; simp only [Nat.zero_add, Fin.eta]; rfl
    · rw [read2 arg19 harg19 x18 _ 0 k (by decide) (by omega)]; simp only [Nat.zero_add, Fin.eta]; rfl
  · have e : (⟨256 + (⟨r.val - 256, by omega⟩ : Fin 256).val, by simp only; omega⟩ : Fin 512) = r := Fin.ext (by simp only; omega)
    refine (hit2 (o := 256) (p := 0) (a := 256) (b := 1024) _ _ _ r c' ⟨r.val - 256, by omega⟩ c' (by simp only; omega) (by omega)).trans ?_
    rw [pay1_apply]
    refine congrFun (congrArg₂ norm (funext fun k => ?_) (funext fun k => ?_)) c'
    · refine congrArg₂ (· + ·) ((r_26_apply c i arg1 harg1 arg2 harg2 arg3 harg3 arg4 harg4 arg5 harg5 arg7 harg7 arg8 harg8 arg9 harg9 arg10 harg10 arg11 harg11 arg12 harg12 arg13 harg13 arg14 harg14 arg15 harg15 arg21 arg22 x0 x1 x2 x3 x4 x5 x6 x7 x8 x9 x10 x11 x12 x13 x14 x15 x16 x17 x18 ⟨r.val - 256, by omega⟩ k).trans (by rw [e])) (congrArg₂ (· * ·) ((r_30_apply c i arg1 harg1 arg2 harg2 arg3 harg3 arg4 harg4 arg5 harg5 arg7 harg7 arg8 harg8 arg9 harg9 arg10 harg10 arg11 harg11 arg12 harg12 arg13 harg13 arg14 harg14 arg15 harg15 arg16 harg16 arg17 harg17 arg21 arg22 x0 x1 x2 x3 x4 x5 x6 x7 x8 x9 x10 x11 x12 x13 x14 x15 x16 x17 x18 ⟨r.val - 256, by omega⟩ k).trans (by rw [e])) (Finset.sum_congr rfl fun j _ => congrArg₂ (· * ·) ?_ ?_))
      · rw [read2 arg6 harg6 x5 _ ⟨r.val - 256, by omega⟩ j (by simp only; omega) (by omega)]; simp only [Nat.zero_add, Fin.eta, e]; rfl
      · rw [read2 arg18 harg18 x17 _ j k (by omega) (by omega)]; simp only [Nat.zero_add, Fin.eta]; rfl
    · rw [read2 arg19 harg19 x18 _ 0 k (by decide) (by omega)]; simp only [Nat.zero_add, Fin.eta]; rfl

end

end Cert.Proof.P2

end
-- ==== Proof.P2.Blocks.lean ====
module

public import proofs.«01_k».proof.Proof.Gen.Kernel2Ideal.Frame
public import Idealize.ShloMosaic.Lib.Pipeline.ValueKit
public import Idealize.ShloMosaic.Lib.StableHlo.Run
public import Idealize.ShloMosaic.Lib.Pointwise
public import Idealize.ShloMosaic.Lib.IdealHost

/-!
What the second call finds in its input windows at a grid point, of its arguments: a
tile of 512 rows of each activation, the 16 rows before the tile, and the weights whole.
-/

@[expose] public section

set_option maxRecDepth 16384

noncomputable section

namespace Cert.Proof.P2

open Cert.Kernel2Ideal Cert.Kernel2Ideal.Gen Idealize.ShloMosaic Idealize.ShloMosaic.TcCoe Idealize.ShloMosaic.Tactic

theorem idx0 : ∀ t : Fin grid0.N, win0_0.index t 0 = t.val ∧ win0_0.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx19 : ∀ t : Fin grid0.N, win0_19.index t 0 = t.val ∧ win0_19.index t 1 = 0 := by decide +kernel
theorem idx1 : ∀ t : Fin grid0.N, win0_1.index t 0 = 32 * t.val - 1 ∧ win0_1.index t 1 = 0 := by decide +kernel
theorem idx6 : ∀ t : Fin grid0.N, win0_6.index t 0 = 0 ∧ win0_6.index t 1 = 0 ∧ win0_6.index t 2 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel
theorem idx10 : ∀ t : Fin grid0.N, win0_10.index t 0 = 0 ∧ win0_10.index t 1 = 0 := by decide +kernel
theorem idx11 : ∀ t : Fin grid0.N, win0_11.index t 0 = 0 ∧ win0_11.index t 1 = 0 := by decide +kernel
theorem idx12 : ∀ t : Fin grid0.N, win0_12.index t 0 = 0 ∧ win0_12.index t 1 = 0 := by decide +kernel
theorem idx13 : ∀ t : Fin grid0.N, win0_13.index t 0 = 0 ∧ win0_13.index t 1 = 0 := by decide +kernel
theorem idx14 : ∀ t : Fin grid0.N, win0_14.index t 0 = 0 ∧ win0_14.index t 1 = 0 := by decide +kernel
theorem idx15 : ∀ t : Fin grid0.N, win0_15.index t 0 = 0 ∧ win0_15.index t 1 = 0 := by decide +kernel
theorem idx16 : ∀ t : Fin grid0.N, win0_16.index t 0 = 0 ∧ win0_16.index t 1 = 0 := by decide +kernel
theorem idx17 : ∀ t : Fin grid0.N, win0_17.index t 0 = 0 ∧ win0_17.index t 1 = 0 := by decide +kernel
theorem idx18 : ∀ t : Fin grid0.N, win0_18.index t 0 = 0 ∧ win0_18.index t 1 = 0 := by decide +kernel

theorem cast0 (X : FVec Ideal S4x8192x1024 .f32) (r : Fin 32768) (k : Fin 1024) : (shapeCast S32768x1024 X shapeCasts_S4x8192x1024_S32768x1024 : S32768x1024.Idx → EReal) (ix2 r k) = X (ix3 ⟨r.val / 8192, by omega⟩ ⟨r.val % 8192, by omega⟩ k) := by pointwise

theorem cast2 (X : FVec Ideal S1x4x8192x256 .f32) (r : Fin 32768) (k : Fin 256) : (shapeCast S32768x256 (shapeCast S4x8192x256 X shapeCasts_S1x4x8192x256_S4x8192x256) shapeCasts_S4x8192x256_S32768x256 : S32768x256.Idx → EReal) (ix2 r k) = X (ix4 0 ⟨r.val / 8192, by omega⟩ ⟨r.val % 8192, by omega⟩ k) := by pointwise

theorem cast4 (X : FVec Ideal S1x4x128x128 .f32) (g : Fin 4) (j l : Fin 128) : (truncf (F := Ideal) .bf16 (shapeCast S4x128x128 X shapeCasts_S1x4x128x128_S4x128x128) bitsLt_bf16_f32 : S4x128x128.Idx → EReal) (ix3 g j l) = X (ix4 0 g j l) := by pointwise

theorem cast6 (X : FVec Ideal S1x512 .f32) (k : Fin 512) : (shapeCast S1x512 (shapeCast S512 X shapeCasts_S1x512_S512) shapeCasts_S512_S1x512 : S1x512.Idx → EReal) (ix2 0 k) = X (ix2 0 k) := by pointwise

theorem cast14 (X : FVec Ideal S1x1024 .f32) (k : Fin 1024) : (shapeCast S1x1024 (shapeCast S1024 X shapeCasts_S1x1024_S1024) shapeCasts_S1024_S1x1024 : S1x1024.Idx → EReal) (ix2 0 k) = X (ix2 0 k) := by pointwise

theorem cast22 (X : FVec Ideal S1x1024 .f32) (k : Fin 1024) : (shapeCast S1x1024 (shapeCast S1024 X shapeCasts_S1x1024_S1024) shapeCasts_S1024_S1x1024 : S1x1024.Idx → EReal) (ix2 0 k) = X (ix2 0 k) := by pointwise

theorem cast8 (X : FVec Ideal S1x512x1024 .f32) (k : Fin 512) (j : Fin 1024) : (truncf (F := Ideal) .bf16 (shapeCast S512x1024 X shapeCasts_S1x512x1024_S512x1024) bitsLt_bf16_f32 : S512x1024.Idx → EReal) (ix2 k j) = X (ix3 0 k j) := by pointwise

theorem cast10 (X : FVec Ideal S1x512x1024 .f32) (k : Fin 512) (j : Fin 1024) : (truncf (F := Ideal) .bf16 (shapeCast S512x1024 X shapeCasts_S1x512x1024_S512x1024) bitsLt_bf16_f32 : S512x1024.Idx → EReal) (ix2 k j) = X (ix3 0 k j) := by pointwise

theorem cast12 (X : FVec Ideal S1x1024x1024 .f32) (k : Fin 1024) (j : Fin 1024) : (truncf (F := Ideal) .bf16 (shapeCast S1024x1024 X shapeCasts_S1x1024x1024_S1024x1024) bitsLt_bf16_f32 : S1024x1024.Idx → EReal) (ix2 k j) = X (ix3 0 k j) := by pointwise

theorem cast16 (X : FVec Ideal S1x1024x2816 .f32) (k : Fin 1024) (j : Fin 2816) : (truncf (F := Ideal) .bf16 (shapeCast S1024x2816 X shapeCasts_S1x1024x2816_S1024x2816) bitsLt_bf16_f32 : S1024x2816.Idx → EReal) (ix2 k j) = X (ix3 0 k j) := by pointwise

theorem cast18 (X : FVec Ideal S1x1024x2816 .f32) (k : Fin 1024) (j : Fin 2816) : (truncf (F := Ideal) .bf16 (shapeCast S1024x2816 X shapeCasts_S1x1024x2816_S1024x2816) bitsLt_bf16_f32 : S1024x2816.Idx → EReal) (ix2 k j) = X (ix3 0 k j) := by pointwise

theorem cast20 (X : FVec Ideal S1x2816x1024 .f32) (k : Fin 2816) (j : Fin 1024) : (truncf (F := Ideal) .bf16 (shapeCast S2816x1024 X shapeCasts_S1x2816x1024_S2816x1024) bitsLt_bf16_f32 : S2816x1024.Idx → EReal) (ix2 k j) = X (ix3 0 k j) := by pointwise

theorem cast24 (X : FVec Ideal S1x1024x1024 .f32) (k : Fin 1024) (j : Fin 1024) : (truncf (F := Ideal) .bf16 (shapeCast S1024x1024 X shapeCasts_S1x1024x1024_S1024x1024) bitsLt_bf16_f32 : S1024x1024.Idx → EReal) (ix2 k j) = X (ix3 0 k j) := by pointwise

theorem cast26 (X : FVec Ideal S1x256x1024 .f32) (k : Fin 256) (j : Fin 1024) : (truncf (F := Ideal) .bf16 (shapeCast S256x1024 X shapeCasts_S1x256x1024_S256x1024) bitsLt_bf16_f32 : S256x1024.Idx → EReal) (ix2 k j) = X (ix3 0 k j) := by pointwise

theorem cast27 (X : FVec Ideal S1024 .f32) (k : Fin 1024) : (shapeCast S1x1024 X shapeCasts_S1024_S1x1024 : S1x1024.Idx → EReal) (ix2 0 k) = X (ix1 k) := by pointwise

/-- The position of a grid point is its number. -/
theorem coord : ∀ t : Fin grid0.N, (grid0.coords t 0).val = t.val := by decide +kernel

variable (m : (ℓ : Loc nD τ sig) → Buf (Elt Ideal) ℓ) (c : Dev nD) (t : Fin grid0.N)

theorem points : grid0.N = 64 := by decide +kernel

theorem blk0 (r : Fin 512) (k : Fin 512) : (iblk m c 0 t : S512x512.Idx → EReal) (ix2 r k) = (V m c main_arg0 : S32768x512.Idx → EReal) (ix2 ⟨t.val * 512 + r.val, by have := t.isLt; have := points; omega⟩ k) := by
  have e := idx0 t
  unfold iblk
  show (win0_0.blk t).view.read (Elt Ideal) (V m c main_arg0) (ix2 r k) = _
  blk_simp
  congr 1
  blk_ext [e.1, e.2]

theorem blk2 (r : Fin 512) (k : Fin 512) : (iblk m c 2 t : S512x512.Idx → EReal) (ix2 r k) = (V m c main_arg1 : S32768x512.Idx → EReal) (ix2 ⟨t.val * 512 + r.val, by have := t.isLt; have := points; omega⟩ k) := by
  have e := idx2 t
  unfold iblk
  show (win0_2.blk t).view.read (Elt Ideal) (V m c main_arg1) (ix2 r k) = _
  blk_simp
  congr 1
  blk_ext [e.1, e.2]

theorem blk3 (r : Fin 512) (k : Fin 2048) : (iblk m c 3 t : S512x2048.Idx → EReal) (ix2 r k) = (V m c main_arg2 : S32768x2048.Idx → EReal) (ix2 ⟨t.val * 512 + r.val, by have := t.isLt; have := points; omega⟩ k) := by
  have e := idx3 t
  unfold iblk
  show (win0_3.blk t).view.read (Elt Ideal) (V m c main_arg2) (ix2 r k) = _
  blk_simp
  congr 1
  blk_ext [e.1, e.2]

theorem blk4 (r : Fin 512) (k : Fin 1024) : (iblk m c 4 t : S512x1024.Idx → EReal) (ix2 r k) = (V m c main_v0 : S32768x1024.Idx → EReal) (ix2 ⟨t.val * 512 + r.val, by have := t.isLt; have := points; omega⟩ k) := by
  have e := idx4 t
  unfold iblk
  show (win0_4.blk t).view.read (Elt Ideal) (V m c main_v0) (ix2 r k) = _
  blk_simp
  congr 1
  blk_ext [e.1, e.2]

theorem blk5 (r : Fin 512) (k : Fin 256) : (iblk m c 5 t : S512x256.Idx → EReal) (ix2 r k) = (V m c main_v2 : S32768x256.Idx → EReal) (ix2 ⟨t.val * 512 + r.val, by have := t.isLt; have := points; omega⟩ k) := by
  have e := idx5 t
  unfold iblk
  show (win0_5.blk t).view.read (Elt Ideal) (V m c main_v2) (ix2 r k) = _
  blk_simp
  congr 1
  blk_ext [e.1, e.2]

theorem blk1 (r : Fin 16) (k : Fin 512) : (iblk m c 1 t : S16x512.Idx → EReal) (ix2 r k) = (V m c main_arg0 : S32768x512.Idx → EReal) (ix2 ⟨(32 * t.val - 1) * 16 + r.val, by have := t.isLt; have := points; omega⟩ k) := by
  have e := idx1 t
  unfold iblk
  show (win0_1.blk t).view.read (Elt Ideal) (V m c main_arg0) (ix2 r k) = _
  blk_simp
  congr 1
  blk_ext [e.1, e.2]

theorem blk6 (g : Fin 4) (r k : Fin 128) : (iblk m c 6 t : S4x128x128.Idx → EReal) (ix3 g r k) = (V m c main_v4 : S4x128x128.Idx → EReal) (ix3 g r k) := by
  have e := idx6 t
  unfold iblk
  show (win0_6.blk t).view.read (Elt Ideal) (V m c main_v4) (ix3 g r k) = _
  blk_simp
  congr 1
  blk_ext [e.1, e.2.1, e.2.2]

theorem blk7 (r : Fin 1) (k : Fin 512) : (iblk m c 7 t : S1x512.Idx → EReal) (ix2 r k) = (V m c main_v6 : S1x512.Idx → EReal) (ix2 r k) := by
  have e := idx7 t
  unfold iblk
  show (win0_7.blk t).view.read (Elt Ideal) (V m c main_v6) (ix2 r k) = _
  blk_simp
  congr 1
  blk_ext [e.1, e.2]

theorem blk8 (r : Fin 512) (k : Fin 1024) : (iblk m c 8 t : S512x1024.Idx → EReal) (ix2 r k) = (V m c main_v8 : S512x1024.Idx → EReal) (ix2 r k) := by
  have e := idx8 t
  unfold iblk
  show (win0_8.blk t).view.read (Elt Ideal) (V m c main_v8) (ix2 r k) = _
  blk_simp
  congr 1
  blk_ext [e.1, e.2]

theorem blk9 (r : Fin 512) (k : Fin 1024) : (iblk m c 9 t : S512x1024.Idx → EReal) (ix2 r k) = (V m c main_v10 : S512x1024.Idx → EReal) (ix2 r k) := by
  have e := idx9 t
  unfold iblk
  show (win0_9.blk t).view.read (Elt Ideal) (V m c main_v10) (ix2 r k) = _
  blk_simp
  congr 1
  blk_ext [e.1, e.2]

theorem blk10 (r : Fin 1024) (k : Fin 1024) : (iblk m c 10 t : S1024x1024.Idx → EReal) (ix2 r k) = (V m c main_v12 : S1024x1024.Idx → EReal) (ix2 r k) := by
  have e := idx10 t
  unfold iblk
  show (win0_10.blk t).view.read (Elt Ideal) (V m c main_v12) (ix2 r k) = _
  blk_simp
  congr 1
  blk_ext [e.1, e.2]

theorem blk11 (r : Fin 1) (k : Fin 1024) : (iblk m c 11 t : S1x1024.Idx → EReal) (ix2 r k) = (V m c main_v14 : S1x1024.Idx → EReal) (ix2 r k) := by
  have e := idx11 t
  unfold iblk
  show (win0_11.blk t).view.read (Elt Ideal) (V m c main_v14) (ix2 r k) = _
  blk_simp
  congr 1
  blk_ext [e.1, e.2]

theorem blk12 (r : Fin 1024) (k : Fin 2816) : (iblk m c 12 t : S1024x2816.Idx → EReal) (ix2 r k) = (V m c main_v16 : S1024x2816.Idx → EReal) (ix2 r k) := by
  have e := idx12 t
  unfold iblk
  show (win0_12.blk t).view.read (Elt Ideal) (V m c main_v16) (ix2 r k) = _
  blk_simp
  congr 1
  blk_ext [e.1, e.2]

theorem blk13 (r : Fin 1024) (k : Fin 2816) : (iblk m c 13 t : S1024x2816.Idx → EReal) (ix2 r k) = (V m c main_v18 : S1024x2816.Idx → EReal) (ix2 r k) := by
  have e := idx13 t
  unfold iblk
  show (win0_13.blk t).view.read (Elt Ideal) (V m c main_v18) (ix2 r k) = _
  blk_simp
  congr 1
  blk_ext [e.1, e.2]

theorem blk14 (r : Fin 2816) (k : Fin 1024) : (iblk m c 14 t : S2816x1024.Idx → EReal) (ix2 r k) = (V m c main_v20 : S2816x1024.Idx → EReal) (ix2 r k) := by
  have e := idx14 t
  unfold iblk
  show (win0_14.blk t).view.read (Elt Ideal) (V m c main_v20) (ix2 r k) = _
  blk_simp
  congr 1
  blk_ext [e.1, e.2]

theorem blk15 (r : Fin 1) (k : Fin 1024) : (iblk m c 15 t : S1x1024.Idx → EReal) (ix2 r k) = (V m c main_v22 : S1x1024.Idx → EReal) (ix2 r k) := by
  have e := idx15 t
  unfold iblk
  show (win0_15.blk t).view.read (Elt Ideal) (V m c main_v22) (ix2 r k) = _
  blk_simp
  congr 1
  blk_ext [e.1, e.2]

theorem blk16 (r : Fin 1024) (k : Fin 1024) : (iblk m c 16 t : S1024x1024.Idx → EReal) (ix2 r k) = (V m c main_v24 : S1024x1024.Idx → EReal) (ix2 r k) := by
  have e := idx16 t
  unfold iblk
  show (win0_16.blk t).view.read (Elt Ideal) (V m c main_v24) (ix2 r k) = _
  blk_simp
  congr 1
  blk_ext [e.1, e.2]

theorem blk17 (r : Fin 256) (k : Fin 1024) : (iblk m c 17 t : S256x1024.Idx → EReal) (ix2 r k) = (V m c main_v26 : S256x1024.Idx → EReal) (ix2 r k) := by
  have e := idx17 t
  unfold iblk
  show (win0_17.blk t).view.read (Elt Ideal) (V m c main_v26) (ix2 r k) = _
  blk_simp
  congr 1
  blk_ext [e.1, e.2]

theorem blk18 (r : Fin 1) (k : Fin 1024) : (iblk m c 18 t : S1x1024.Idx → EReal) (ix2 r k) = (V m c main_v27 : S1x1024.Idx → EReal) (ix2 r k) := by
  have e := idx18 t
  unfold iblk
  show (win0_18.blk t).view.read (Elt Ideal) (V m c main_v27) (ix2 r k) = _
  blk_simp
  congr 1
  blk_ext [e.1, e.2]

theorem arr0 (r : Fin 32768) (k : Fin 1024) : (V m c main_v0 : S32768x1024.Idx → EReal) (ix2 r k) = (m ((c.tc : Thread nD τ).loc main_arg3) : S4x8192x1024.Idx → EReal) (ix3 ⟨r.val / 8192, by omega⟩ ⟨r.val % 8192, by omega⟩ k) := by
  have e : (V m c main_v0 : S32768x1024.Idx → EReal) = shapeCast S32768x1024 (m ((c.tc : Thread nD τ).loc main_arg3)) shapeCasts_S4x8192x1024_S32768x1024 := by rfl
  exact (congrFun e _).trans (cast0 _ r k)

theorem arr2 (r : Fin 32768) (k : Fin 256) : (V m c main_v2 : S32768x256.Idx → EReal) (ix2 r k) = (m ((c.tc : Thread nD τ).loc main_arg4) : S1x4x8192x256.Idx → EReal) (ix4 0 ⟨r.val / 8192, by omega⟩ ⟨r.val % 8192, by omega⟩ k) := by
  have e : (V m c main_v2 : S32768x256.Idx → EReal) = shapeCast S32768x256 (shapeCast S4x8192x256 (m ((c.tc : Thread nD τ).loc main_arg4)) shapeCasts_S1x4x8192x256_S4x8192x256) shapeCasts_S4x8192x256_S32768x256 := by rfl
  exact (congrFun e _).trans (cast2 _ r k)

theorem arr4 (g : Fin 4) (j l : Fin 128) : (V m c main_v4 : S4x128x128.Idx → EReal) (ix3 g j l) = (m ((c.tc : Thread nD τ).loc main_arg5) : S1x4x128x128.Idx → EReal) (ix4 0 g j l) := by
  have e : (V m c main_v4 : S4x128x128.Idx → EReal) = truncf (F := Ideal) .bf16 (shapeCast S4x128x128 (m ((c.tc : Thread nD τ).loc main_arg5)) shapeCasts_S1x4x128x128_S4x128x128) bitsLt_bf16_f32 := by rfl
  exact (congrFun e _).trans (cast4 _ g j l)

theorem arr6 (k : Fin 512) : (V m c main_v6 : S1x512.Idx → EReal) (ix2 0 k) = (m ((c.tc : Thread nD τ).loc main_arg6) : S1x512.Idx → EReal) (ix2 0 k) := by
  have e : (V m c main_v6 : S1x512.Idx → EReal) = shapeCast S1x512 (shapeCast S512 (m ((c.tc : Thread nD τ).loc main_arg6)) shapeCasts_S1x512_S512) shapeCasts_S512_S1x512 := by rfl
  exact (congrFun e _).trans (cast6 _ k)

theorem arr14 (k : Fin 1024) : (V m c main_v14 : S1x1024.Idx → EReal) (ix2 0 k) = (m ((c.tc : Thread nD τ).loc main_arg10) : S1x1024.Idx → EReal) (ix2 0 k) := by
  have e : (V m c main_v14 : S1x1024.Idx → EReal) = shapeCast S1x1024 (shapeCast S1024 (m ((c.tc : Thread nD τ).loc main_arg10)) shapeCasts_S1x1024_S1024) shapeCasts_S1024_S1x1024 := by rfl
  exact (congrFun e _).trans (cast14 _ k)

theorem arr22 (k : Fin 1024) : (V m c main_v22 : S1x1024.Idx → EReal) (ix2 0 k) = (m ((c.tc : Thread nD τ).loc main_arg14) : S1x1024.Idx → EReal) (ix2 0 k) := by
  have e : (V m c main_v22 : S1x1024.Idx → EReal) = shapeCast S1x1024 (shapeCast S1024 (m ((c.tc : Thread nD τ).loc main_arg14)) shapeCasts_S1x1024_S1024) shapeCasts_S1024_S1x1024 := by rfl
  exact (congrFun e _).trans (cast22 _ k)

theorem arr8 (k : Fin 512) (j : Fin 1024) : (V m c main_v8 : S512x1024.Idx → EReal) (ix2 k j) = (m ((c.tc : Thread nD τ).loc main_arg7) : S1x512x1024.Idx → EReal) (ix3 0 k j) := by
  have e : (V m c main_v8 : S512x1024.Idx → EReal) = truncf (F := Ideal) .bf16 (shapeCast S512x1024 (m ((c.tc : Thread nD τ).loc main_arg7)) shapeCasts_S1x512x1024_S512x1024) bitsLt_bf16_f32 := by rfl
  exact (congrFun e _).trans (cast8 _ k j)

theorem arr10 (k : Fin 512) (j : Fin 1024) : (V m c main_v10 : S512x1024.Idx → EReal) (ix2 k j) = (m ((c.tc : Thread nD τ).loc main_arg8) : S1x512x1024.Idx → EReal) (ix3 0 k j) := by
  have e : (V m c main_v10 : S512x1024.Idx → EReal) = truncf (F := Ideal) .bf16 (shapeCast S512x1024 (m ((c.tc : Thread nD τ).loc main_arg8)) shapeCasts_S1x512x1024_S512x1024) bitsLt_bf16_f32 := by rfl
  exact (congrFun e _).trans (cast10 _ k j)

theorem arr12 (k : Fin 1024) (j : Fin 1024) : (V m c main_v12 : S1024x1024.Idx → EReal) (ix2 k j) = (m ((c.tc : Thread nD τ).loc main_arg9) : S1x1024x1024.Idx → EReal) (ix3 0 k j) := by
  have e : (V m c main_v12 : S1024x1024.Idx → EReal) = truncf (F := Ideal) .bf16 (shapeCast S1024x1024 (m ((c.tc : Thread nD τ).loc main_arg9)) shapeCasts_S1x1024x1024_S1024x1024) bitsLt_bf16_f32 := by rfl
  exact (congrFun e _).trans (cast12 _ k j)

theorem arr16 (k : Fin 1024) (j : Fin 2816) : (V m c main_v16 : S1024x2816.Idx → EReal) (ix2 k j) = (m ((c.tc : Thread nD τ).loc main_arg11) : S1x1024x2816.Idx → EReal) (ix3 0 k j) := by
  have e : (V m c main_v16 : S1024x2816.Idx → EReal) = truncf (F := Ideal) .bf16 (shapeCast S1024x2816 (m ((c.tc : Thread nD τ).loc main_arg11)) shapeCasts_S1x1024x2816_S1024x2816) bitsLt_bf16_f32 := by rfl
  exact (congrFun e _).trans (cast16 _ k j)

theorem arr18 (k : Fin 1024) (j : Fin 2816) : (V m c main_v18 : S1024x2816.Idx → EReal) (ix2 k j) = (m ((c.tc : Thread nD τ).loc main_arg12) : S1x1024x2816.Idx → EReal) (ix3 0 k j) := by
  have e : (V m c main_v18 : S1024x2816.Idx → EReal) = truncf (F := Ideal) .bf16 (shapeCast S1024x2816 (m ((c.tc : Thread nD τ).loc main_arg12)) shapeCasts_S1x1024x2816_S1024x2816) bitsLt_bf16_f32 := by rfl
  exact (congrFun e _).trans (cast18 _ k j)

theorem arr20 (k : Fin 2816) (j : Fin 1024) : (V m c main_v20 : S2816x1024.Idx → EReal) (ix2 k j) = (m ((c.tc : Thread nD τ).loc main_arg13) : S1x2816x1024.Idx → EReal) (ix3 0 k j) := by
  have e : (V m c main_v20 : S2816x1024.Idx → EReal) = truncf (F := Ideal) .bf16 (shapeCast S2816x1024 (m ((c.tc : Thread nD τ).loc main_arg13)) shapeCasts_S1x2816x1024_S2816x1024) bitsLt_bf16_f32 := by rfl
  exact (congrFun e _).trans (cast20 _ k j)

theorem arr24 (k : Fin 1024) (j : Fin 1024) : (V m c main_v24 : S1024x1024.Idx → EReal) (ix2 k j) = (m ((c.tc : Thread nD τ).loc main_arg15) : S1x1024x1024.Idx → EReal) (ix3 0 k j) := by
  have e : (V m c main_v24 : S1024x1024.Idx → EReal) = truncf (F := Ideal) .bf16 (shapeCast S1024x1024 (m ((c.tc : Thread nD τ).loc main_arg15)) shapeCasts_S1x1024x1024_S1024x1024) bitsLt_bf16_f32 := by rfl
  exact (congrFun e _).trans (cast24 _ k j)

theorem arr26 (k : Fin 256) (j : Fin 1024) : (V m c main_v26 : S256x1024.Idx → EReal) (ix2 k j) = (m ((c.tc : Thread nD τ).loc main_arg16) : S1x256x1024.Idx → EReal) (ix3 0 k j) := by
  have e : (V m c main_v26 : S256x1024.Idx → EReal) = truncf (F := Ideal) .bf16 (shapeCast S256x1024 (m ((c.tc : Thread nD τ).loc main_arg16)) shapeCasts_S1x256x1024_S256x1024) bitsLt_bf16_f32 := by rfl
  exact (congrFun e _).trans (cast26 _ k j)

theorem arr27 (k : Fin 1024) : (V m c main_v27 : S1x1024.Idx → EReal) (ix2 0 k) = (m ((c.tc : Thread nD τ).loc main_arg17) : S1024.Idx → EReal) (ix1 k) := by
  have e : (V m c main_v27 : S1x1024.Idx → EReal) = shapeCast S1x1024 (m ((c.tc : Thread nD τ).loc main_arg17)) shapeCasts_S1024_S1x1024 := by rfl
  exact (congrFun e _).trans (cast27 _ k)

end Cert.Proof.P2

end
-- ==== Proof.P2.Pool.lean ====
module

public import proofs.«01_k».proof.Proof.P2.Row
public import Mathlib.Algebra.BigOperators.Intervals
public import Mathlib.Tactic.Abel

/-!
The pooling of the second call: the mean of the last 2, 4, 8 or 16 positions of a
sequence, less the position itself. A sum over the last positions is the difference
of two sums from the beginning, where those are real.
-/

@[expose] public section

noncomputable section

namespace Cert.Proof.P2

open Idealize.ShloMosaic Finset

/-- The sum of the last `w` terms up to `s`, or of all of them if there are fewer. -/
def win (w : ℕ) (u : ℕ → EReal) (s : ℕ) : EReal := ∑ d ∈ range w, if d ≤ s then u (s - d) else 0

/-- The length of the window of a group of columns. -/
def wn : Fin 4 → ℕ := ![2, 4, 8, 16]

/-- The number of terms in a window of length `w` at position `s`, counted in words. -/
def cntN (s w : ℕ) : EReal := FloatOps.sitofp (F := Ideal) .f32 (IntOp.minsi (IntOp.addi (BitVec.ofNat 32 s) 1#32) (BitVec.ofNat 32 w))

/-- The pooled value at position `s` of a sequence in a column of group `g`. -/
def pooledN (g : Fin 4) (u : ℕ → EReal) (s : ℕ) : EReal := Ideal.div (win (wn g) u s) (cntN s (wn g)) - u s

theorem win_short {w s : ℕ} (h : s < w) (u : ℕ → EReal) : win w u s = ∑ j ∈ range (s + 1), u j := by
  unfold win
  obtain ⟨k, rfl⟩ : ∃ k, w = s + 1 + k := ⟨w - (s + 1), by omega⟩
  rw [sum_range_add]
  have e2 : ∑ x ∈ range k, (if s + 1 + x ≤ s then u (s - (s + 1 + x)) else 0) = 0 :=
    sum_eq_zero fun x _ => if_neg (by omega)
  rw [e2, add_zero, ← sum_range_reflect u (s + 1)]
  refine sum_congr rfl fun d hd => ?_
  have hd := mem_range.1 hd
  rw [if_pos (by omega)]
  exact congrArg u (by omega)

theorem win_long {w s : ℕ} (h : w ≤ s) (u : ℕ → EReal) : ∑ j ∈ range (s + 1), u j = win w u s + ∑ j ∈ range (s - w + 1), u j := by
  unfold win
  rw [← sum_range_reflect u (s + 1), ← sum_range_reflect u (s - w + 1)]
  have e : s + 1 = w + (s - w + 1) := by omega
  rw [show range (s + 1) = range (w + (s - w + 1)) by rw [← e], sum_range_add]
  refine congrArg₂ (· + ·) (sum_congr rfl fun d hd => ?_) (sum_congr rfl fun d hd => ?_)
  · have hd := mem_range.1 hd
    rw [if_pos (by omega)]
    exact congrArg u (by omega)
  · have hd := mem_range.1 hd
    exact congrArg u (by omega)

theorem sum_real (u : ℕ → EReal) (hu : ∀ j, ∃ r : ℝ, u j = (r : EReal)) (n : ℕ) : ∃ r : ℝ, ∑ j ∈ range n, u j = (r : EReal) := by
  induction n with
  | zero => exact ⟨0, by simp⟩
  | succ n ih =>
    obtain ⟨a, ha⟩ := ih
    obtain ⟨b, hb⟩ := hu n
    exact ⟨a + b, by rw [sum_range_succ, ha, hb, EReal.coe_add]⟩

/-- The window's sum as the difference of two sums from the beginning, of real terms. -/
theorem win_diff (u : ℕ → EReal) (hu : ∀ j, ∃ r : ℝ, u j = (r : EReal)) (w s : ℕ) :
    (∑ j ∈ range (s + 1), u j) - (if w ≤ s then ∑ j ∈ range (s - w + 1), u j else 0) = win w u s := by
  by_cases h : w ≤ s
  · rw [if_pos h, win_long h]
    obtain ⟨r, hr⟩ := sum_real u hu (s - w + 1)
    rw [hr]
    exact EReal.add_sub_cancel_right
  · rw [if_neg h, sub_zero, win_short (by omega)]

end Cert.Proof.P2

end
-- ==== Proof.P2.Ref.lean ====
module

public import proofs.«01_k».proof.Proof.Gen.Reference2Ideal.Run
public import proofs.«01_k».proof.Proof.P2.Pool
public import Idealize.ShloMosaic.Lib.Pointwise
public import Idealize.ShloMosaic.Lib.IdealHost

/-!
What the second reference computes, element by element: each position of each
sequence is the row of `Row.lean` at that position's inputs.
-/

@[expose] public section

set_option maxRecDepth 16384

noncomputable section

namespace Cert.Proof.R2

open Cert.Proof.P2 Cert.Reference2Ideal Cert.Reference2Ideal.Gen Cert.Reference2Ideal.Value Idealize.ShloMosaic Idealize.ShloMosaic.TcCoe

/-- A column of the pooling branch's input along one of the four sequences. -/
def seqU (U : FVec Ideal S32768x512 .f32) (b : Fin 4) (k : Fin 512) (j : ℕ) : EReal := U (ix2 ⟨(b.val * 8192 + j) % 32768, by omega⟩ k)

/-- The weights, of the arguments. -/
def wtsR (Wp : FVec Ideal S1x4x128x128 .f32) (Sc : FVec Ideal S1x512 .f32) (Wa Wb : FVec Ideal S1x512x1024 .f32) (Wo : FVec Ideal S1x1024x1024 .f32) (Nf : FVec Ideal S1x1024 .f32)
    (Wg Wu : FVec Ideal S1x1024x2816 .f32) (Wd : FVec Ideal S1x2816x1024 .f32) (Np : FVec Ideal S1x1024 .f32) (Pg : FVec Ideal S1x1024x1024 .f32) (Pp : FVec Ideal S1x256x1024 .f32)
    (Nl : FVec Ideal S1024 .f32) : Wts where
  pool g j l := Wp (ix4 0 g j l)
  scale k := Sc (ix2 0 k)
  a k c := Wa (ix3 0 k c)
  b k c := Wb (ix3 0 k c)
  out k c := Wo (ix3 0 k c)
  nffn k := Nf (ix2 0 k)
  gate k f := Wg (ix3 0 k f)
  up k f := Wu (ix3 0 k f)
  down f c := Wd (ix3 0 f c)
  nple k := Np (ix2 0 k)
  pgate k c := Pg (ix3 0 k c)
  pproj k c := Pp (ix3 0 k c)
  nfin k := Nl (ix1 k)

/-- The inputs of a position, of the arguments. -/
def rowR (U : FVec Ideal S32768x512 .f32) (Y : FVec Ideal S32768x512 .bf16) (G : FVec Ideal S32768x2048 .f32) (X : FVec Ideal S4x8192x1024 .f32) (P : FVec Ideal S1x4x8192x256 .f32)
    (b : Fin 4) (s : Fin 8192) : Row where
  pl k := pooledN ⟨k.val / 128, by omega⟩ (seqU U b k) s.val
  yb k := Y (ix2 ⟨b.val * 8192 + s.val, by omega⟩ k)
  g c := G (ix2 ⟨b.val * 8192 + s.val, by omega⟩ c)
  x c := X (ix3 b s c)
  p k := P (ix4 0 b s k)

variable (V : Valuation τ sig (Elt Ideal))

def wtsV : Wts := wtsR (V (Proc.devRef .tc main_arg5)) (V (Proc.devRef .tc main_arg6)) (V (Proc.devRef .tc main_arg7)) (V (Proc.devRef .tc main_arg8)) (V (Proc.devRef .tc main_arg9))
  (V (Proc.devRef .tc main_arg10)) (V (Proc.devRef .tc main_arg11)) (V (Proc.devRef .tc main_arg12)) (V (Proc.devRef .tc main_arg13)) (V (Proc.devRef .tc main_arg14))
  (V (Proc.devRef .tc main_arg15)) (V (Proc.devRef .tc main_arg16)) (V (Proc.devRef .tc main_arg17))

def rowV (b : Fin 4) (s : Fin 8192) : Row :=
  rowR (V (Proc.devRef .tc main_arg0)) (V (Proc.devRef .tc main_arg1)) (V (Proc.devRef .tc main_arg2)) (V (Proc.devRef .tc main_arg3)) (V (Proc.devRef .tc main_arg4)) b s

theorem idx_mid (x y : ℕ) : x * 1 + y - 8191 = x + y - 8191 := by omega
theorem idx_out (x y : ℕ) (h : y = 0) : x * 1 + y - 0 = x := by omega

/-- The sum over a window that reaches back to the beginning of the sequence. -/
theorem prefix_sum (L : FVec Ideal S4x8192x512 .f32) (b : Fin 4) (s : Fin 8192) (k : Fin 512) (u : ℕ → EReal) (hu : ∀ j : Fin 8192, L (ix3 b j k) = u j.val) :
    Host.reduceWindowAdd ![1, 8192, 1] ![1, 1, 1] ![0, 8191, 0] ![0, 0, 0] L (broadcastInDim S_ ![] bcast_S_S_ (constant S_ .f32 0x00000000#32))
        reduceWindows_S4x8192x512_S4x8192x512_w1s1p0_0_w8192s1p8191_0_w1s1p0_0 h_S_ (ix3 b s k)
      = ∑ j ∈ Finset.range (s.val + 1), u j := by
  unfold Host.reduceWindowAdd
  rw [Ideal.hostReduceWindowAdd_def]
  have e0 : (broadcastInDim S_ ![] bcast_S_S_ (constant (F := Ideal) S_ FTy.f32 0#32)) (Shape.Idx.first h_S_) = (0 : EReal) := by
    pointwise
  rw [e0]
  unfold Ideal.hostReduceWindowAdd Host.reduceWindow
  have fold : ∀ {n : ℕ} (e : Fin n → EReal), (List.finRange n).foldl (fun r i => r + e i) 0 = ∑ i, e i := fun e => by
    rw [Fin.sum_univ_def, List.sum_eq_foldl, List.foldl_map]
  refine (fold _).trans ?_
  let g : (⟨3, ![1, 8192, 1]⟩ : Shape).Idx → EReal := fun w =>
    if 8191 ≤ s.val + (w 1).val then u (s.val + (w 1).val - 8191) else 0
  have hs := s.isLt
  refine (Finset.sum_congr rfl fun i _ => (?_ : _ = g ((Shape.rowMajor ⟨3, ![1, 8192, 1]⟩).symm i))).trans
    ((Equiv.sum_comp (Shape.rowMajor ⟨3, ![1, 8192, 1]⟩).symm g).trans ?_)
  · have key : ∀ w : (⟨3, ![1, 8192, 1]⟩ : Shape).Idx, (w 0).val = 0 ∧ (w 1).val < 8192 ∧ (w 2).val = 0 := fun w =>
      ⟨Nat.lt_one_iff.mp (w 0).isLt, (w 1).isLt, Nat.lt_one_iff.mp (w 2).isLt⟩
    obtain ⟨k0, k1, k2⟩ := key ((Shape.rowMajor ⟨3, ![1, 8192, 1]⟩).symm i)
    by_cases h : 8191 ≤ s.val + ((Shape.rowMajor ⟨3, ![1, 8192, 1]⟩).symm i 1).val
    · rw [dif_pos, show g ((Shape.rowMajor ⟨3, ![1, 8192, 1]⟩).symm i) = u (s.val + ((Shape.rowMajor ⟨3, ![1, 8192, 1]⟩).symm i 1).val - 8191) from if_pos h,
        ← hu ⟨s.val + ((Shape.rowMajor ⟨3, ![1, 8192, 1]⟩).symm i 1).val - 8191, by omega⟩]
      · congr 1
        funext a
        apply Fin.ext
        match a with
        | ⟨0, _⟩ => exact idx_out b.val _ k0
        | ⟨1, _⟩ => exact idx_mid s.val _
        | ⟨2, _⟩ => exact idx_out k.val _ k2
      · intro a
        match a with
        | ⟨0, _⟩ => exact ⟨Nat.zero_le _, (idx_out b.val _ k0).trans_lt b.isLt⟩
        | ⟨1, _⟩ => exact ⟨by show 8191 ≤ s.val * 1 + _; rw [Nat.mul_one]; exact h, (idx_mid s.val _).trans_lt (show s.val + ((Shape.rowMajor ⟨3, ![1, 8192, 1]⟩).symm i 1).val - 8191 < 8192 by omega)⟩
        | ⟨2, _⟩ => exact ⟨Nat.zero_le _, (idx_out k.val _ k2).trans_lt k.isLt⟩
    · rw [dif_neg, show g ((Shape.rowMajor ⟨3, ![1, 8192, 1]⟩).symm i) = 0 from if_neg h]
      intro hh
      have h3 : 8191 ≤ s.val * 1 + ((Shape.rowMajor ⟨3, ![1, 8192, 1]⟩).symm i 1).val := (hh 1).1
      rw [Nat.mul_one] at h3
      exact h h3
  · rw [sum_idx3]
    simp only [Fintype.sum_unique]
    refine (?_ : _ = ∑ x : Fin 8192, (fun j : ℕ => if 8191 ≤ s.val + j then u (s.val + j - 8191) else 0) x.val).trans ?_
    · rfl
    rw [Fin.sum_univ_eq_sum_range (fun j : ℕ => if 8191 ≤ s.val + j then u (s.val + j - 8191) else 0) 8192,
      ← Finset.sum_range_reflect, ← win_short (w := 8192) hs u]
    unfold win
    refine Finset.sum_congr rfl fun d hd => ?_
    have hd := Finset.mem_range.1 hd
    by_cases h : d ≤ s.val
    · rw [if_pos h, if_pos (by omega)]
      exact congrArg u (by omega)
    · rw [if_neg h, if_neg (by omega)]

theorem v0_apply (b : Fin 4) (s : Fin 8192) (k : Fin 512) : res_main_v0 V (ix3 b s k) = seqU (V (Proc.devRef .tc main_arg0)) b k s.val := by
  unfold res_main_v0 seqU
  pointwise
  have e : (⟨b.val * 8192 + s.val, by omega⟩ : Fin 32768) = ⟨(b.val * 8192 + s.val) % 32768, by omega⟩ := Fin.ext (by simp only; omega)
  rw [e]

theorem v3_apply (b : Fin 4) (s : Fin 8192) (k : Fin 512) : res_main_v3 V (ix3 b s k) = ∑ j ∈ Finset.range (s.val + 1), seqU (V (Proc.devRef .tc main_arg0)) b k j := by
  unfold res_main_v3
  exact prefix_sum _ b s k _ fun j => v0_apply V b j k

theorem sito0 : FloatOps.sitofp (F := Ideal) FTy.f32 (0#32) = (0 : EReal) := by
  show (((0#32 : BitVec 32).toInt : ℝ) : EReal) = 0
  simp

theorem v74_apply (b : Fin 4) (s : Fin 8192) (k : Fin 2048) : res_main_v74 V (ix3 b s k) = (rowV V b s).g k := by
  unfold res_main_v74
  pointwise
  rfl

theorem v5_apply (b : Fin 4) (s : Fin 8192) (x : Fin 128) : res_main_v5 V (ix3 b s x) = ∑ j ∈ Finset.range (s.val + 1), seqU (V (Proc.devRef .tc main_arg0)) b ⟨x.val, by omega⟩ j := by
  unfold res_main_v5
  pointwise
  exact v3_apply V b s _

theorem v19_apply (b : Fin 4) (s : Fin 8192) (x : Fin 128) : res_main_v19 V (ix3 b s x) = ∑ j ∈ Finset.range (s.val + 1), seqU (V (Proc.devRef .tc main_arg0)) b ⟨128 + x.val, by omega⟩ j := by
  unfold res_main_v19
  pointwise
  exact v3_apply V b s _

theorem v33_apply (b : Fin 4) (s : Fin 8192) (x : Fin 128) : res_main_v33 V (ix3 b s x) = ∑ j ∈ Finset.range (s.val + 1), seqU (V (Proc.devRef .tc main_arg0)) b ⟨256 + x.val, by omega⟩ j := by
  unfold res_main_v33
  pointwise
  exact v3_apply V b s _

theorem v47_apply (b : Fin 4) (s : Fin 8192) (x : Fin 128) : res_main_v47 V (ix3 b s x) = ∑ j ∈ Finset.range (s.val + 1), seqU (V (Proc.devRef .tc main_arg0)) b ⟨384 + x.val, by omega⟩ j := by
  unfold res_main_v47
  pointwise
  exact v3_apply V b s _

theorem cnt_apply (s : Fin 8192) (w : ℕ) : FloatOps.sitofp (F := Ideal) FTy.f32 (IntOp.minsi (IntOp.addi (res_main_v4 V (ix1 s)) 1#32) (BitVec.ofNat 32 w)) = cntN s.val w := by
  unfold res_main_v4 cntN
  pointwise

section
variable (hU : ∀ i, ∃ r : ℝ, (V (Proc.devRef .tc main_arg0) : FVec Ideal S32768x512 .f32) i = (r : EReal))
include hU

theorem v71_apply (b : Fin 4) (s : Fin 8192) (k : Fin 512) : res_main_v71 V (ix3 b s k) = ya (wtsV V) (rowV V b s) k := by
  have hu : ∀ k j, ∃ r : ℝ, seqU (V (Proc.devRef .tc main_arg0)) b k j = (r : EReal) := fun k j => hU _
  have hs := s.isLt
  unfold res_main_v71 ya
  pointwise
  refine congrArg₂ (· * ·) (Finset.sum_congr rfl fun x _ => ?_) rfl
  rw [mul_comm]
  refine congrArg₂ (· * ·) ?_ rfl
  have hx := x.isLt
  have hk : k.val / 128 = 0 ∨ k.val / 128 = 1 ∨ k.val / 128 = 2 ∨ k.val / 128 = 3 := by omega
  unfold rowV rowR pooledN
  dsimp only
  rcases hk with h | h | h | h
  · have eg : (⟨(128 * (k.val / 128) + x.val) / 128, by omega⟩ : Fin 4) = 0 := Fin.ext (by show (128 * (k.val / 128) + x.val) / 128 = 0; omega)
    have ek : (⟨128 * (k.val / 128) + x.val, by omega⟩ : Fin 512) = ⟨x.val, by omega⟩ := Fin.ext (by simp only; omega)
    rw [dif_pos (by omega), eg, ek]
    refine congrArg₂ (· - ·) (congrArg₂ Ideal.div ?_ (cnt_apply V s 2)) (v0_apply V b s _)
    refine Eq.trans ?_ (win_diff _ (hu _) 2 s.val)
    refine congrArg₂ (· - ·) (v5_apply V b s x) ?_
    by_cases hw : 2 ≤ s.val
    · rw [dif_pos, if_pos hw]
      · exact v5_apply V b ⟨s.val - 2, by omega⟩ x
      · intro a
        match a with
        | ⟨0, _⟩ => exact ⟨Nat.zero_le _, Nat.mod_one _, (Nat.div_one _).trans_lt b.isLt⟩
        | ⟨1, _⟩ => exact ⟨hw, Nat.mod_one _, (Nat.div_one _).trans_lt (show s.val - 2 < 8192 by omega)⟩
        | ⟨2, _⟩ => exact ⟨Nat.zero_le _, Nat.mod_one _, (Nat.div_one _).trans_lt x.isLt⟩
    · rw [dif_neg (fun hh => hw (hh 1).1), if_neg hw, sito0]
  · have eg : (⟨(128 * (k.val / 128) + x.val) / 128, by omega⟩ : Fin 4) = 1 := Fin.ext (by show (128 * (k.val / 128) + x.val) / 128 = 1; omega)
    have ek : (⟨128 * (k.val / 128) + x.val, by omega⟩ : Fin 512) = ⟨128 + x.val, by omega⟩ := Fin.ext (by simp only; omega)
    rw [dif_neg (by omega), dif_pos (by omega), eg, ek]
    refine congrArg₂ (· - ·) (congrArg₂ Ideal.div ?_ (cnt_apply V s 4)) (v0_apply V b s _)
    refine Eq.trans ?_ (win_diff _ (hu _) 4 s.val)
    refine congrArg₂ (· - ·) (v19_apply V b s x) ?_
    by_cases hw : 4 ≤ s.val
    · rw [dif_pos, if_pos hw]
      · exact v19_apply V b ⟨s.val - 4, by omega⟩ x
      · intro a
        match a with
        | ⟨0, _⟩ => exact ⟨Nat.zero_le _, Nat.mod_one _, (Nat.div_one _).trans_lt b.isLt⟩
        | ⟨1, _⟩ => exact ⟨hw, Nat.mod_one _, (Nat.div_one _).trans_lt (show s.val - 4 < 8192 by omega)⟩
        | ⟨2, _⟩ => exact ⟨Nat.zero_le _, Nat.mod_one _, (Nat.div_one _).trans_lt x.isLt⟩
    · rw [dif_neg (fun hh => hw (hh 1).1), if_neg hw, sito0]
  · have eg : (⟨(128 * (k.val / 128) + x.val) / 128, by omega⟩ : Fin 4) = 2 := Fin.ext (by show (128 * (k.val / 128) + x.val) / 128 = 2; omega)
    have ek : (⟨128 * (k.val / 128) + x.val, by omega⟩ : Fin 512) = ⟨256 + x.val, by omega⟩ := Fin.ext (by simp only; omega)
    rw [dif_neg (by omega), dif_neg (by omega), dif_pos (by omega), eg, ek]
    refine congrArg₂ (· - ·) (congrArg₂ Ideal.div ?_ (cnt_apply V s 8)) (v0_apply V b s _)
    refine Eq.trans ?_ (win_diff _ (hu _) 8 s.val)
    refine congrArg₂ (· - ·) (v33_apply V b s x) ?_
    by_cases hw : 8 ≤ s.val
    · rw [dif_pos, if_pos hw]
      · exact v33_apply V b ⟨s.val - 8, by omega⟩ x
      · intro a
        match a with
        | ⟨0, _⟩ => exact ⟨Nat.zero_le _, Nat.mod_one _, (Nat.div_one _).trans_lt b.isLt⟩
        | ⟨1, _⟩ => exact ⟨hw, Nat.mod_one _, (Nat.div_one _).trans_lt (show s.val - 8 < 8192 by omega)⟩
        | ⟨2, _⟩ => exact ⟨Nat.zero_le _, Nat.mod_one _, (Nat.div_one _).trans_lt x.isLt⟩
    · rw [dif_neg (fun hh => hw (hh 1).1), if_neg hw, sito0]
  · have eg : (⟨(128 * (k.val / 128) + x.val) / 128, by omega⟩ : Fin 4) = 3 := Fin.ext (by show (128 * (k.val / 128) + x.val) / 128 = 3; omega)
    have ek : (⟨128 * (k.val / 128) + x.val, by omega⟩ : Fin 512) = ⟨384 + x.val, by omega⟩ := Fin.ext (by simp only; omega)
    rw [dif_neg (by omega), dif_neg (by omega), dif_neg (by omega), eg, ek]
    refine congrArg₂ (· - ·) (congrArg₂ Ideal.div ?_ (cnt_apply V s 16)) (v0_apply V b s _)
    refine Eq.trans ?_ (win_diff _ (hu _) 16 s.val)
    refine congrArg₂ (· - ·) (v47_apply V b s x) ?_
    by_cases hw : 16 ≤ s.val
    · rw [dif_pos, if_pos hw]
      · exact v47_apply V b ⟨s.val - 16, by omega⟩ x
      · intro a
        match a with
        | ⟨0, _⟩ => exact ⟨Nat.zero_le _, Nat.mod_one _, (Nat.div_one _).trans_lt b.isLt⟩
        | ⟨1, _⟩ => exact ⟨hw, Nat.mod_one _, (Nat.div_one _).trans_lt (show s.val - 16 < 8192 by omega)⟩
        | ⟨2, _⟩ => exact ⟨Nat.zero_le _, Nat.mod_one _, (Nat.div_one _).trans_lt x.isLt⟩
    · rw [dif_neg (fun hh => hw (hh 1).1), if_neg hw, sito0]

theorem v98_apply (b : Fin 4) (s : Fin 8192) (k : Fin 1024) : res_main_v98 V (ix3 b s k) = y1 (wtsV V) (rowV V b s) k := by
  have e := v71_apply V hU b s
  have e2 := v74_apply V b s
  unfold res_main_v98 y1 mg Ideal.logistic
  pointwise
  simp only [e, e2]
  rfl

theorem v112_apply (b : Fin 4) (s : Fin 8192) (k : Fin 1024) : res_main_v112 V (ix3 b s k) = h1 (wtsV V) (rowV V b s) k := by
  have e := v98_apply V hU b s
  unfold res_main_v112 h1 P2.norm
  pointwise
  simp only [e]
  rfl

theorem v114_apply (b : Fin 4) (s : Fin 8192) (k : Fin 2816) : res_main_v114 V (ix3 b s k) = ∑ j, h1 (wtsV V) (rowV V b s) j * (wtsV V).gate j k := by
  have e := v112_apply V hU b s
  unfold res_main_v114
  pointwise
  simp only [e]
  rfl

theorem v121_apply (b : Fin 4) (s : Fin 8192) (k : Fin 1024) : res_main_v121 V (ix3 b s k) = y2 (wtsV V) (rowV V b s) k := by
  have e := v98_apply V hU b s
  have e1 := v112_apply V hU b s
  have e2 := v114_apply V hU b s
  unfold res_main_v121 y2 act Ideal.logistic
  pointwise
  simp only [e, e1, e2]
  rfl

theorem v148_apply (b : Fin 4) (s : Fin 8192) (k : Fin 1024) : res_main_v148 V (ix3 b s k) = y3 (wtsV V) (rowV V b s) k := by
  have e := v121_apply V hU b s
  unfold res_main_v148 y3 Ideal.logistic P2.norm
  pointwise
  simp only [e]
  rfl

theorem v162_apply (r : Fin 32768) (k : Fin 1024) :
    (shapeCast _ (mulf (mulf (res_main_v148 V) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (res_main_v148 V) (res_main_v148 V)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 (V (Proc.devRef .tc main_arg17))))) shapeCasts_S4x8192x1024_S32768x1024 : FVec Ideal S32768x1024 .f32) (ix2 r k)
      = res (wtsV V) (rowV V ⟨r.val / 8192, by omega⟩ ⟨r.val % 8192, by omega⟩) k := by
  have e := v148_apply V hU
  unfold res P2.norm
  pointwise
  simp only [e]
  rfl

end

end Cert.Proof.R2

end
-- ==== Proof.P2.Bridge.lean ====
module

public import proofs.«01_k».proof.Proof.P2.Out
public import proofs.«01_k».proof.Proof.P2.Blocks
public import proofs.«01_k».proof.Proof.P2.Ref

/-!
The pooling of a tile is the pooling of its sequence, and the rows and the weights that
a tile finds are those of the arguments.
-/

@[expose] public section

set_option maxRecDepth 16384

noncomputable section

namespace Cert.Proof.P2

open Cert.Proof.R2 Cert.Kernel2Ideal Cert.Kernel2Ideal.Gen Idealize.ShloMosaic Idealize.ShloMosaic.TcCoe

theorem cnt_eq (a b : ℕ) (g : Fin 4) : cnt (BitVec.ofNat 32 a) (BitVec.ofNat 32 b) (wof g) = cntN (a + b) (wn g) := by
  have e : IntOp.addi (BitVec.ofNat 32 a) (BitVec.ofNat 32 b) = BitVec.ofNat 32 (a + b) := (BitVec.ofNat_add a b).symm
  have e2 : wof g = BitVec.ofNat 32 (wn g) := by fin_cases g <;> rfl
  unfold cnt cntN
  rw [e, e2]

theorem wsum_eq (u f : ℕ → EReal) (ρ : ℕ) (h : ∀ d, d < 16 → u (ρ - d) = f d) (g : Fin 4) : wsum g u ρ = ∑ d ∈ Finset.range (wn g), f d := by
  have e : ∀ w, w ≤ 16 → ∑ d ∈ Finset.range w, f d = ∑ d ∈ Finset.range w, u (ρ - d) := fun w hw =>
    Finset.sum_congr rfl fun d hd => (h d (by have := Finset.mem_range.1 hd; omega)).symm
  rw [e _ (by fin_cases g <;> decide)]
  fin_cases g
  · show w2 u ρ = ∑ d ∈ Finset.range 2, u (ρ - d)
    simp only [Finset.sum_range_succ, Finset.sum_range_zero, w2, Nat.sub_zero]
    abel
  · show w4 u ρ = ∑ d ∈ Finset.range 4, u (ρ - d)
    simp only [Finset.sum_range_succ, Finset.sum_range_zero, w4, w2, Nat.sub_sub, Nat.reduceAdd, Nat.sub_zero]
    abel
  · show w8 u ρ = ∑ d ∈ Finset.range 8, u (ρ - d)
    simp only [Finset.sum_range_succ, Finset.sum_range_zero, w8, w4, w2, Nat.sub_sub, Nat.reduceAdd, Nat.sub_zero]
    abel
  · show w16 u ρ = ∑ d ∈ Finset.range 16, u (ρ - d)
    simp only [Finset.sum_range_succ, Finset.sum_range_zero, w16, w8, w4, w2, Nat.sub_sub, Nat.reduceAdd, Nat.sub_zero]
    abel

theorem plv_eq (i : grid0.Coords) (x0 : Vec Ideal S512x512 .f32) (x1 : Vec Ideal S16x512 .f32) (U : FVec Ideal S32768x512 .f32) (T : ℕ) (hi : (i 0).val = T) (hT : T < 64)
    (h0 : ∀ (r k : Fin 512), x0 (ix2 r k) = U (ix2 ⟨T * 512 + r.val, by omega⟩ k))
    (h1 : ∀ (r : Fin 16) (k : Fin 512), x1 (ix2 r k) = U (ix2 ⟨(32 * T - 1) * 16 + r.val, by omega⟩ k)) (r k : Fin 512) :
    plv i x0 x1 r k = pooledN ⟨k.val / 128, by omega⟩ (seqU U ⟨T / 16, by omega⟩ k) (512 * T % 8192 + r.val) := by
  have hr := r.isLt
  unfold plv pooledN
  refine congrArg₂ (· - ·) (congrArg₂ Ideal.div (wsum_eq _ _ _ (fun d hd => ?_) _) (by rw [hi]; exact cnt_eq _ _ _)) ?_
  · unfold ubv seqU
    rw [hi]
    by_cases hdr : d ≤ r.val
    · rw [if_neg (by omega), if_pos (by omega), h0]
      have e : (⟨T * 512 + (⟨(24 + r.val - d - 24) % 512, by omega⟩ : Fin 512).val, by simp only; omega⟩ : Fin 32768) = ⟨(T / 16 * 8192 + (512 * T % 8192 + r.val - d)) % 32768, by omega⟩ :=
        Fin.ext (by simp only; omega)
      rw [e]
    · rw [if_pos (by omega)]
      by_cases hz : 512 * T % 8192 = 0
      · rw [if_pos hz, if_neg (by omega)]
      · rw [if_neg hz, if_pos (by omega), h1]
        have e : (⟨(32 * T - 1) * 16 + (⟨(24 + r.val - d - 8) % 16, by omega⟩ : Fin 16).val, by simp only; omega⟩ : Fin 32768) = ⟨(T / 16 * 8192 + (512 * T % 8192 + r.val - d)) % 32768, by omega⟩ :=
          Fin.ext (by simp only; omega)
        rw [e]
  · unfold seqU
    rw [h0]
    have e : (⟨T * 512 + r.val, by omega⟩ : Fin 32768) = ⟨(T / 16 * 8192 + (512 * T % 8192 + r.val)) % 32768, by omega⟩ := Fin.ext (by simp only; omega)
    rw [e]

variable (m : (ℓ : Loc nD τ sig) → Buf (Elt Ideal) ℓ) (c : Dev nD)

/-- The weights of the second call, of its arguments. -/
def wtsK : Wts := wtsR (m ((c.tc : Thread nD τ).loc main_arg5)) (m ((c.tc : Thread nD τ).loc main_arg6)) (m ((c.tc : Thread nD τ).loc main_arg7)) (m ((c.tc : Thread nD τ).loc main_arg8))
  (m ((c.tc : Thread nD τ).loc main_arg9)) (m ((c.tc : Thread nD τ).loc main_arg10)) (m ((c.tc : Thread nD τ).loc main_arg11)) (m ((c.tc : Thread nD τ).loc main_arg12))
  (m ((c.tc : Thread nD τ).loc main_arg13)) (m ((c.tc : Thread nD τ).loc main_arg14)) (m ((c.tc : Thread nD τ).loc main_arg15)) (m ((c.tc : Thread nD τ).loc main_arg16))
  (m ((c.tc : Thread nD τ).loc main_arg17))

/-- The inputs of a position, of the arguments. -/
def rowK (b : Fin 4) (s : Fin 8192) : Row :=
  rowR (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) b s

theorem wts_eq (t : Fin grid0.N) : wts (iblk m c 6 t) (iblk m c 7 t) (iblk m c 8 t) (iblk m c 9 t) (iblk m c 10 t) (iblk m c 11 t) (iblk m c 12 t) (iblk m c 13 t) (iblk m c 14 t)
    (iblk m c 15 t) (iblk m c 16 t) (iblk m c 17 t) (iblk m c 18 t) = wtsK m c := by
  unfold wts wtsK wtsR
  rw [Wts.mk.injEq]
  exact ⟨funext fun g => funext fun j => funext fun l => (blk6 m c t g j l).trans (arr4 m c g j l),
    funext fun k => (blk7 m c t 0 k).trans (arr6 m c k),
    funext fun k => funext fun j => (blk8 m c t k j).trans (arr8 m c k j),
    funext fun k => funext fun j => (blk9 m c t k j).trans (arr10 m c k j),
    funext fun k => funext fun j => (blk10 m c t k j).trans (arr12 m c k j),
    funext fun k => (blk11 m c t 0 k).trans (arr14 m c k),
    funext fun k => funext fun j => (blk12 m c t k j).trans (arr16 m c k j),
    funext fun k => funext fun j => (blk13 m c t k j).trans (arr18 m c k j),
    funext fun k => funext fun j => (blk14 m c t k j).trans (arr20 m c k j),
    funext fun k => (blk15 m c t 0 k).trans (arr22 m c k),
    funext fun k => funext fun j => (blk16 m c t k j).trans (arr24 m c k j),
    funext fun k => funext fun j => (blk17 m c t k j).trans (arr26 m c k j),
    funext fun k => (blk18 m c t 0 k).trans (arr27 m c k)⟩

theorem inp_eq (t : Fin grid0.N) (r : Fin 512) (b : Fin 4) (s : Fin 8192) (hb : b.val = t.val / 16) (hs : s.val = 512 * t.val % 8192 + r.val) :
    inp (grid0.coords t) (iblk m c 0 t) (iblk m c 1 t) (iblk m c 2 t) (iblk m c 3 t) (iblk m c 4 t) (iblk m c 5 t) r = rowK m c b s := by
  have ht : t.val < 64 := by have := t.isLt; have := points; omega
  have er : (⟨t.val * 512 + r.val, by omega⟩ : Fin 32768) = ⟨b.val * 8192 + s.val, by omega⟩ := Fin.ext (by simp only; omega)
  have eb : (⟨(t.val * 512 + r.val) / 8192, by omega⟩ : Fin 4) = b := Fin.ext (by simp only; omega)
  have es : (⟨(t.val * 512 + r.val) % 8192, by omega⟩ : Fin 8192) = s := Fin.ext (by simp only; omega)
  have eb' : (⟨t.val / 16, by omega⟩ : Fin 4) = b := Fin.ext hb.symm
  unfold inp rowK rowR
  rw [Row.mk.injEq]
  refine ⟨funext fun k => ?_, funext fun k => ?_, funext fun k => ?_, funext fun k => ?_, funext fun k => ?_⟩
  · rw [hs, ← eb']
    exact plv_eq _ _ _ (m ((c.tc : Thread nD τ).loc main_arg0)) t.val (coord t) ht (fun r k => (blk0 m c t r k).trans (congrFun (V_main_arg0 m c) _))
      (fun r k => (blk1 m c t r k).trans (congrFun (V_main_arg0 m c) _)) r k
  · rw [← er]
    exact (blk2 m c t r k).trans (congrFun (V_main_arg1 m c) _)
  · rw [← er]
    exact (blk3 m c t r k).trans (congrFun (V_main_arg2 m c) _)
  · exact ((blk4 m c t r k).trans (arr0 m c _ k)).trans (congrArg₂ (fun b s => (m ((c.tc : Thread nD τ).loc main_arg3) : S4x8192x1024.Idx → EReal) (ix3 b s k)) eb es)
  · exact ((blk5 m c t r k).trans (arr2 m c _ k)).trans (congrArg₂ (fun b s => (m ((c.tc : Thread nD τ).loc main_arg4) : S1x4x8192x256.Idx → EReal) (ix4 0 b s k)) eb es)

end Cert.Proof.P2

end
-- ==== Proof.P2.Final.lean ====
module

public import proofs.«01_k».proof.Defs
public import proofs.«01_k».proof.Proof.Gen.Kernel2Ideal.Value
public import proofs.«01_k».proof.Proof.P2.Bridge
public import proofs.«01_k».proof.Proof.RV.Finite
public import Idealize.ShloMosaic.Lib.Pipeline.Covers

/-!
The value claim of the second call: from a real pooling input the kernel and the
reference end with the same array.
-/

@[expose] public section

set_option maxRecDepth 16384

noncomputable section

namespace Cert.Proof.P2

open Idealize.ShloMosaic Idealize.ShloMosaic.TcCoe Idealize.ShloMosaic.Tactic Idealize.SL.Sem Cert.Proof.R2

/-- The result of weights and rows, as an array. -/
def arrRes (W : Wts) (R : Fin 4 → Fin 8192 → Row) : Cert.Kernel2Ideal.S32768x1024.Idx → EReal :=
  fun x => res W (R ⟨(x 0).val / 8192, by have : (x 0).val < 32768 := (x 0).isLt; omega⟩ ⟨(x 0).val % 8192, by omega⟩) (x 1)

section
open Cert.Kernel2Ideal Cert.Kernel2Ideal.Gen Cert.Kernel2Ideal.Value

variable (m : (ℓ : Loc nD τ sig) → Buf (Elt Ideal) ℓ)

theorem tile_out (c : Dev nD) (t : Fin grid0.N) (r : Fin 512) (k : Fin 1024) : (outsAt0 m c t : S512x1024.Idx → EReal) (ix2 r k)
    = res (wtsK m c) (rowK m c ⟨(t.val * 512 + r.val) / 8192, by have := t.isLt; have := points; omega⟩ ⟨(t.val * 512 + r.val) % 8192, by omega⟩) k := by
  have ht : t.val < 64 := by have := t.isLt; have := points; omega
  unfold outsAt0
  refine (out_apply ..).trans ?_
  rw [wts_eq m c t, inp_eq m c t r ⟨(t.val * 512 + r.val) / 8192, by omega⟩ ⟨(t.val * 512 + r.val) % 8192, by omega⟩ (by simp only; omega) (by simp only; omega)]

theorem arr_out (c : Dev nD) : (dats m 0 c).arrAt 19 cfg0.N = arrRes (wtsK m c) (rowK m c) := by
  refine Pipeline.Dat.arrAt_eq_of_covers _ 19 _ (by decide +kernel) fun t hf y => ?_
  have e := idx19 t
  rw [after0_19]
  blk_simp
  refine ((congrArg (outsAt0 m c t) (eq_ix2 y)).trans (tile_out m c t (y 0) (y 1))).trans ?_
  unfold arrRes
  have hy0 : (y 0).val < 512 := (y 0).isLt
  have e1 : ((win0_19.blk t).view.emb y 1 : Fin 1024) = y 1 := Fin.ext (by blk_simp [e.2])
  blk_simp [e.1, e.2]
  exact congrArg _ e1.symm

end

/-- The shape relations the precondition's operations take. -/
theorem facts_u : Cert.Pre_finite_u.Facts where
  bcast_S_S32768x512 := by decide
  reducesTo_S32768x512_S_d0_1 := by decide
  h_S_ := by decide

instance : Subsingleton Cert.Pre_finite_u.S_.Idx := ⟨fun a b => funext fun i => i.elim0⟩

theorem reals_u {U a1 a2 a3 a4 a5 a6 a7 a8 a9 a10 a11 a12 a13 a14 a15 a16 a17}
    (h : letI := facts_u; Cert.Pre_finite_u.fn (F := Ideal) U a1 a2 a3 a4 a5 a6 a7 a8 a9 a10 a11 a12 a13 a14 a15 a16 a17 = fun _ => 1#1) : ∀ i, ∃ r : ℝ, U i = (r : EReal) := by
  letI := facts_u
  have h := congrFun h (fun i => i.elim0)
  unfold Cert.Pre_finite_u.fn at h
  exact fun i => Cert.Proof.RV.real_of_lt _ (Host.reduce_andi_all _ _ _ _ _ h i)

/-- From a real pooling input, the same arguments on both sides, both programs end with the same array. -/
theorem algebraic :
    letI := Cert.Kernel2Ideal.Gen.facts; letI := Cert.Reference2Ideal.Gen.facts; letI := facts_u
    Cert.algebraic_Kernel2Ideal_Reference2Ideal_pre_finite_u := by
  intro m g m' g' hpre hargs
  refine ⟨fun c => arrRes (wtsK m c) (rowK m c), ?_, ?_⟩
  · refine (θ_run Cert.Kernel2Ideal.defs _ _).mono (fun r h c => ?_) (Cert.Kernel2Ideal.Value.run_blocks (F := Ideal) m g)
    exact ⟨(h c).1.trans (arr_out m c), (h c).2⟩
  · refine (θ_run Cert.Reference2Ideal.defs _ _).mono (fun r h c => ?_) (Cert.Reference2Ideal.Value.run (F := Ideal) m' g')
    refine ⟨(h c).1.trans ?_, (h c).2⟩
    obtain ⟨a0, a1, a2, a3, a4, a5, a6, a7, a8, a9, a10, a11, a12, a13, a14, a15, a16, a17⟩ := hargs c
    have hu : ∀ i, ∃ r : ℝ, (m' ((c.tc : Thread Cert.Reference2Ideal.nD Cert.Reference2Ideal.τ).loc Cert.Reference2Ideal.main_arg0) : FVec Ideal Cert.Reference2Ideal.S32768x512 .f32) i = (r : EReal) := by
      rw [a0]
      exact reals_u (hpre c)
    have ew : wtsV (StableHlo.launchContents m' c) = wtsK m c := by
      show wtsR _ _ _ _ _ _ _ _ _ _ _ _ _ = wtsR _ _ _ _ _ _ _ _ _ _ _ _ _
      exact (congr (congr (congr (congr (congr (congr (congr (congr (congr (congr (congr (congr (congrArg wtsR a5) a6) a7) a8) a9) a10) a11) a12) a13) a14) a15) a16) a17)
    have er : rowV (StableHlo.launchContents m' c) = rowK m c := by
      funext b s
      show rowR _ _ _ _ _ b s = rowR _ _ _ _ _ b s
      exact congrFun (congrFun (congr (congr (congr (congr (congrArg rowR a0) a1) a2) a3) a4) b) s
    funext x
    refine (congrArg _ (eq_ix2 x)).trans ((v162_apply (StableHlo.launchContents m' c) hu (x 0) (x 1)).trans ?_)
    rw [ew, er]
    rfl

end Cert.Proof.P2

end
-- ==== Proof.lean ====
/- The certificate of both calls, the attention and what follows it: of each the frames, the statement about named constants, and the values. -/

module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.KF.Run
public import proofs.«01_k».proof.Proof.KI.Run
public import proofs.«01_k».proof.Proof.RV.Final
public import proofs.«01_k».proof.Proof.P2.Final
public import Idealize.ShloMosaic.Adequacy
public import Idealize.ShloMosaic.Init

@[expose] public section

noncomputable section

namespace Cert.Proof

open Idealize.ShloMosaic Idealize.SL.Sem

/-- The kernel as it runs: every run ends, the arguments are unchanged, every counter is zero (`KF.frame`). -/
theorem frame_kernel : Cert.quiescent_Kernel := fun m g _ => Cert.Proof.KF.frame m g

/-- The same of the idealized kernel (`KI.frame`). -/
theorem frame_ideal : Cert.quiescent_KernelIdeal := fun m g _ => Cert.Proof.KI.frame m g

/-- The same of the reference: its generated run read at the arguments; it declares no semaphore. -/
theorem frame_reference : Cert.quiescent_ReferenceIdeal := fun m g _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m g)

/-- The two constants the idealized kernel names. -/
theorem named : Cert.preserves_Kernel_KernelIdeal :=
  ⟨IdealRules.named_const.statement Cert.KernelIdeal.κ "log2e" .f32 0xBFB8AA3B#32 _ rfl,
    IdealRules.named_const.statement Cert.KernelIdeal.κ "exit" .f32 0xC2D00000#32 _ rfl⟩

/-- The second call as it runs: its generated frame. -/
theorem frame_kernel2 : Cert.quiescent_Kernel2 := fun m g _ => Cert.Kernel2.Gen.frame m g

/-- The same of its idealization. -/
theorem frame_ideal2 : Cert.quiescent_Kernel2Ideal := fun m g _ => Cert.Kernel2Ideal.Gen.frame m g

/-- The same of the second reference, as of the first. -/
theorem frame_reference2 : Cert.quiescent_Reference2Ideal := fun m g _ =>
  (θ_run Cert.Reference2Ideal.defs _ _).mono (fun r h => ⟨fun c => (h c).2,
      Idealize.ShloMosaic.sem_eq_zero_of_no_sems (by decide) r.2⟩)
    (Cert.Reference2Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Proof.RV.facts_pre, Cert.Proof.P2.facts_u,
  frame_kernel, frame_ideal, fun m g _ => Cert.Proof.KI.frame m g, frame_reference, fun m g _ => frame_reference m g trivial,
  frame_kernel2, frame_ideal2, fun m g _ => Cert.Kernel2Ideal.Gen.frame m g, frame_reference2, fun m g _ => frame_reference2 m g trivial,
  named, Cert.Proof.RV.algebraic, trivial, Cert.Proof.P2.algebraic⟩

end Cert.Proof

end
